-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v56) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v29_0)) (v1 : (c : Dev Cert.ProjIdeal.nD) → Buf (Elt Ideal) ((c.tc : Thread Cert.ProjIdeal.nD Cert.ProjIdeal.τ).loc Cert.ProjIdeal.main_v29_1)) (v2 : (c : Dev Cert.ProjIdeal.nD) → Buf (Elt Ideal) ((c.tc : Thread Cert.ProjIdeal.nD Cert.ProjIdeal.τ).loc Cert.ProjIdeal.main_v29_2)) (v3 : (c : Dev Cert.ProjIdeal.nD) → Buf (Elt Ideal) ((c.tc : Thread Cert.ProjIdeal.nD Cert.ProjIdeal.τ).loc Cert.ProjIdeal.main_v29_3)) (v4 : (c : Dev Cert.ProjIdeal.nD) → Buf (Elt Ideal) ((c.tc : Thread Cert.ProjIdeal.nD Cert.ProjIdeal.τ).loc Cert.ProjIdeal.main_v29_4)) (v5 : (c : Dev Cert.ProjIdeal.nD) → Buf (Elt Ideal) ((c.tc : Thread Cert.ProjIdeal.nD Cert.ProjIdeal.τ).loc Cert.ProjIdeal.main_v29_5)) (v6 : (c : Dev Cert.ProjIdeal.nD) → Buf (Elt Ideal) ((c.tc : Thread Cert.ProjIdeal.nD Cert.ProjIdeal.τ).loc Cert.ProjIdeal.main_v29_6)) (v7 : (c : Dev Cert.ProjIdeal.nD) → Buf (Elt Ideal) ((c.tc : Thread Cert.ProjIdeal.nD Cert.ProjIdeal.τ).loc Cert.ProjIdeal.main_v29_7)) (v8 : (c : Dev Cert.ProjIdeal.nD) → Buf (Elt Ideal) ((c.tc : Thread Cert.ProjIdeal.nD Cert.ProjIdeal.τ).loc Cert.ProjIdeal.main_v29_8)) (v9 : (c : Dev Cert.ProjIdeal.nD) → Buf (Elt Ideal) ((c.tc : Thread Cert.ProjIdeal.nD Cert.ProjIdeal.τ).loc Cert.ProjIdeal.main_v29_9)) (v10 : (c : Dev Cert.ProjIdeal.nD) → Buf (Elt Ideal) ((c.tc : Thread Cert.ProjIdeal.nD Cert.ProjIdeal.τ).loc Cert.ProjIdeal.main_v29_10)) (v11 : (c : Dev Cert.ProjIdeal.nD) → Buf (Elt Ideal) ((c.tc : Thread Cert.ProjIdeal.nD Cert.ProjIdeal.τ).loc Cert.ProjIdeal.main_v29_11)) (v12 : (c : Dev Cert.ProjIdeal.nD) → Buf (Elt Ideal) ((c.tc : Thread Cert.ProjIdeal.nD Cert.ProjIdeal.τ).loc Cert.ProjIdeal.main_v29_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29_0) = v0 c
          ∧ r.2.mem ((c.tc : Thread Cert.ProjIdeal.nD Cert.ProjIdeal.τ).loc Cert.ProjIdeal.main_v29_1) = v1 c
          ∧ r.2.mem ((c.tc : Thread Cert.ProjIdeal.nD Cert.ProjIdeal.τ).loc Cert.ProjIdeal.main_v29_2) = v2 c
          ∧ r.2.mem ((c.tc : Thread Cert.ProjIdeal.nD Cert.ProjIdeal.τ).loc Cert.ProjIdeal.main_v29_3) = v3 c
          ∧ r.2.mem ((c.tc : Thread Cert.ProjIdeal.nD Cert.ProjIdeal.τ).loc Cert.ProjIdeal.main_v29_4) = v4 c
          ∧ r.2.mem ((c.tc : Thread Cert.ProjIdeal.nD Cert.ProjIdeal.τ).loc Cert.ProjIdeal.main_v29_5) = v5 c
          ∧ r.2.mem ((c.tc : Thread Cert.ProjIdeal.nD Cert.ProjIdeal.τ).loc Cert.ProjIdeal.main_v29_6) = v6 c
          ∧ r.2.mem ((c.tc : Thread Cert.ProjIdeal.nD Cert.ProjIdeal.τ).loc Cert.ProjIdeal.main_v29_7) = v7 c
          ∧ r.2.mem ((c.tc : Thread Cert.ProjIdeal.nD Cert.ProjIdeal.τ).loc Cert.ProjIdeal.main_v29_8) = v8 c
          ∧ r.2.mem ((c.tc : Thread Cert.ProjIdeal.nD Cert.ProjIdeal.τ).loc Cert.ProjIdeal.main_v29_9) = v9 c
          ∧ r.2.mem ((c.tc : Thread Cert.ProjIdeal.nD Cert.ProjIdeal.τ).loc Cert.ProjIdeal.main_v29_10) = v10 c
          ∧ r.2.mem ((c.tc : Thread Cert.ProjIdeal.nD Cert.ProjIdeal.τ).loc Cert.ProjIdeal.main_v29_11) = v11 c
          ∧ r.2.mem ((c.tc : Thread Cert.ProjIdeal.nD Cert.ProjIdeal.τ).loc Cert.ProjIdeal.main_v29_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v221) = v0 c
          ∧ r.2.mem ((c.tc : Thread Cert.ProjReferenceIdeal.nD Cert.ProjReferenceIdeal.τ).loc Cert.ProjReferenceIdeal.main_v222) = v1 c
          ∧ r.2.mem ((c.tc : Thread Cert.ProjReferenceIdeal.nD Cert.ProjReferenceIdeal.τ).loc Cert.ProjReferenceIdeal.main_v223) = v2 c
          ∧ r.2.mem ((c.tc : Thread Cert.ProjReferenceIdeal.nD Cert.ProjReferenceIdeal.τ).loc Cert.ProjReferenceIdeal.main_v224) = v3 c
          ∧ r.2.mem ((c.tc : Thread Cert.ProjReferenceIdeal.nD Cert.ProjReferenceIdeal.τ).loc Cert.ProjReferenceIdeal.main_v225) = v4 c
          ∧ r.2.mem ((c.tc : Thread Cert.ProjReferenceIdeal.nD Cert.ProjReferenceIdeal.τ).loc Cert.ProjReferenceIdeal.main_v226) = v5 c
          ∧ r.2.mem ((c.tc : Thread Cert.ProjReferenceIdeal.nD Cert.ProjReferenceIdeal.τ).loc Cert.ProjReferenceIdeal.main_v227) = v6 c
          ∧ r.2.mem ((c.tc : Thread Cert.ProjReferenceIdeal.nD Cert.ProjReferenceIdeal.τ).loc Cert.ProjReferenceIdeal.main_v228) = v7 c
          ∧ r.2.mem ((c.tc : Thread Cert.ProjReferenceIdeal.nD Cert.ProjReferenceIdeal.τ).loc Cert.ProjReferenceIdeal.main_v229) = v8 c
          ∧ r.2.mem ((c.tc : Thread Cert.ProjReferenceIdeal.nD Cert.ProjReferenceIdeal.τ).loc Cert.ProjReferenceIdeal.main_v230) = v9 c
          ∧ r.2.mem ((c.tc : Thread Cert.ProjReferenceIdeal.nD Cert.ProjReferenceIdeal.τ).loc Cert.ProjReferenceIdeal.main_v231) = v10 c
          ∧ r.2.mem ((c.tc : Thread Cert.ProjReferenceIdeal.nD Cert.ProjReferenceIdeal.τ).loc Cert.ProjReferenceIdeal.main_v232) = v11 c
          ∧ r.2.mem ((c.tc : Thread Cert.ProjReferenceIdeal.nD Cert.ProjReferenceIdeal.τ).loc Cert.ProjReferenceIdeal.main_v233) = v12 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
-- ==== Pre_finite_inputs.lean ====
abbrev S4x64 : Shape := ⟨2, ![4, 64]⟩
abbrev S128x1 : Shape := ⟨2, ![128, 1]⟩
abbrev S8x4096x1024 : Shape := ⟨3, ![8, 4096, 1024]⟩
abbrev S_ : Shape := ⟨0, ![]⟩

class Facts : Prop where
  bcast_S_S4x64 : S_.BroadcastsInDim S4x64 (![] : Fin 0 → Fin S4x64.rank)
  reducesTo_S4x64_S_d0_1 : S4x64.ReducesTo [0, 1] S_
  h_S_ : 0 < S_.numel
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v3 : IVec S_ 1) (main_v8 : IVec S_ 1) (main_v13 : IVec S_ 1) (main_v15 : FVec F S8x4096x1024 .f32) (main_v16 : FVec F S8x4096x1024 .f32) : IVec S_ 1 × IVec S_ 1 × IVec S_ 1 × IVec S_ 1 :=
  let main_v17 : IVec S8x4096x1024 1 := cmpf .olt main_v15 main_v16
  let main_c_5 : IVec S_ 1 := constantI S_ 1 1#1
  let main_v18 : IVec S_ 1 := (fun x v => Host.reduce IntOp.andi x v reducesTo_S8x4096x1024_S_d0_1_2 h_S_) main_v17 main_c_5
  (main_v3, main_v8, main_v13, main_v18)

def fn {F : FTy → Type} [FloatOps F] (main_arg0 : FVec F S4x64 .f32) (main_arg1 : FVec F S128x1 .f32) (main_arg2 : FVec F S8x4096x1024 .bf16) (main_arg3 : FVec F S8x4096x1024 .bf16) (main_arg4 : FVec F S8x4096x1024 .bf16) : IVec S_ 1 × IVec S_ 1 × IVec S_ 1 × IVec S_ 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_c : IVec S_ 1 := constantI S_ 1 1#1
  let main_v3 : IVec S_ 1 := (fun x v => Host.reduce IntOp.andi x v reducesTo_S4x64_S_d0_1 h_S_) main_v2 main_c
  let main_v4 : FVec F S8x4096x1024 .f32 := (extf .f32 · bitsLt_bf16_f32) main_arg2
  let main_v5 : FVec F S8x4096x1024 .f32 := Host.absf main_v4
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  let main_c_1 : IVec S_ 1 := constantI S_ 1 1#1
  let main_v8 : IVec S_ 1 := (fun x v => Host.reduce IntOp.andi x v reducesTo_S8x4096x1024_S_d0_1_2 h_S_) main_v7 main_c_1
  let main_v9 : FVec F S8x4096x1024 .f32 := (extf .f32 · bitsLt_bf16_f32) main_arg3
  let main_v10 : FVec F S8x4096x1024 .f32 := Host.absf main_v9
  let main_cst_2 : FVec F S_ .f32 := constant S_ .f32 0x7F800000#32
  let main_v11 : FVec F S8x4096x1024 .f32 := broadcastInDim S8x4096x1024 ![] bcast_S_S8x4096x1024 main_cst_2
  let main_v12 : IVec S8x4096x1024 1 := cmpf .olt main_v10 main_v11
  let main_c_3 : IVec S_ 1 := constantI S_ 1 1#1
  let main_v13 : IVec S_ 1 := (fun x v => Host.reduce IntOp.andi x v reducesTo_S8x4096x1024_S_d0_1_2 h_S_) main_v12 main_c_3
  let main_v14 : FVec F S8x4096x1024 .f32 := (extf .f32 · bitsLt_bf16_f32) main_arg4
  let main_v15 : FVec F S8x4096x1024 .f32 := Host.absf main_v14
  let main_cst_4 : FVec F S_ .f32 := constant S_ .f32 0x7F800000#32
  let main_v16 : FVec F S8x4096x1024 .f32 := broadcastInDim S8x4096x1024 ![] bcast_S_S8x4096x1024 main_cst_4
  fn_part1 (F := F) main_v3 main_v8 main_v13 main_v15 main_v16
-- ==== Kernel.lean ====
abbrev S4x64 : Shape := ⟨2, ![4, 64]⟩
abbrev S128x1 : Shape := ⟨2, ![128, 1]⟩
abbrev S8x4096x1024 : Shape := ⟨3, ![8, 4096, 1024]⟩
abbrev S1x512x128 : Shape := ⟨3, ![1, 512, 128]⟩
abbrev S1x4096x128 : Shape := ⟨3, ![1, 4096, 128]⟩
abbrev S4096x512 : Shape := ⟨2, ![4096, 512]⟩
abbrev S8x512 : Shape := ⟨2, ![8, 512]⟩
abbrev S144x512 : Shape := ⟨2, ![144, 512]⟩
abbrev S144x4096 : Shape := ⟨2, ![144, 4096]⟩
abbrev S4096x128 : Shape := ⟨2, ![4096, 128]⟩
abbrev S128x4096 : Shape := ⟨2, ![128, 4096]⟩
abbrev S16x4096 : Shape := ⟨2, ![16, 4096]⟩
abbrev S1x256x128 : Shape := ⟨3, ![1, 256, 128]⟩
abbrev S256x128 : Shape := ⟨2, ![256, 128]⟩
abbrev S512x128 : Shape := ⟨2, ![512, 128]⟩
abbrev S1x512 : Shape := ⟨2, ![1, 512]⟩
abbrev S512x512 : Shape := ⟨2, ![512, 512]⟩
abbrev S512 : Shape := ⟨1, ![512]⟩
abbrev S128x512 : Shape := ⟨2, ![128, 512]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S256 : Shape := ⟨1, ![256]⟩
abbrev S1x256 : Shape := ⟨2, ![1, 256]⟩

abbrev nBuf : Space → Nat
  | .hbm => 6
  | .vmem => 17
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .bf16⟩
  | .local _ .vmem, ⟨0, _⟩ => ⟨S4x64, .f32⟩
  | .local _ .vmem, ⟨1, _⟩ => ⟨S128x1, .f32⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x512x128, .bf16⟩
  | .local _ .vmem, ⟨9, _⟩ => ⟨S1x512x128, .bf16⟩
  | .local _ .vmem, ⟨10, _⟩ => ⟨S4096x512, .f32⟩
  | .local _ .vmem, ⟨11, _⟩ => ⟨S4096x512, .f32⟩
  | .local _ .vmem, ⟨12, _⟩ => ⟨S8x512, .f32⟩
  | .local _ .vmem, ⟨13, _⟩ => ⟨S8x512, .f32⟩
  | .local _ .vmem, ⟨14, _⟩ => ⟨S144x512, .f32⟩
  | .local _ .vmem, ⟨15, _⟩ => ⟨S144x512, .f32⟩
  | .local _ .vmem, ⟨16, _⟩ => ⟨S144x4096, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![513], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c511_i32 : BitVec 32 := 511#32
  let v0 : BitVec 32 := Scalar.maxsi c0_i32 arg0
  let v1 : BitVec 32 := Scalar.minsi c511_i32 v0
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v1 c8_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v1 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32_11 : BitVec 32 := 8#32
  let c0_i32_12 : BitVec 32 := 0#32
  let v36 : BitVec 1 := Scalar.cmpi .eq c8_i32_11 c0_i32_12
  let c1_i32_13 : BitVec 32 := 1#32
  let v37 : BitVec 32 := Scalar.select v36 c1_i32_13 c8_i32_11
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c8_i32_17 : BitVec 32 := 8#32
  let c0_i32_18 : BitVec 32 := 0#32
  let v46 : BitVec 1 := Scalar.cmpi .eq c8_i32_17 c0_i32_18
  let c1_i32_19 : BitVec 32 := 1#32
  let v47 : BitVec 32 := Scalar.select v46 c1_i32_19 c8_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

def cc0_transform_3 (i : grid0.Coords) : Fin 3 → Nat :=
  let arg0 : BitVec 32 := BitVec.ofNat 32 (i 0).val
  let c0_i32 : BitVec 32 := 0#32
  let c511_i32 : BitVec 32 := 511#32
  let v0 : BitVec 32 := Scalar.maxsi c0_i32 arg0
  let v1 : BitVec 32 := Scalar.minsi c511_i32 v0
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v1 c8_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v1 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32_11 : BitVec 32 := 8#32
  let c0_i32_12 : BitVec 32 := 0#32
  let v36 : BitVec 1 := Scalar.cmpi .eq c8_i32_11 c0_i32_12
  let c1_i32_13 : BitVec 32 := 1#32
  let v37 : BitVec 32 := Scalar.select v36 c1_i32_13 c8_i32_11
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c8_i32_17 : BitVec 32 := 8#32
  let c0_i32_18 : BitVec 32 := 0#32
  let v46 : BitVec 1 := Scalar.cmpi .eq c8_i32_17 c0_i32_18
  let c1_i32_19 : BitVec 32 := 1#32
  let v47 : BitVec 32 := Scalar.select v46 c1_i32_19 c8_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, c0_i32_23.toNat, v45.toNat]

def cc0_transform_4 (i : grid0.Coords) : Fin 3 → Nat :=
  let arg0 : BitVec 32 := BitVec.ofNat 32 (i 0).val
  let c0_i32 : BitVec 32 := 0#32
  let c511_i32 : BitVec 32 := 511#32
  let v0 : BitVec 32 := Scalar.maxsi c0_i32 arg0
  let v1 : BitVec 32 := Scalar.minsi c511_i32 v0
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v1 c8_i32
  let c0_i32_5 : BitVec 32 := 0#32
  let v20 : BitVec 1 := Scalar.cmpi .sgt v1 c0_i32_5
  let v21 : BitVec 32 := Scalar.extui v20
  let c0_i32_6 : BitVec 32 := 0#32
  let v22 : BitVec 1 := Scalar.cmpi .slt v1 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v1 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c8_i32_11 : BitVec 32 := 8#32
  let c0_i32_12 : BitVec 32 := 0#32
  let v36 : BitVec 1 := Scalar.cmpi .eq c8_i32_11 c0_i32_12
  let c1_i32_13 : BitVec 32 := 1#32
  let v37 : BitVec 32 := Scalar.select v36 c1_i32_13 c8_i32_11
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c8_i32_17 : BitVec 32 := 8#32
  let c0_i32_18 : BitVec 32 := 0#32
  let v46 : BitVec 1 := Scalar.cmpi .eq c8_i32_17 c0_i32_18
  let c1_i32_19 : BitVec 32 := 1#32
  let v47 : BitVec 32 := Scalar.select v46 c1_i32_19 c8_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, c0_i32_23.toNat, v45.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c511_i32 : BitVec 32 := 511#32
  let v1 : BitVec 32 := Scalar.maxsi c0_i32 v0
  let v2 : BitVec 32 := Scalar.minsi c511_i32 v1
  let c64_i32 : BitVec 32 := 64#32
  let v3 : BitVec 32 := Scalar.divsi v2 c64_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c64_i32 c0_i32_2
  let v10 : BitVec 32 := Scalar.extui v9
  let c0_i32_3 : BitVec 32 := 0#32
  let v11 : BitVec 1 := Scalar.cmpi .slt c64_i32 c0_i32_3
  let v12 : BitVec 32 := Scalar.extui v11
  let v13 : BitVec 32 := Scalar.subi v10 v12
  let v14 : BitVec 1 := Scalar.cmpi .ne v8 v13
  let v15 : BitVec 32 := Scalar.remsi v2 c64_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let v20 : BitVec 32 := Scalar.divsi v2 c8_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c8_i32 c0_i32_8
  let v27 : BitVec 32 := Scalar.extui v26
  let c0_i32_9 : BitVec 32 := 0#32
  let v28 : BitVec 1 := Scalar.cmpi .slt c8_i32 c0_i32_9
  let v29 : BitVec 32 := Scalar.extui v28
  let v30 : BitVec 32 := Scalar.subi v27 v29
  let v31 : BitVec 1 := Scalar.cmpi .ne v25 v30
  let v32 : BitVec 32 := Scalar.remsi v2 c8_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32_12 : BitVec 32 := 8#32
  let c0_i32_13 : BitVec 32 := 0#32
  let v37 : BitVec 1 := Scalar.cmpi .eq c8_i32_12 c0_i32_13
  let c1_i32_14 : BitVec 32 := 1#32
  let v38 : BitVec 32 := Scalar.select v37 c1_i32_14 c8_i32_12
  let v39 : BitVec 32 := Scalar.remsi v36 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c8_i32_18 : BitVec 32 := 8#32
  let c0_i32_19 : BitVec 32 := 0#32
  let v47 : BitVec 1 := Scalar.cmpi .eq c8_i32_18 c0_i32_19
  let c1_i32_20 : BitVec 32 := 1#32
  let v48 : BitVec 32 := Scalar.select v47 c1_i32_20 c8_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c0_i32_24 : BitVec 32 := 0#32
  ![v19.toNat, v56.toNat, v46.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x64 : Shape := ⟨2, ![4, 64]⟩
abbrev S128x1 : Shape := ⟨2, ![128, 1]⟩
abbrev S8x4096x1024 : Shape := ⟨3, ![8, 4096, 1024]⟩
abbrev S_ : Shape := ⟨0, ![]⟩
abbrev S8x4096x8x2x64 : Shape := ⟨5, ![8, 4096, 8, 2, 64]⟩
abbrev S8x4096x8x128 : Shape := ⟨4, ![8, 4096, 8, 128]⟩
abbrev S1x64 : Shape := ⟨2, ![1, 64]⟩
abbrev S64 : Shape := ⟨1, ![64]⟩
abbrev S8x8x2x4096x4096 : Shape := ⟨5, ![8, 8, 2, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x8x2x64, .f32⟩
  | .hbm, ⟨13, _⟩ => ⟨S8x4096x1024, .f32⟩
  | .hbm, ⟨14, _⟩ => ⟨S8x4096x8x2x64, .f32⟩
  | .hbm, ⟨15, _⟩ => ⟨S8x4096x1024, .f32⟩
  | .hbm, ⟨16, _⟩ => ⟨S8x4096x8x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8x2x4096x4096, .f32⟩
  | .hbm, ⟨37, _⟩ => ⟨S_, .f32⟩
  | .hbm, ⟨38, _⟩ => ⟨S8x8x2x4096x4096, .f32⟩
  | .hbm, ⟨39, _⟩ => ⟨S8x8x2x4096x4096, .f32⟩
  | .hbm, ⟨40, _⟩ => ⟨S_, .f32⟩
  | .hbm, ⟨41, _⟩ => ⟨S8x8x2x4096, .f32⟩
  | .hbm, ⟨42, _⟩ => ⟨S_, .f32⟩
  | .hbm, ⟨43, _⟩ => ⟨S8x8x2x4096, .f32⟩
  | .hbm, ⟨44, _⟩ => ⟨S8x8x2x4096, .f32⟩
  | .hbm, ⟨45, _⟩ => ⟨S8x8x2x4096x1, .f32⟩
  | .hbm, ⟨46, _⟩ => ⟨S8x8x2x4096x4096, .f32⟩
  | .hbm, ⟨47, _⟩ => ⟨S8x8x2x4096x4096, .f32⟩
  | .hbm, ⟨48, _⟩ => ⟨S8x8x2x4096x4096, .f32⟩
  | .hbm, ⟨49, _⟩ => ⟨S_, .f32⟩
  | .hbm, ⟨50, _⟩ => ⟨S8x8x2x4096, .f32⟩
  | .hbm, ⟨51, _⟩ => ⟨S8x8x2x4096x1, .f32⟩
  | .hbm, ⟨52, _⟩ => ⟨S8x8x2x4096x4096, .f32⟩
  | .hbm, ⟨53, _⟩ => ⟨S8x8x2x4096x4096, .f32⟩
  | .hbm, ⟨54, _⟩ => ⟨S8x8x1x4096x4096, .f32⟩
  | .hbm, ⟨55, _⟩ => ⟨S8x8x4096x4096, .f32⟩
  | .hbm, ⟨56, _⟩ => ⟨S8x8x1x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x128x4096, .f32⟩
  | .hbm, ⟨62, _⟩ => ⟨S8x4096x8x128, .f32⟩
  | .hbm, ⟨63, _⟩ => ⟨S128, .f32⟩
  | .hbm, ⟨64, _⟩ => ⟨S8x4096x8x128, .f32⟩
  | .hbm, ⟨65, _⟩ => ⟨S_, .f32⟩
  | .hbm, ⟨66, _⟩ => ⟨S8x4096x8, .f32⟩
  | .hbm, ⟨67, _⟩ => ⟨S8x4096x8x1, .f32⟩
  | .hbm, ⟨68, _⟩ => ⟨S_, .f32⟩
  | .hbm, ⟨69, _⟩ => ⟨S8x4096x8x1, .f32⟩
  | .hbm, ⟨70, _⟩ => ⟨S8x4096x8x1, .f32⟩
  | .hbm, ⟨71, _⟩ => ⟨S_, .f32⟩
  | .hbm, ⟨72, _⟩ => ⟨S8x4096x8x1, .f32⟩
  | .hbm, ⟨73, _⟩ => ⟨S8x4096x8x1, .f32⟩
  | .hbm, ⟨74, _⟩ => ⟨S8x4096x8x1, .f32⟩
  | .hbm, ⟨75, _⟩ => ⟨S8x4096x8x128, .f32⟩
  | .hbm, ⟨76, _⟩ => ⟨S8x4096x8x128, .f32⟩
  | .hbm, ⟨77, _⟩ => ⟨S1x1x1x128, .f32⟩
  | .hbm, ⟨78, _⟩ => ⟨S8x4096x8x128, .f32⟩
  | .hbm, ⟨79, _⟩ => ⟨S8x4096x8x128, .f32⟩
  | .hbm, ⟨80, _⟩ => ⟨S_, .f32⟩
  | .hbm, ⟨81, _⟩ => ⟨S8x4096x8x128, .f32⟩
  | .hbm, ⟨82, _⟩ => ⟨S8x4096x8x128, .f32⟩
  | .hbm, ⟨83, _⟩ => ⟨S8x4096x1024, .f32⟩
  | .hbm, ⟨84, _⟩ => ⟨S8x4096x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Tail.lean ====
abbrev S32768x1024 : Shape := ⟨2, ![32768, 1024]⟩
abbrev S8x1x6144 : Shape := ⟨3, ![8, 1, 6144]⟩
abbrev S32768x256 : Shape := ⟨2, ![32768, 256]⟩
abbrev S32768x2048 : Shape := ⟨2, ![32768, 2048]⟩
abbrev S1024x1024 : Shape := ⟨2, ![1024, 1024]⟩
abbrev S256x1024 : Shape := ⟨2, ![256, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S1x1x6144 : Shape := ⟨3, ![1, 1, 6144]⟩
abbrev S512x256 : Shape := ⟨2, ![512, 256]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S512x4096 : Shape := ⟨2, ![512, 4096]⟩

abbrev nBuf : Space → Nat
  | .hbm => 12
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S8x1x6144, .f32⟩
  | .hbm, ⟨2, _⟩ => ⟨S32768x1024, .bf16⟩
  | .hbm, ⟨3, _⟩ => ⟨S32768x256, .bf16⟩
  | .hbm, ⟨4, _⟩ => ⟨S32768x2048, .bf16⟩
  | .hbm, ⟨5, _⟩ => ⟨S1024x1024, .bf16⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x2048, .bf16⟩
  | .local _ .vmem, ⟨9, _⟩ => ⟨S512x2048, .bf16⟩
  | .local _ .vmem, ⟨10, _⟩ => ⟨S1024x1024, .bf16⟩
  | .local _ .vmem, ⟨11, _⟩ => ⟨S256x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailReferenceIdeal.lean ====
abbrev S32768x1024 : Shape := ⟨2, ![32768, 1024]⟩
abbrev S8x1x6144 : Shape := ⟨3, ![8, 1, 6144]⟩
abbrev S32768x256 : Shape := ⟨2, ![32768, 256]⟩
abbrev S32768x2048 : Shape := ⟨2, ![32768, 2048]⟩
abbrev S1024x1024 : Shape := ⟨2, ![1024, 1024]⟩
abbrev S256x1024 : Shape := ⟨2, ![256, 1024]⟩
abbrev S1x1024 : Shape := ⟨2, ![1, 1024]⟩
abbrev S1024x4096 : Shape := ⟨2, ![1024, 4096]⟩
abbrev S4096x1024 : Shape := ⟨2, ![4096, 1024]⟩
abbrev S8x4096x1024 : Shape := ⟨3, ![8, 4096, 1024]⟩
abbrev S8x1x1024 : Shape := ⟨3, ![8, 1, 1024]⟩
abbrev S8x4096x256 : Shape := ⟨3, ![8, 4096, 256]⟩
abbrev S8x4096x2048 : Shape := ⟨3, ![8, 4096, 2048]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1x6144, .f32⟩
  | .hbm, ⟨2, _⟩ => ⟨S32768x1024, .bf16⟩
  | .hbm, ⟨3, _⟩ => ⟨S32768x256, .bf16⟩
  | .hbm, ⟨4, _⟩ => ⟨S32768x2048, .bf16⟩
  | .hbm, ⟨5, _⟩ => ⟨S1024x1024, .bf16⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S8x4096x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S32768x1024, .f32⟩
  | .hbm, ⟨19, _⟩ => ⟨S8x4096x1024, .f32⟩
  | .hbm, ⟨20, _⟩ => ⟨S32768x256, .f32⟩
  | .hbm, ⟨21, _⟩ => ⟨S8x4096x256, .f32⟩
  | .hbm, ⟨22, _⟩ => ⟨S32768x2048, .f32⟩
  | .hbm, ⟨23, _⟩ => ⟨S8x4096x2048, .f32⟩
  | .hbm, ⟨24, _⟩ => ⟨S8x4096x1024, .f32⟩
  | .hbm, ⟨25, _⟩ => ⟨S8x4096x1024, .f32⟩
  | .hbm, ⟨26, _⟩ => ⟨S1024x1024, .f32⟩
  | .hbm, ⟨27, _⟩ => ⟨S256x1024, .f32⟩
  | .hbm, ⟨28, _⟩ => ⟨S1024x1024, .f32⟩
  | .hbm, ⟨29, _⟩ => ⟨S1024x4096, .f32⟩
  | .hbm, ⟨30, _⟩ => ⟨S4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1, .f32⟩
  | .hbm, ⟨52, _⟩ => ⟨S8x4096x1024, .f32⟩
  | .hbm, ⟨53, _⟩ => ⟨S8x4096x1024, .f32⟩
  | .hbm, ⟨54, _⟩ => ⟨S1x1x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x1x1024, .f32⟩
  | .hbm, ⟨59, _⟩ => ⟨S8x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x4096, .f32⟩
  | .hbm, ⟨65, _⟩ => ⟨S_, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_cst : Ref sig .tc := ⟨.hbm, 65, rfl⟩
abbrev main_call0_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Proj.lean ====
abbrev S32768x1024 : Shape := ⟨2, ![32768, 1024]⟩
abbrev S8x1x6144 : Shape := ⟨3, ![8, 1, 6144]⟩
abbrev S1x1024 : Shape := ⟨2, ![1, 1024]⟩
abbrev S1024x7424 : Shape := ⟨2, ![1024, 7424]⟩
abbrev S32768x8 : Shape := ⟨2, ![32768, 8]⟩
abbrev S2x64 : Shape := ⟨2, ![2, 64]⟩
abbrev S1x2048 : Shape := ⟨2, ![1, 2048]⟩
abbrev S_ : Shape := ⟨0, ![]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S1x2x1x64 : Shape := ⟨4, ![1, 2, 1, 64]⟩
abbrev S1x2x2x64 : Shape := ⟨4, ![1, 2, 2, 64]⟩
abbrev S2x128 : Shape := ⟨2, ![2, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x4096x256 : Shape := ⟨4, ![8, 1, 4096, 256]⟩
abbrev S8x4x1024x256 : Shape := ⟨4, ![8, 4, 1024, 256]⟩
abbrev S8x16x256x256 : Shape := ⟨4, ![8, 16, 256, 256]⟩
abbrev S32768x2048 : Shape := ⟨2, ![32768, 2048]⟩
abbrev S512x1024 : Shape := ⟨2, ![512, 1024]⟩
abbrev S1x1x6144 : Shape := ⟨3, ![1, 1, 6144]⟩
abbrev S512x128 : Shape := ⟨2, ![512, 128]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S512x2048 : Shape := ⟨2, ![512, 2048]⟩
abbrev S2x512x128 : Shape := ⟨3, ![2, 512, 128]⟩
abbrev S512 : Shape := ⟨1, ![512]⟩
abbrev S512x1 : Shape := ⟨2, ![512, 1]⟩
abbrev S1x1x1024 : Shape := ⟨3, ![1, 1, 1024]⟩
abbrev S1x128 : Shape := ⟨2, ![1, 128]⟩
abbrev S1024x256 : Shape := ⟨2, ![1024, 256]⟩
abbrev S512x256 : Shape := ⟨2, ![512, 256]⟩
abbrev S1x512x128 : Shape := ⟨3, ![1, 512, 128]⟩
abbrev S1x1x512x128 : Shape := ⟨4, ![1, 1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 71
  | .vmem => 44
  | .smem => 0
  | _ => 0

abbrev bufTy : (tb : Table) → Fin (tcTables nBuf tb) → BufTy
  | .hbm, ⟨0, _⟩ => ⟨S32768x1024, .f32⟩
  | .hbm, ⟨1, _⟩ => ⟨S8x1x6144, .f32⟩
  | .hbm, ⟨2, _⟩ => ⟨S1x1024, .f32⟩
  | .hbm, ⟨3, _⟩ => ⟨S1024x7424, .bf16⟩
  | .hbm, ⟨4, _⟩ => ⟨S32768x8, .f32⟩
  | .hbm, ⟨5, _⟩ => ⟨S32768x8, .f32⟩
  | .hbm, ⟨6, _⟩ => ⟨S2x64, .f32⟩
  | .hbm, ⟨7, _⟩ => ⟨S2x64, .f32⟩
  | .hbm, ⟨8, _⟩ => ⟨S1x2048, .f32⟩
  | .hbm, ⟨9, _⟩ => ⟨S_, .f32⟩
  | .hbm, ⟨10, _⟩ => ⟨S32768x48, .f32⟩
  | .hbm, ⟨11, _⟩ => ⟨S_, .f32⟩
  | .hbm, ⟨12, _⟩ => ⟨S32768x48, .f32⟩
  | .hbm, ⟨13, _⟩ => ⟨S_, .f32⟩
  | .hbm, ⟨14, _⟩ => ⟨S32768x8, .f32⟩
  | .hbm, ⟨15, _⟩ => ⟨S32768x64, .f32⟩
  | .hbm, ⟨16, _⟩ => ⟨S32768x64, .f32⟩
  | .hbm, ⟨17, _⟩ => ⟨S32768x64, .f32⟩
  | .hbm, ⟨18, _⟩ => ⟨S1x32768x1x64, .f32⟩
  | .hbm, ⟨19, _⟩ => ⟨S1x32768x2x64, .f32⟩
  | .hbm, ⟨20, _⟩ => ⟨S32768x128, .f32⟩
  | .hbm, ⟨21, _⟩ => ⟨S1x32768x1x64, .f32⟩
  | .hbm, ⟨22, _⟩ => ⟨S1x32768x2x64, .f32⟩
  | .hbm, ⟨23, _⟩ => ⟨S32768x128, .f32⟩
  | .hbm, ⟨24, _⟩ => ⟨S1x32768x1x64, .f32⟩
  | .hbm, ⟨25, _⟩ => ⟨S1x32768x2x64, .f32⟩
  | .hbm, ⟨26, _⟩ => ⟨S32768x128, .f32⟩
  | .hbm, ⟨27, _⟩ => ⟨S1x2x1x64, .f32⟩
  | .hbm, ⟨28, _⟩ => ⟨S1x2x2x64, .f32⟩
  | .hbm, ⟨29, _⟩ => ⟨S2x128, .f32⟩
  | .hbm, ⟨30, _⟩ => ⟨S1x2x1x64, .f32⟩
  | .hbm, ⟨31, _⟩ => ⟨S1x2x2x64, .f32⟩
  | .hbm, ⟨32, _⟩ => ⟨S2x128, .f32⟩
  | .hbm, ⟨33, _⟩ => ⟨S256, .i32⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i1⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .bf16⟩
  | .hbm, ⟨58, _⟩ => ⟨S32768x1024, .bf16⟩
  | .hbm, ⟨59, _⟩ => ⟨S32768x1024, .bf16⟩
  | .hbm, ⟨60, _⟩ => ⟨S32768x1024, .bf16⟩
  | .hbm, ⟨61, _⟩ => ⟨S8x1x4096x256, .bf16⟩
  | .hbm, ⟨62, _⟩ => ⟨S8x4x1024x256, .bf16⟩
  | .hbm, ⟨63, _⟩ => ⟨S8x16x256x256, .bf16⟩
  | .hbm, ⟨64, _⟩ => ⟨S8x1x4096x256, .bf16⟩
  | .hbm, ⟨65, _⟩ => ⟨S8x4x1024x256, .bf16⟩
  | .hbm, ⟨66, _⟩ => ⟨S8x16x256x256, .bf16⟩
  | .hbm, ⟨67, _⟩ => ⟨S8x1x4096x256, .bf16⟩
  | .hbm, ⟨68, _⟩ => ⟨S8x4x1024x256, .bf16⟩
  | .hbm, ⟨69, _⟩ => ⟨S8x16x256x256, .bf16⟩
  | .hbm, ⟨70, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x7424, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S2x128, .f32⟩
  | .local _ .vmem, ⟨13, _⟩ => ⟨S2x128, .f32⟩
  | .local _ .vmem, ⟨14, _⟩ => ⟨S1x2048, .f32⟩
  | .local _ .vmem, ⟨15, _⟩ => ⟨S256x256, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x1x512x256, .bf16⟩
  | .local _ .vmem, ⟨23, _⟩ => ⟨S1x1x512x256, .bf16⟩
  | .local _ .vmem, ⟨24, _⟩ => ⟨S1x4x128x256, .bf16⟩
  | .local _ .vmem, ⟨25, _⟩ => ⟨S1x4x128x256, .bf16⟩
  | .local _ .vmem, ⟨26, _⟩ => ⟨S1x16x32x256, .bf16⟩
  | .local _ .vmem, ⟨27, _⟩ => ⟨S1x16x32x256, .bf16⟩
  | .local _ .vmem, ⟨28, _⟩ => ⟨S1x1x512x256, .bf16⟩
  | .local _ .vmem, ⟨29, _⟩ => ⟨S1x1x512x256, .bf16⟩
  | .local _ .vmem, ⟨30, _⟩ => ⟨S1x4x128x256, .bf16⟩
  | .local _ .vmem, ⟨31, _⟩ => ⟨S1x4x128x256, .bf16⟩
  | .local _ .vmem, ⟨32, _⟩ => ⟨S1x16x32x256, .bf16⟩
  | .local _ .vmem, ⟨33, _⟩ => ⟨S1x16x32x256, .bf16⟩
  | .local _ .vmem, ⟨34, _⟩ => ⟨S1x1x512x256, .bf16⟩
  | .local _ .vmem, ⟨35, _⟩ => ⟨S1x1x512x256, .bf16⟩
  | .local _ .vmem, ⟨36, _⟩ => ⟨S1x4x128x256, .bf16⟩
  | .local _ .vmem, ⟨37, _⟩ => ⟨S1x4x128x256, .bf16⟩
  | .local _ .vmem, ⟨38, _⟩ => ⟨S1x16x32x256, .bf16⟩
  | .local _ .vmem, ⟨39, _⟩ => ⟨S1x16x32x256, .bf16⟩
  | .local _ .vmem, ⟨40, _⟩ => ⟨S512x2048, .bf16⟩
  | .local _ .vmem, ⟨41, _⟩ => ⟨S512x2048, .bf16⟩
  | .local _ .vmem, ⟨42, _⟩ => ⟨S512x1024, .bf16⟩
  | .local _ .vmem, ⟨43, _⟩ => ⟨S2x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29_0 : Ref sig .tc := ⟨.hbm, 58, rfl⟩
abbrev main_v29_1 : Ref sig .tc := ⟨.hbm, 59, rfl⟩
abbrev main_v29_2 : Ref sig .tc := ⟨.hbm, 60, rfl⟩
abbrev main_v29_3 : Ref sig .tc := ⟨.hbm, 61, rfl⟩
abbrev main_v29_4 : Ref sig .tc := ⟨.hbm, 62, rfl⟩
abbrev main_v29_5 : Ref sig .tc := ⟨.hbm, 63, rfl⟩
abbrev main_v29_6 : Ref sig .tc := ⟨.hbm, 64, rfl⟩
abbrev main_v29_7 : Ref sig .tc := ⟨.hbm, 65, rfl⟩
abbrev main_v29_8 : Ref sig .tc := ⟨.hbm, 66, rfl⟩
abbrev main_v29_9 : Ref sig .tc := ⟨.hbm, 67, rfl⟩
abbrev main_v29_10 : Ref sig .tc := ⟨.hbm, 68, rfl⟩
abbrev main_v29_11 : Ref sig .tc := ⟨.hbm, 69, rfl⟩
abbrev main_v29_12 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_22 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7424 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x32x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x32x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4x128x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x16x32x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ProjReferenceIdeal.lean ====
abbrev S32768x1024 : Shape := ⟨2, ![32768, 1024]⟩
abbrev S8x1x6144 : Shape := ⟨3, ![8, 1, 6144]⟩
abbrev S1x1024 : Shape := ⟨2, ![1, 1024]⟩
abbrev S1024x7424 : Shape := ⟨2, ![1024, 7424]⟩
abbrev S32768x8 : Shape := ⟨2, ![32768, 8]⟩
abbrev S2x64 : Shape := ⟨2, ![2, 64]⟩
abbrev S1x2048 : Shape := ⟨2, ![1, 2048]⟩
abbrev S8x4096x1024 : Shape := ⟨3, ![8, 4096, 1024]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7424 : Shape := ⟨3, ![8, 4096, 7424]⟩
abbrev S8x4096x768 : Shape := ⟨3, ![8, 4096, 768]⟩
abbrev S8x4096x2048 : Shape := ⟨3, ![8, 4096, 2048]⟩
abbrev S8x4096x8 : Shape := ⟨3, ![8, 4096, 8]⟩
abbrev S8x4096x8x2x64 : Shape := ⟨5, ![8, 4096, 8, 2, 64]⟩
abbrev S1x64 : Shape := ⟨2, ![1, 64]⟩
abbrev S64 : Shape := ⟨1, ![64]⟩
abbrev S8x4096x8x2 : Shape := ⟨4, ![8, 4096, 8, 2]⟩
abbrev S8x4096x8x2x1 : Shape := ⟨5, ![8, 4096, 8, 2, 1]⟩
abbrev S1x1x1x1x64 : Shape := ⟨5, ![1, 1, 1, 1, 64]⟩
abbrev S8x4096x1x1x8 : Shape := ⟨5, ![8, 4096, 1, 1, 8]⟩
abbrev S8x4096x8x2x8 : Shape := ⟨5, ![8, 4096, 8, 2, 8]⟩
abbrev S8x4096x8x2x48 : Shape := ⟨5, ![8, 4096, 8, 2, 48]⟩
abbrev S8x4096x3x4x64 : Shape := ⟨5, ![8, 4096, 3, 4, 64]⟩
abbrev S8x4096x3x4 : Shape := ⟨4, ![8, 4096, 3, 4]⟩
abbrev S8x4096x3x4x1 : Shape := ⟨5, ![8, 4096, 3, 4, 1]⟩
abbrev S8x4096x3x4x8 : Shape := ⟨5, ![8, 4096, 3, 4, 8]⟩
abbrev S8x4096x3x4x48 : Shape := ⟨5, ![8, 4096, 3, 4, 48]⟩
abbrev S2048 : Shape := ⟨1, ![2048]⟩
abbrev S1x1x2048 : Shape := ⟨3, ![1, 1, 2048]⟩
abbrev S8x4096x1x4x64 : Shape := ⟨5, ![8, 4096, 1, 4, 64]⟩
abbrev S8x4096x4x64 : Shape := ⟨4, ![8, 4096, 4, 64]⟩
abbrev S8x4096x1x256 : Shape := ⟨4, ![8, 4096, 1, 256]⟩
abbrev S8x1x4096x256 : Shape := ⟨4, ![8, 1, 4096, 256]⟩
abbrev S8x1024x4x256 : Shape := ⟨4, ![8, 1024, 4, 256]⟩
abbrev S8x4x1024x256 : Shape := ⟨4, ![8, 4, 1024, 256]⟩
abbrev S8x256x16x256 : Shape := ⟨4, ![8, 256, 16, 256]⟩
abbrev S8x16x256x256 : Shape := ⟨4, ![8, 16, 256, 256]⟩
abbrev S32768x2048 : Shape := ⟨2, ![32768, 2048]⟩

abbrev nBuf : Space → Nat
  | .hbm => 263
  | .vmem => 0
  | .smem => 0
  | _ => 0

abbrev hbmTy0_0 (i : Nat) : BufTy := match i % 128 with
  | 0 => ⟨S32768x1024, .f32⟩
  | 1 => ⟨S8x1x6144, .f32⟩
  | 2 => ⟨S1x1024, .f32⟩
  | 3 => ⟨S1024x7424, .bf16⟩
  | 4 => ⟨S32768x8, .f32⟩
  | 5 => ⟨S32768x8, .f32⟩
  | 6 => ⟨S2x64, .f32⟩
  | 7 => ⟨S2x64, .f32⟩
  | 8 => ⟨S1x2048, .f32⟩
  | 9 => ⟨S8x4096x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S1024x7424, .f32⟩
  | 41 => ⟨S8x4096x7424, .f32⟩
  | 42 => ⟨S8x4096x1024, .f32⟩
  | 43 => ⟨S8x4096x1024, .f32⟩
  | 44 => ⟨S8x4096x1024, .f32⟩
  | 45 => ⟨S8x4096x768, .f32⟩
  | 46 => ⟨S8x4096x768, .f32⟩
  | 47 => ⟨S8x4096x768, .f32⟩
  | 48 => ⟨S8x4096x2048, .f32⟩
  | 49 => ⟨S8x4096x8, .f32⟩
  | 50 => ⟨S8x4096x8, .f32⟩
  | 51 => ⟨S8x4096x8x2x64, .f32⟩
  | 52 => ⟨S1x64, .f32⟩
  | 53 => ⟨S64, .f32⟩
  | 54 => ⟨S8x4096x8x2x64, .f32⟩
  | 55 => ⟨S_, .f32⟩
  | 56 => ⟨S8x4096x8x2, .f32⟩
  | 57 => ⟨S8x4096x8x2x1, .f32⟩
  | 58 => ⟨S_, .f32⟩
  | 59 => ⟨S8x4096x8x2x1, .f32⟩
  | 60 => ⟨S8x4096x8x2x1, .f32⟩
  | 61 => ⟨S_, .f32⟩
  | 62 => ⟨S8x4096x8x2x1, .f32⟩
  | 63 => ⟨S8x4096x8x2x1, .f32⟩
  | 64 => ⟨S8x4096x8x2x1, .f32⟩
  | 65 => ⟨S8x4096x8x2x64, .f32⟩
  | 66 => ⟨S8x4096x8x2x64, .f32⟩
  | 67 => ⟨S1x1x1x1x64, .f32⟩
  | 68 => ⟨S8x4096x8x2x64, .f32⟩
  | 69 => ⟨S8x4096x8x2x64, .f32⟩
  | 70 => ⟨S8x4096x1x1x8, .f32⟩
  | 71 => ⟨S8x4096x1x1x8, .f32⟩
  | 72 => ⟨S8x4096x8x2x8, .f32⟩
  | 73 => ⟨S8x4096x8x2x8, .f32⟩
  | 74 => ⟨S8x4096x8x2x48, .f32⟩
  | 75 => ⟨S8x4096x8x2x8, .f32⟩
  | 76 => ⟨S8x4096x8x2x8, .f32⟩
  | 77 => ⟨S8x4096x8x2x8, .f32⟩
  | 78 => ⟨S8x4096x8x2x8, .f32⟩
  | 79 => ⟨S8x4096x8x2x8, .f32⟩
  | 80 => ⟨S8x4096x8x2x8, .f32⟩
  | 81 => ⟨S8x4096x8x2x8, .f32⟩
  | 82 => ⟨S8x4096x8x2x8, .f32⟩
  | 83 => ⟨S8x4096x8x2x8, .f32⟩
  | 84 => ⟨S8x4096x8x2x8, .f32⟩
  | 85 => ⟨S8x4096x8x2x64, .f32⟩
  | 86 => ⟨S_, .f32⟩
  | 87 => ⟨S8x4096x8x2x64, .f32⟩
  | 88 => ⟨S8x4096x8x2x64, .f32⟩
  | 89 => ⟨S8x4096x8x2x64, .f32⟩
  | 90 => ⟨S1x64, .f32⟩
  | 91 => ⟨S64, .f32⟩
  | 92 => ⟨S8x4096x8x2x64, .f32⟩
  | 93 => ⟨S_, .f32⟩
  | 94 => ⟨S8x4096x8x2, .f32⟩
  | 95 => ⟨S8x4096x8x2x1, .f32⟩
  | 96 => ⟨S_, .f32⟩
  | 97 => ⟨S8x4096x8x2x1, .f32⟩
  | 98 => ⟨S8x4096x8x2x1, .f32⟩
  | 99 => ⟨S_, .f32⟩
  | 100 => ⟨S8x4096x8x2x1, .f32⟩
  | 101 => ⟨S8x4096x8x2x1, .f32⟩
  | 102 => ⟨S8x4096x8x2x1, .f32⟩
  | 103 => ⟨S8x4096x8x2x64, .f32⟩
  | 104 => ⟨S8x4096x8x2x64, .f32⟩
  | 105 => ⟨S1x1x1x1x64, .f32⟩
  | 106 => ⟨S8x4096x8x2x64, .f32⟩
  | 107 => ⟨S8x4096x8x2x64, .f32⟩
  | 108 => ⟨S8x4096x1x1x8, .f32⟩
  | 109 => ⟨S8x4096x1x1x8, .f32⟩
  | 110 => ⟨S8x4096x8x2x8, .f32⟩
  | 111 => ⟨S8x4096x8x2x8, .f32⟩
  | 112 => ⟨S8x4096x8x2x48, .f32⟩
  | 113 => ⟨S8x4096x8x2x8, .f32⟩
  | 114 => ⟨S8x4096x8x2x8, .f32⟩
  | 115 => ⟨S8x4096x8x2x8, .f32⟩
  | 116 => ⟨S8x4096x8x2x8, .f32⟩
  | 117 => ⟨S8x4096x8x2x8, .f32⟩
  | 118 => ⟨S8x4096x8x2x8, .f32⟩
  | 119 => ⟨S8x4096x8x2x8, .f32⟩
  | 120 => ⟨S8x4096x8x2x8, .f32⟩
  | 121 => ⟨S8x4096x8x2x8, .f32⟩
  | 122 => ⟨S8x4096x8x2x8, .f32⟩
  | 123 => ⟨S8x4096x8x2x64, .f32⟩
  | 124 => ⟨S8x4096x3x4x64, .f32⟩
  | 125 => ⟨S1x64, .f32⟩
  | 126 => ⟨S64, .f32⟩
  | 127 => ⟨S8x4096x3x4x64, .f32⟩
  | _ => ⟨S32768x1024, .f32⟩

abbrev hbmTy0_1 (i : Nat) : BufTy := match i % 128 with
  | 0 => ⟨S_, .f32⟩
  | 1 => ⟨S8x4096x3x4, .f32⟩
  | 2 => ⟨S8x4096x3x4x1, .f32⟩
  | 3 => ⟨S_, .f32⟩
  | 4 => ⟨S8x4096x3x4x1, .f32⟩
  | 5 => ⟨S8x4096x3x4x1, .f32⟩
  | 6 => ⟨S_, .f32⟩
  | 7 => ⟨S8x4096x3x4x1, .f32⟩
  | 8 => ⟨S8x4096x3x4x1, .f32⟩
  | 9 => ⟨S8x4096x3x4x1, .f32⟩
  | 10 => ⟨S8x4096x3x4x64, .f32⟩
  | 11 => ⟨S8x4096x3x4x64, .f32⟩
  | 12 => ⟨S1x1x1x1x64, .f32⟩
  | 13 => ⟨S8x4096x3x4x64, .f32⟩
  | 14 => ⟨S8x4096x3x4x64, .f32⟩
  | 15 => ⟨S8x4096x1x1x8, .f32⟩
  | 16 => ⟨S8x4096x1x1x8, .f32⟩
  | 17 => ⟨S8x4096x3x4x8, .f32⟩
  | 18 => ⟨S8x4096x3x4x8, .f32⟩
  | 19 => ⟨S8x4096x3x4x48, .f32⟩
  | 20 => ⟨S8x4096x3x4x8, .f32⟩
  | 21 => ⟨S8x4096x3x4x8, .f32⟩
  | 22 => ⟨S8x4096x3x4x8, .f32⟩
  | 23 => ⟨S8x4096x3x4x8, .f32⟩
  | 24 => ⟨S8x4096x3x4x8, .f32⟩
  | 25 => ⟨S8x4096x3x4x8, .f32⟩
  | 26 => ⟨S8x4096x3x4x8, .f32⟩
  | 27 => ⟨S8x4096x3x4x8, .f32⟩
  | 28 => ⟨S8x4096x3x4x8, .f32⟩
  | 29 => ⟨S8x4096x3x4x8, .f32⟩
  | 30 => ⟨S8x4096x3x4x64, .f32⟩
  | 31 => ⟨S_, .f32⟩
  | 32 => ⟨S8x4096x3x4x64, .f32⟩
  | 33 => ⟨S8x4096x3x4x64, .f32⟩
  | 34 => ⟨S8x4096x3x4x64, .f32⟩
  | 35 => ⟨S1x64, .f32⟩
  | 36 => ⟨S64, .f32⟩
  | 37 => ⟨S8x4096x3x4x64, .f32⟩
  | 38 => ⟨S_, .f32⟩
  | 39 => ⟨S8x4096x3x4, .f32⟩
  | 40 => ⟨S8x4096x3x4x1, .f32⟩
  | 41 => ⟨S_, .f32⟩
  | 42 => ⟨S8x4096x3x4x1, .f32⟩
  | 43 => ⟨S8x4096x3x4x1, .f32⟩
  | 44 => ⟨S_, .f32⟩
  | 45 => ⟨S8x4096x3x4x1, .f32⟩
  | 46 => ⟨S8x4096x3x4x1, .f32⟩
  | 47 => ⟨S8x4096x3x4x1, .f32⟩
  | 48 => ⟨S8x4096x3x4x64, .f32⟩
  | 49 => ⟨S8x4096x3x4x64, .f32⟩
  | 50 => ⟨S1x1x1x1x64, .f32⟩
  | 51 => ⟨S8x4096x3x4x64, .f32⟩
  | 52 => ⟨S8x4096x3x4x64, .f32⟩
  | 53 => ⟨S8x4096x1x1x8, .f32⟩
  | 54 => ⟨S8x4096x1x1x8, .f32⟩
  | 55 => ⟨S8x4096x3x4x8, .f32⟩
  | 56 => ⟨S8x4096x3x4x8, .f32⟩
  | 57 => ⟨S8x4096x3x4x48, .f32⟩
  | 58 => ⟨S8x4096x3x4x8, .f32⟩
  | 59 => ⟨S8x4096x3x4x8, .f32⟩
  | 60 => ⟨S8x4096x3x4x8, .f32⟩
  | 61 => ⟨S8x4096x3x4x8, .f32⟩
  | 62 => ⟨S8x4096x3x4x8, .f32⟩
  | 63 => ⟨S8x4096x3x4x8, .f32⟩
  | 64 => ⟨S8x4096x3x4x8, .f32⟩
  | 65 => ⟨S8x4096x3x4x8, .f32⟩
  | 66 => ⟨S8x4096x3x4x8, .f32⟩
  | 67 => ⟨S8x4096x3x4x8, .f32⟩
  | 68 => ⟨S8x4096x3x4x64, .f32⟩
  | 69 => ⟨S8x4096x3x4x64, .f32⟩
  | 70 => ⟨S2048, .f32⟩
  | 71 => ⟨S1x1x2048, .f32⟩
  | 72 => ⟨S8x4096x2048, .f32⟩
  | 73 => ⟨S8x4096x2048, .f32⟩
  | 74 => ⟨S8x4096x2048, .f32⟩
  | 75 => ⟨S8x4096x2048, .f32⟩
  | 76 => ⟨S_, .f32⟩
  | 77 => ⟨S8x4096x2048, .f32⟩
  | 78 => ⟨S8x4096x2048, .f32⟩
  | 79 => ⟨S_, .f32⟩
  | 80 => ⟨S8x4096x2048, .f32⟩
  | 81 => ⟨S8x4096x2048, .f32⟩
  | 82 => ⟨S32768x1024, .f32⟩
  | 83 => ⟨S32768x1024, .f32⟩
  | 84 => ⟨S32768x1024, .f32⟩
  | 85 => ⟨S8x4096x1x4x64, .f32⟩
  | 86 => ⟨S8x4096x4x64, .f32⟩
  | 87 => ⟨S8x4096x1x256, .f32⟩
  | 88 => ⟨S8x1x4096x256, .f32⟩
  | 89 => ⟨S8x4096x1x4x64, .f32⟩
  | 90 => ⟨S8x4096x4x64, .f32⟩
  | 91 => ⟨S8x1024x4x256, .f32⟩
  | 92 => ⟨S8x4x1024x256, .f32⟩
  | 93 => ⟨S8x4096x1x4x64, .f32⟩
  | 94 => ⟨S8x4096x4x64, .f32⟩
  | 95 => ⟨S8x256x16x256, .f32⟩
  | 96 => ⟨S8x16x256x256, .f32⟩
  | 97 => ⟨S8x4096x1x4x64, .f32⟩
  | 98 => ⟨S8x4096x4x64, .f32⟩
  | 99 => ⟨S8x4096x1x256, .f32⟩
  | 100 => ⟨S8x1x4096x256, .f32⟩
  | 101 => ⟨S8x4096x1x4x64, .f32⟩
  | 102 => ⟨S8x4096x4x64, .f32⟩
  | 103 => ⟨S8x1024x4x256, .f32⟩
  | 104 => ⟨S8x4x1024x256, .f32⟩
  | 105 => ⟨S8x4096x1x4x64, .f32⟩
  | 106 => ⟨S8x4096x4x64, .f32⟩
  | 107 => ⟨S8x256x16x256, .f32⟩
  | 108 => ⟨S8x16x256x256, .f32⟩
  | 109 => ⟨S8x4096x1x4x64, .f32⟩
  | 110 => ⟨S8x4096x4x64, .f32⟩
  | 111 => ⟨S8x4096x1x256, .f32⟩
  | 112 => ⟨S8x1x4096x256, .f32⟩
  | 113 => ⟨S8x4096x1x4x64, .f32⟩
  | 114 => ⟨S8x4096x4x64, .f32⟩
  | 115 => ⟨S8x1024x4x256, .f32⟩
  | 116 => ⟨S8x4x1024x256, .f32⟩
  | 117 => ⟨S8x4096x1x4x64, .f32⟩
  | 118 => ⟨S8x4096x4x64, .f32⟩
  | 119 => ⟨S8x256x16x256, .f32⟩
  | 120 => ⟨S8x16x256x256, .f32⟩
  | 121 => ⟨S32768x2048, .f32⟩
  | 122 => ⟨S32768x1024, .bf16⟩
  | 123 => ⟨S32768x1024, .bf16⟩
  | 124 => ⟨S32768x1024, .bf16⟩
  | 125 => ⟨S8x1x4096x256, .bf16⟩
  | 126 => ⟨S8x4x1024x256, .bf16⟩
  | 127 => ⟨S8x16x256x256, .bf16⟩
  | _ => ⟨S32768x1024, .f32⟩

abbrev hbmTy0_2 (i : Nat) : BufTy := match i % 128 with
  | 0 => ⟨S8x1x4096x256, .bf16⟩
  | 1 => ⟨S8x4x1024x256, .bf16⟩
  | 2 => ⟨S8x16x256x256, .bf16⟩
  | 3 => ⟨S8x1x4096x256, .bf16⟩
  | 4 => ⟨S8x4x1024x256, .bf16⟩
  | 5 => ⟨S8x16x256x256, .bf16⟩
  | 6 => ⟨S32768x2048, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_10 : Ref sig .tc := ⟨.hbm, 128, rfl⟩
abbrev main_v108 : Ref sig .tc := ⟨.hbm, 129, rfl⟩
abbrev main_v109 : Ref sig .tc := ⟨.hbm, 130, rfl⟩
abbrev main_cst_11 : Ref sig .tc := ⟨.hbm, 131, rfl⟩
abbrev main_v110 : Ref sig .tc := ⟨.hbm, 132, rfl⟩
abbrev main_v111 : Ref sig .tc := ⟨.hbm, 133, rfl⟩
abbrev main_cst_12 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_13 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_14 : Ref sig .tc := ⟨.hbm, 166, rfl⟩
abbrev main_v142 : Ref sig .tc := ⟨.hbm, 167, rfl⟩
abbrev main_v143 : Ref sig .tc := ⟨.hbm, 168, rfl⟩
abbrev main_cst_15 : Ref sig .tc := ⟨.hbm, 169, rfl⟩
abbrev main_v144 : Ref sig .tc := ⟨.hbm, 170, rfl⟩
abbrev main_v145 : Ref sig .tc := ⟨.hbm, 171, rfl⟩
abbrev main_cst_16 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_17 : Ref sig .tc := ⟨.hbm, 204, rfl⟩
abbrev main_v177 : Ref sig .tc := ⟨.hbm, 205, rfl⟩
abbrev main_v178 : Ref sig .tc := ⟨.hbm, 206, rfl⟩
abbrev main_cst_18 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩

abbrev nD : Nat := 1
abbrev τ : Topo := Topo.v7x

variable {F : FTy → Type} [FloatOps F]
-- ==== Proof.Proj.KernelIdeal.Frame.lean ====
/- The launch of the input projection, point after point. -/
module

public import proofs.«01_k».proof.Proof.Gen.ProjIdeal.Frame.RunA
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x2048 .f32) (harg10 : arg10.IsWhole) (arg11 : Memref sig .tc .vmem S256x256 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x1x512x256 .bf16) (harg15 : arg15.IsWhole) (arg16 : Memref sig .tc .vmem S1x4x128x256 .bf16) (harg16 : arg16.IsWhole) (arg17 : Memref sig .tc .vmem S1x16x32x256 .bf16) (harg17 : arg17.IsWhole) (arg18 : Memref sig .tc .vmem S1x1x512x256 .bf16) (harg18 : arg18.IsWhole) (arg19 : Memref sig .tc .vmem S1x4x128x256 .bf16) (harg19 : arg19.IsWhole) (arg20 : Memref sig .tc .vmem S1x16x32x256 .bf16) (harg20 : arg20.IsWhole) (arg21 : Memref sig .tc .vmem S1x1x512x256 .bf16) (harg21 : arg21.IsWhole) (arg22 : Memref sig .tc .vmem S1x4x128x256 .bf16) (harg22 : arg22.IsWhole) (arg23 : Memref sig .tc .vmem S1x16x32x256 .bf16) (harg23 : arg23.IsWhole) (arg24 : Memref sig .tc .vmem S512x2048 .bf16) (harg24 : arg24.IsWhole) (arg25 : Memref sig .tc .vmem S512x1024 .bf16) (harg25 : arg25.IsWhole) (arg26 : Memref sig .tc .vmem S2x512x128 .f32) (harg26 : arg26.IsWhole)
    (x0 : Vec F S512x1024 .f32) (x1 : Vec F S1x1x6144 .f32) (x2 : Vec F S1x1024 .f32) (x3 : Vec F S1024x7424 .bf16) (x4 : Vec F S512x128 .f32) (x5 : Vec F S512x128 .f32) (x6 : Vec F S512x128 .f32) (x7 : Vec F S2x128 .f32) (x8 : Vec F S2x128 .f32) (x9 : Vec F S1x2048 .f32) (x10 : Vec F S256x256 .bf16)

/-- The pieces of output 11 tile its block. -/
theorem cover0_A_11 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).1, y ∈ pc.1.set :=
  View.cover_of_tiledL (s := S512x1024) _ S512x128.size (by sl_kernel_rfl) y

/-- What the run leaves in output 11. -/
def out0_A_11 : Vec F S512x1024 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).1)

/-- The pieces of output 12 tile its block. -/
theorem cover0_A_12 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.1, y ∈ pc.1.set :=
  View.cover_of_tiledL (s := S512x1024) _ S512x128.size (by sl_kernel_rfl) y

/-- What the run leaves in output 12. -/
def out0_A_12 : Vec F S512x1024 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.1)

/-- The pieces of output 13 tile its block. -/
theorem cover0_A_13 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.1, y ∈ pc.1.set :=
  View.cover_of_tiledL (s := S512x1024) _ S512x256.size (by sl_kernel_rfl) y

/-- What the run leaves in output 13. -/
def out0_A_13 : Vec F S512x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.1)

/-- The pieces of output 14 tile its block. -/
theorem cover0_A_14 (y : S1x1x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1, y ∈ pc.1.set :=
  View.cover_of_tiledL (s := S1x1x512x256) _ S1x1x512x128.size (by sl_kernel_rfl) y

/-- What the run leaves in output 14. -/
def out0_A_14 : Vec F S1x1x512x256 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1)

/-- The pieces of output 15 tile its block. -/
theorem cover0_A_15 (y : S1x4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1, y ∈ pc.1.set :=
  View.cover_of_tiledL (s := S1x4x128x256) _ S1x1x128x128.size (by sl_kernel_rfl) y

/-- What the run leaves in output 15. -/
def out0_A_15 : Vec F S1x4x128x256 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1)

/-- The pieces of output 16 tile its block. -/
theorem cover0_A_16 (y : S1x16x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1, y ∈ pc.1.set :=
  View.cover_of_tiledL (s := S1x16x32x256) _ S1x1x32x128.size (by sl_kernel_rfl) y

/-- What the run leaves in output 16. -/
def out0_A_16 : Vec F S1x16x32x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1)

/-- The pieces of output 17 tile its block. -/
theorem cover0_A_17 (y : S1x1x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1, y ∈ pc.1.set :=
  View.cover_of_tiledL (s := S1x1x512x256) _ S1x1x512x128.size (by sl_kernel_rfl) y

/-- What the run leaves in output 17. -/
def out0_A_17 : Vec F S1x1x512x256 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1)

/-- The pieces of output 18 tile its block. -/
theorem cover0_A_18 (y : S1x4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1, y ∈ pc.1.set :=
  View.cover_of_tiledL (s := S1x4x128x256) _ S1x1x128x128.size (by sl_kernel_rfl) y

/-- What the run leaves in output 18. -/
def out0_A_18 : Vec F S1x4x128x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1)

/-- The pieces of output 19 tile its block. -/
theorem cover0_A_19 (y : S1x16x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1, y ∈ pc.1.set :=
  View.cover_of_tiledL (s := S1x16x32x256) _ S1x1x32x128.size (by sl_kernel_rfl) y

/-- What the run leaves in output 19. -/
def out0_A_19 : Vec F S1x16x32x256 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1)

/-- The pieces of output 20 tile its block. -/
theorem cover0_A_20 (y : S1x1x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1, y ∈ pc.1.set :=
  View.cover_of_tiledL (s := S1x1x512x256) _ S1x1x512x128.size (by sl_kernel_rfl) y

/-- What the run leaves in output 20. -/
def out0_A_20 : Vec F S1x1x512x256 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1)

/-- The pieces of output 21 tile its block. -/
theorem cover0_A_21 (y : S1x4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1, y ∈ pc.1.set :=
  View.cover_of_tiledL (s := S1x4x128x256) _ S1x1x128x128.size (by sl_kernel_rfl) y

/-- What the run leaves in output 21. -/
def out0_A_21 : Vec F S1x4x128x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1)

/-- The pieces of output 22 tile its block. -/
theorem cover0_A_22 (y : S1x16x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1, y ∈ pc.1.set :=
  View.cover_of_tiledL (s := S1x16x32x256) _ S1x1x32x128.size (by sl_kernel_rfl) y

/-- What the run leaves in output 22. -/
def out0_A_22 : Vec F S1x16x32x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1)

/-- The pieces of output 23 tile its block. -/
theorem cover0_A_23 (y : S512x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1, y ∈ pc.1.set :=
  View.cover_of_tiledL (s := S512x2048) _ S512x256.size (by sl_kernel_rfl) y

/-- What the run leaves in output 23. -/
def out0_A_23 : Vec F S512x2048 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1)

/-- What a point leaves in the thirteen outputs. -/
def left0_A : Vec F S512x1024 .bf16 × Vec F S512x1024 .bf16 × Vec F S512x1024 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S512x2048 .bf16 :=
  (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10,
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10)

end

/-! ## What the outputs hold after each point -/

/-- What the outputs' staging buffers hold after the body at point `t` (as a tuple, in window order): the run's contents at
    the point's memrefs and input blocks. -/
def outsAt0 (c : Dev nD) (t : Fin cfg0.N) : Vec F S512x1024 .bf16 × Vec F S512x1024 .bf16 × Vec F S512x1024 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S512x2048 .bf16 :=
  left0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2.1
    | ⟨16, _⟩ => (outsAt0 m c t).2.2.2.2.2.1
    | ⟨17, _⟩ => (outsAt0 m c t).2.2.2.2.2.2.1
    | ⟨18, _⟩ => (outsAt0 m c t).2.2.2.2.2.2.2.1
    | ⟨19, _⟩ => (outsAt0 m c t).2.2.2.2.2.2.2.2.1
    | ⟨20, _⟩ => (outsAt0 m c t).2.2.2.2.2.2.2.2.2.1
    | ⟨21, _⟩ => (outsAt0 m c t).2.2.2.2.2.2.2.2.2.2.1
    | ⟨22, _⟩ => (outsAt0 m c t).2.2.2.2.2.2.2.2.2.2.2.1
    | ⟨23, _⟩ => (outsAt0 m c t).2.2.2.2.2.2.2.2.2.2.2.2
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2.1 := by dsimp only [dats]
theorem after0_16 (c : Dev nD) (t : Fin cfg0.N) : (dats m 0 c).after 16 t = (outsAt0 m c t).2.2.2.2.2.1 := by dsimp only [dats]
theorem after0_17 (c : Dev nD) (t : Fin cfg0.N) : (dats m 0 c).after 17 t = (outsAt0 m c t).2.2.2.2.2.2.1 := by dsimp only [dats]
theorem after0_18 (c : Dev nD) (t : Fin cfg0.N) : (dats m 0 c).after 18 t = (outsAt0 m c t).2.2.2.2.2.2.2.1 := by dsimp only [dats]
theorem after0_19 (c : Dev nD) (t : Fin cfg0.N) : (dats m 0 c).after 19 t = (outsAt0 m c t).2.2.2.2.2.2.2.2.1 := by dsimp only [dats]
theorem after0_20 (c : Dev nD) (t : Fin cfg0.N) : (dats m 0 c).after 20 t = (outsAt0 m c t).2.2.2.2.2.2.2.2.2.1 := by dsimp only [dats]
theorem after0_21 (c : Dev nD) (t : Fin cfg0.N) : (dats m 0 c).after 21 t = (outsAt0 m c t).2.2.2.2.2.2.2.2.2.2.1 := by dsimp only [dats]
theorem after0_22 (c : Dev nD) (t : Fin cfg0.N) : (dats m 0 c).after 22 t = (outsAt0 m c t).2.2.2.2.2.2.2.2.2.2.2.1 := by dsimp only [dats]
theorem after0_23 (c : Dev nD) (t : Fin cfg0.N) : (dats m 0 c).after 23 t = (outsAt0 m c t).2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0 left0_A
  unfold out0_A_11 out0_A_12 out0_A_13 out0_A_14 out0_A_15 out0_A_16 out0_A_17 out0_A_18 out0_A_19 out0_A_20 out0_A_21 out0_A_22 out0_A_23; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The launch ends, leaves its arguments and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.ProjIdeal.Gen

end
-- ==== Proof.Proj.Value.lean ====
/- The launch of the input projection: what its run leaves. -/
module

public import proofs.«01_k».proof.Proof.Proj.KernelIdeal.Frame
public import Idealize.ShloMosaic.Lib.Pipeline.Value

@[expose] public section

noncomputable section

namespace Cert.Inp

open Cert.ProjIdeal Cert.ProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

set_option maxHeartbeats 400000 in
/-- The run leaves the launch's arrays, and the arguments as they were. -/
theorem run : θ_run defs (onTc (τ := τ) (main (F := F))) ⟨m, fun _ => 0, ρ⟩ fun r => ∀ c : Dev nD,
      r.2.mem ((c : Thread nD τ).loc main_v29_0) = (dats m 0 c).arrAt 11 cfg0.N
      ∧ r.2.mem ((c : Thread nD τ).loc main_v29_1) = (dats m 0 c).arrAt 12 cfg0.N
      ∧ r.2.mem ((c : Thread nD τ).loc main_v29_2) = (dats m 0 c).arrAt 13 cfg0.N
      ∧ r.2.mem ((c : Thread nD τ).loc main_v29_3) = (dats m 0 c).arrAt 14 cfg0.N
      ∧ r.2.mem ((c : Thread nD τ).loc main_v29_4) = (dats m 0 c).arrAt 15 cfg0.N
      ∧ r.2.mem ((c : Thread nD τ).loc main_v29_5) = (dats m 0 c).arrAt 16 cfg0.N
      ∧ r.2.mem ((c : Thread nD τ).loc main_v29_6) = (dats m 0 c).arrAt 17 cfg0.N
      ∧ r.2.mem ((c : Thread nD τ).loc main_v29_7) = (dats m 0 c).arrAt 18 cfg0.N
      ∧ r.2.mem ((c : Thread nD τ).loc main_v29_8) = (dats m 0 c).arrAt 19 cfg0.N
      ∧ r.2.mem ((c : Thread nD τ).loc main_v29_9) = (dats m 0 c).arrAt 20 cfg0.N
      ∧ r.2.mem ((c : Thread nD τ).loc main_v29_10) = (dats m 0 c).arrAt 21 cfg0.N
      ∧ r.2.mem ((c : Thread nD τ).loc main_v29_11) = (dats m 0 c).arrAt 22 cfg0.N
      ∧ r.2.mem ((c : Thread nD τ).loc main_v29_12) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun (r : PUnit × MemSt nD τ sig (Elt F)) (h : Pipeline.FramePost cfgs (dats m) 0 (V m) r) (c : Dev nD) => ⟨(h c).1 11,
    (h c).1 12,
    (h c).1 13,
    (h c).1 14,
    (h c).1 15,
    (h c).1 16,
    (h c).1 17,
    (h c).1 18,
    (h c).1 19,
    (h c).1 20,
    (h c).1 21,
    (h c).1 22,
    (h c).1 23,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).1 9).trans (((dats m 0 c).arrAt_in 9 rfl _).trans ((A_eq m c 9).trans (V_main_arg8 m c)))⟩) (run_main m ρ)

end Cert.Inp

end
-- ==== Proof.Tail.Spec.lean ====
/- The layer's tail at one token, and the kernel's two payloads read as it. -/
module

public import proofs.«01_k».proof.Proof.Gen.TailIdeal.Skeleton
public import Idealize.ShloMosaic.Lib.Pointwise

@[expose] public section

set_option maxRecDepth 16384

noncomputable section

namespace Cert.Post

open Cert.TailIdeal Cert.TailIdeal.Gen Idealize.ShloMosaic

/-- The residual stream of a token after the gated merge of the two branches and the output projection. -/
def X1 (x gm : Fin 1024 → EReal) (oa : Fin 1024 → EReal) (ob : Fin 256 → EReal) (ga gb : Fin 1024 → EReal)
    (wa : Fin 1024 → Fin 1024 → EReal) (wb : Fin 256 → Fin 1024 → EReal) (wo : Fin 1024 → Fin 1024 → EReal) (j : Fin 1024) : EReal :=
  x j + gm j * ∑ k, (ga k * (∑ l, oa l * wa l k) + gb k * (∑ l, ob l * wb l k)) * wo k j

/-- The reciprocal root of a token's mean square. -/
def RS (x : Fin 1024 → EReal) : EReal :=
  Ideal.rsqrt (Ideal.div (∑ j, x j * x j) (Ideal.ofBits .f32 0x44800000#32) + Ideal.ofBits .f32 0x358637BD#32)

/-- The normed and modulated token that the MLP reads. -/
def HN (x : Fin 1024 → EReal) (rs : EReal) (g sc sh : Fin 1024 → EReal) (k : Fin 1024) : EReal :=
  x k * rs * g k * (1 + sc k) + sh k

/-- A hidden unit: the squared positive part. -/
def UP (h : Fin 1024 → EReal) (wu : Fin 1024 → Fin 4096 → EReal) (f : Fin 4096) : EReal :=
  max (∑ k, h k * wu k f) 0

/-- A token's result. -/
def FF (x h gf : Fin 1024 → EReal) (wu : Fin 1024 → Fin 4096 → EReal) (wd : Fin 4096 → Fin 1024 → EReal) (j : Fin 1024) : EReal :=
  x j + gf j * ∑ f, UP h wu f * UP h wu f * wd f j

theorem pay2_apply (v0 : Vec Ideal S512x1024 .bf16) (v1 : Vec Ideal S1024x1024 .bf16) (v3 : Vec Ideal S512x256 .bf16)
    (v4 : Vec Ideal S256x1024 .bf16) (v6 v8 : Vec Ideal S512x1024 .bf16) (v14 : Vec Ideal S1024x1024 .bf16)
    (v16 : Vec Ideal S512x1024 .f32) (v17 : Vec Ideal S1x1x1024 .f32) (r : Fin 512) (j : Fin 1024) :
    k0_pay2 (F := Ideal) v0 v1 v3 v4 v6 v8 v14 v16 v17 (ix2 r j)
      = X1 (fun j => v16 (ix2 r j)) (fun j => v17 (ix3 0 0 j)) (fun l => v0 (ix2 r l)) (fun l => v3 (ix2 r l))
          (fun k => v6 (ix2 r k)) (fun k => v8 (ix2 r k)) (fun l k => v1 (ix2 l k)) (fun l k => v4 (ix2 l k)) (fun k j => v14 (ix2 k j)) j := by
  pointwise [k0_pay2]
  rfl

theorem pay3_apply (v0 : Vec Ideal S512x1024 .bf16) (v1 : Vec Ideal S1024x1024 .bf16) (v3 : Vec Ideal S512x256 .bf16)
    (v4 : Vec Ideal S256x1024 .bf16) (v6 v8 : Vec Ideal S512x1024 .bf16) (v14 : Vec Ideal S1024x1024 .bf16)
    (v16 : Vec Ideal S512x1024 .f32) (v17 : Vec Ideal S1x1x1024 .f32) (r : Fin 512) (j : Fin 1024) :
    k0_pay3 (F := Ideal) v0 v1 v3 v4 v6 v8 v14 v16 v17 (ix2 r j)
      = (k0_pay2 (F := Ideal) v0 v1 v3 v4 v6 v8 v14 v16 v17 (ix2 r j) : EReal)
        * RS (fun j => k0_pay2 (F := Ideal) v0 v1 v3 v4 v6 v8 v14 v16 v17 (ix2 r j)) := by
  unfold k0_pay3
  generalize k0_pay2 (F := Ideal) v0 v1 v3 v4 v6 v8 v14 v16 v17 = x
  pointwise []
  rfl

theorem pay1_apply (v21 v31 : FVec Ideal S512x1024 .f32) (v32 : Vec Ideal S1x1024 .f32) (v35 v41 : Vec Ideal S1x1x1024 .f32)
    (v46 : Vec Ideal S1024x4096 .bf16) (v52 : Vec Ideal S4096x1024 .bf16) (v54 : Vec Ideal S1x1x1024 .f32)
    (x : Fin 1024 → EReal) (rs : EReal) (r : Fin 512) (hx : ∀ j, v21 (ix2 r j) = x j) (hs : ∀ j, v31 (ix2 r j) = x j * rs) (j : Fin 1024) :
    k0_pay1 (F := Ideal) v21 v31 v32 v35 v41 v46 v52 v54 (ix2 r j)
      = FF x (HN x rs (fun k => v32 (ix2 0 k)) (fun k => v35 (ix3 0 0 k)) (fun k => v41 (ix3 0 0 k))) (fun k => v54 (ix3 0 0 k))
          (fun k f => v46 (ix2 k f)) (fun f j => v52 (ix2 f j)) j := by
  pointwise [k0_pay1]
  simp only [hx, hs]
  rfl

end Cert.Post

end
-- ==== Proof.Proj.Head.lean ====
/- One head of the input projection: its norm, its rotary turn and the factor of its scores, over the extended reals. -/
module

public import proofs.«01_k».proof.Proof.Tail.Spec

@[expose] public section

noncomputable section

namespace Cert.Inp

open Idealize.ShloMosaic

/-- The reciprocal root of a head's mean square. -/
def HR (y : Fin 64 → EReal) : EReal :=
  Ideal.rsqrt (Ideal.div (∑ d, y d * y d) (Ideal.ofBits .f32 0x42800000#32) + Ideal.ofBits .f32 0x358637BD#32)

/-- The normed head with its gain. -/
def NH (y g : Fin 64 → EReal) (d : Fin 64) : EReal := y d * HR y * g d

/-- The rotary turn of a head: the first eight entries against the next eight, the others as they are. -/
def ROPE (cs sn : Fin 8 → EReal) (n : Fin 64 → EReal) (d : Fin 64) : EReal :=
  if h : d.val < 8 then n d * cs ⟨d.val, h⟩ - n ⟨d.val + 8, by omega⟩ * sn ⟨d.val, h⟩
  else if h2 : d.val < 16 then n d * cs ⟨d.val - 8, by omega⟩ + n ⟨d.val - 8, by omega⟩ * sn ⟨d.val - 8, by omega⟩
  else n d

/-- A nonnegative real factor may be taken into the gain: the turn is linear. -/
theorem rope_scale (cs sn : Fin 8 → EReal) (y g : Fin 64 → EReal) (s : ℝ) (hs : 0 ≤ s) (d : Fin 64) :
    ROPE cs sn (NH y fun d => g d * (s : EReal)) d = ROPE cs sn (NH y g) d * (s : EReal) := by
  have h0 : (0 : EReal) ≤ (s : EReal) := by exact_mod_cast hs
  have ht : (s : EReal) ≠ ⊤ := EReal.coe_ne_top s
  have hn : ∀ e, NH y (fun d => g d * (s : EReal)) e = NH y g e * (s : EReal) := fun e => by
    show y e * HR y * (g e * (s : EReal)) = y e * HR y * g e * (s : EReal)
    simp only [mul_assoc]
  have hc : ∀ a b : EReal, a * (s : EReal) * b = a * b * (s : EReal) := fun a b => by
    rw [mul_assoc, mul_comm (s : EReal), mul_assoc]
  unfold ROPE
  simp only [hn, hc]
  by_cases h : d.val < 8
  · rw [dif_pos h, dif_pos h, sub_eq_add_neg, sub_eq_add_neg, ← EReal.neg_mul,
      EReal.right_distrib_of_nonneg_of_ne_top h0 ht]
  · by_cases h2 : d.val < 16
    · rw [dif_neg h, dif_neg h, dif_pos h2, dif_pos h2, EReal.right_distrib_of_nonneg_of_ne_top h0 ht]
    · rw [dif_neg h, dif_neg h, dif_neg h2, dif_neg h2]

/-- The product of a row with the ones of its heads is the sum over the column's own head. -/
theorem head_sum (f : Fin 256 → EReal) (one : Fin 256 → EReal) (q : Fin 4)
    (h1 : ∀ k : Fin 256, one k = if k.val / 64 = q.val then 1 else 0) :
    ∑ k, f k * one k = ∑ d : Fin 64, f ⟨64 * q.val + d.val, by omega⟩ := by
  have e : ∑ k, f k * one k = ∑ p : Fin 4 × Fin 64, f (finProdFinEquiv p) * one (finProdFinEquiv p) :=
    (Equiv.sum_comp (finProdFinEquiv (m := 4) (n := 64)) fun k => f k * one k).symm
  rw [e, Fintype.sum_prod_type, Finset.sum_eq_single q]
  · refine Finset.sum_congr rfl fun d _ => ?_
    have hv : (finProdFinEquiv (q, d) : Fin 256) = ⟨64 * q.val + d.val, by omega⟩ := Fin.ext (by
      show d.val + 64 * q.val = 64 * q.val + d.val; omega)
    rw [hv, h1, if_pos (by show (64 * q.val + d.val) / 64 = q.val; omega), mul_one]
  · intro b _ hb
    refine Finset.sum_eq_zero fun d _ => ?_
    rw [h1, if_neg, mul_zero]
    intro hh
    apply hb
    refine Fin.ext ?_
    have : (d.val + 64 * b.val) / 64 = q.val := hh
    omega
  · intro h; exact absurd (Finset.mem_univ _) h

theorem pos64 : Ideal.ofBits .f32 0x42800000#32 = ((64 : ℝ) : EReal) := by
  have e1 : (1115684864 >>> 23 : ℕ) % 256 = 133 := by decide
  have e2 : ¬BitVec.extractLsb' 31 1 1115684864#32 = 1#1 := by decide
  norm_num [Ideal.ofBits, Ideal.ieee, e1, e2]
theorem inv64 : Ideal.ofBits .f32 0x3C800000#32 = ((1 / 64 : ℝ) : EReal) := by
  have e1 : (1015021568 >>> 23 : ℕ) % 256 = 121 := by decide
  have e2 : ¬BitVec.extractLsb' 31 1 1015021568#32 = 1#1 := by decide
  norm_num [Ideal.ofBits, Ideal.ieee, e1, e2]
theorem eighth32 : Ideal.ofBits .f32 0x3E000000#32 = ((1 / 8 : ℝ) : EReal) := by
  have e1 : (1040187392 >>> 23 : ℕ) % 256 = 124 := by decide
  have e2 : ¬BitVec.extractLsb' 31 1 1040187392#32 = 1#1 := by decide
  norm_num [Ideal.ofBits, Ideal.ieee, e1, e2]
/-- The factor of the first mixer's scores, dh^-0.5 times log2(e) in f32, is a nonnegative real. -/
theorem scale32 : ∃ s : ℝ, 0 ≤ s ∧ Ideal.ofBits .f32 0x3E38AA3B#32 = (s : EReal) := by
  have e2 : ¬BitVec.extractLsb' 31 1 1043900987#32 = 1#1 := by decide
  have e1 : (1043900987 >>> 23 : ℕ) % 256 = 124 := by decide
  refine ⟨(12102203 : ℝ) / 67108864, by norm_num, ?_⟩
  norm_num [Ideal.ofBits, Ideal.ieee, e1, e2]

/-- A head's entry as the call forms it: the row's sum of squares over the head's columns times 1/64, the gain, the three
    tables against the entry, the one eight before and the one eight after. -/
theorem half_eq (a : Fin 256 → EReal) (one : Fin 256 → EReal) (Y : Fin 128 → EReal) (G : Fin 64 → EReal) (cs sn : Fin 8 → EReal)
    (o : Fin 2) (l : Fin 128) (c s1 s2 : EReal)
    (h1 : ∀ (j : Fin 128), Y j = a ⟨128 * o.val + j.val, by omega⟩
      * Ideal.rsqrt ((∑ k, a k * a k * (if k.val / 64 = (128 * o.val + j.val) / 64 then 1 else 0)) * Ideal.ofBits .f32 0x3C800000#32
          + Ideal.ofBits .f32 0x358637BD#32) * G ⟨j.val % 64, by omega⟩)
    (hc : c = if h : l.val % 64 < 16 then cs ⟨l.val % 64 % 8, by omega⟩ else 1)
    (hs1 : s1 = if h : 8 ≤ l.val % 64 ∧ l.val % 64 < 16 then sn ⟨l.val % 64 - 8, by omega⟩ else 0)
    (hs2 : s2 = if h : l.val % 64 < 8 then sn ⟨l.val % 64, by omega⟩ else 0) :
    Y l * c + Y ⟨(l.val + 120) % 128, by omega⟩ * s1 - Y ⟨(l.val + 8) % 128, by omega⟩ * s2
      = ROPE cs sn (NH (fun d => a ⟨64 * ((128 * o.val + l.val) / 64) + d.val, by omega⟩) G) ⟨l.val % 64, by omega⟩ := by
  have hY : ∀ (j : Fin 128) (d : Fin 64), j.val / 64 = l.val / 64 → j.val % 64 = d.val →
      Y j = NH (fun d => a ⟨64 * ((128 * o.val + l.val) / 64) + d.val, by omega⟩) G d := fun j d hq hd => by
    have hj : (128 * o.val + j.val) / 64 = (128 * o.val + l.val) / 64 := by omega
    rw [h1, head_sum (fun k => a k * a k) _ ⟨(128 * o.val + l.val) / 64, by omega⟩ (fun k => by rw [hj])]
    unfold NH HR
    have e1 : (⟨128 * o.val + j.val, by omega⟩ : Fin 256) = ⟨64 * ((128 * o.val + l.val) / 64) + d.val, by omega⟩ := Fin.ext (by
      show 128 * o.val + j.val = 64 * ((128 * o.val + l.val) / 64) + d.val; omega)
    have e2 : (⟨j.val % 64, by omega⟩ : Fin 64) = d := Fin.ext hd
    rw [e1, e2, pos64, inv64, Ideal.div_coe (by norm_num)]
  unfold ROPE
  subst hc hs1 hs2
  by_cases h : l.val % 64 < 8
  · rw [dif_pos (show l.val % 64 < 16 by omega), dif_neg (show ¬(8 ≤ l.val % 64 ∧ l.val % 64 < 16) by omega), dif_pos h, dif_pos h, mul_zero,
      add_zero, hY l ⟨l.val % 64, by omega⟩ rfl rfl, hY ⟨(l.val + 8) % 128, by omega⟩ ⟨l.val % 64 + 8, by omega⟩ (by show (l.val + 8) % 128 / 64 = l.val / 64; omega)
        (by show (l.val + 8) % 128 % 64 = l.val % 64 + 8; omega)]
    have e : (⟨l.val % 64 % 8, by omega⟩ : Fin 8) = ⟨l.val % 64, h⟩ := Fin.ext (by show l.val % 64 % 8 = l.val % 64; omega)
    rw [e]
  · by_cases h2 : l.val % 64 < 16
    · rw [dif_pos h2, dif_pos (show 8 ≤ l.val % 64 ∧ l.val % 64 < 16 by omega), dif_neg h, dif_neg h, dif_pos h2, mul_zero, sub_zero,
        hY l ⟨l.val % 64, by omega⟩ rfl rfl, hY ⟨(l.val + 120) % 128, by omega⟩ ⟨l.val % 64 - 8, by omega⟩ (by show (l.val + 120) % 128 / 64 = l.val / 64; omega)
        (by show (l.val + 120) % 128 % 64 = l.val % 64 - 8; omega)]
      have e : (⟨l.val % 64 % 8, by omega⟩ : Fin 8) = ⟨l.val % 64 - 8, by omega⟩ := Fin.ext (by show l.val % 64 % 8 = l.val % 64 - 8; omega)
      rw [e]
    · rw [dif_neg h2, dif_neg (show ¬(8 ≤ l.val % 64 ∧ l.val % 64 < 16) by omega), dif_neg h, dif_neg h, dif_neg h2, mul_zero, mul_zero, mul_one,
        add_zero, sub_zero]
      exact hY l ⟨l.val % 64, by omega⟩ rfl rfl

end Cert.Inp

end
-- ==== Proof.Proj.Block.lean ====
/- The pieces that one step of the input projection stores, each as one function of the step's blocks, read at an element. -/
module

public import proofs.«01_k».proof.Proof.Proj.Head
public import proofs.«01_k».proof.Proof.Gen.ProjIdeal.Skeleton
public import Idealize.ShloMosaic.Lib.Pointwise

@[expose] public section

set_option maxRecDepth 16384

noncomputable section

namespace Cert.Inp

open Cert.ProjIdeal Cert.ProjIdeal.Gen Idealize.ShloMosaic

/-- The product of the normed tokens with 256 columns of the weight. -/
def ACC (h : FVec Ideal S512x1024 .bf16) (w : FVec Ideal S1024x256 .bf16) : FVec Ideal S512x256 .f32 :=
  matmul dot_S512x1024_S1024x256_S512x256_1_0_0_1_n_n none h w (constant S512x256 .f32 0x00000000#32)

/-- The columns times their heads' reciprocal roots. -/
def NRM (a : FVec Ideal S512x256 .f32) (one : FVec Ideal S256x256 .bf16) : FVec Ideal S512x256 .f32 :=
  mulf a (rsqrt (addf (mulf (matmul dot_S512x256_S256x256_S512x256_1_0_0_1_n_n none (truncf .bf16 (mulf a a) bitsLt_bf16_f32)
    (shapeCast S256x256 one shapeCasts_S256x256_S256x256) (constant S512x256 .f32 0x00000000#32))
    (broadcast S512x256 (Scalar.ofBits .f32 0x3C800000#32))) (broadcast S512x256 (Scalar.ofBits .f32 0x358637BD#32))))

/-- The turn of 128 lanes against the three tables. -/
def TURN (y c s1 s2 : FVec Ideal S512x128 .f32) : FVec Ideal S512x128 .f32 :=
  subf (addf (mulf y (shapeCast S512x128 c shapeCasts_S512x128_S512x128))
      (mulf (dynamicRotate 1 8#32 none y rotates_S512x128_d1) (shapeCast S512x128 s1 shapeCasts_S512x128_S512x128)))
    (mulf (dynamicRotate 1 120#32 none y rotates_S512x128_d1) (shapeCast S512x128 s2 shapeCasts_S512x128_S512x128))

/-- The first and the second 128 of 256 normed columns, with the gain. -/
def GA (n : FVec Ideal S512x256 .f32) (g : FVec Ideal S1x128 .f32) : FVec Ideal S512x128 .f32 :=
  mulf (extractStridedSlice S512x128 ![0, 0] n slices_S512x256_o0_0_S512x128) (broadcastTo S512x128 g broadcasts_S1x128_S512x128)
def GB (n : FVec Ideal S512x256 .f32) (g : FVec Ideal S1x128 .f32) : FVec Ideal S512x128 .f32 :=
  mulf (extractStridedSlice S512x128 ![0, 128] n slices_S512x256_o0_128_S512x128) (broadcastTo S512x128 g broadcasts_S1x128_S512x128)

theorem ACC_apply (h : Vec Ideal S512x1024 .bf16) (w : Vec Ideal S1024x256 .bf16) (r : Fin 512) (k : Fin 256) :
    ACC h w (ix2 r k) = ∑ j : Fin 1024, (h (ix2 r j) : EReal) * w (ix2 j k) := by
  pointwise [ACC]

theorem NRM_apply (a : FVec Ideal S512x256 .f32) (one : Vec Ideal S256x256 .bf16) (r : Fin 512) (k : Fin 256) :
    NRM a one (ix2 r k) = (a (ix2 r k) : EReal) * Ideal.rsqrt ((∑ j : Fin 256, (a (ix2 r j) * a (ix2 r j) : EReal) * one (ix2 j k))
      * Ideal.ofBits .f32 0x3C800000#32 + Ideal.ofBits .f32 0x358637BD#32) := by
  pointwise [NRM]

theorem GA_apply (n : FVec Ideal S512x256 .f32) (g : FVec Ideal S1x128 .f32) (r : Fin 512) (l : Fin 128) :
    GA n g (ix2 r l) = (n (ix2 r ⟨l.val, by omega⟩) : EReal) * g (ix2 0 l) := by
  pointwise [GA]
theorem GB_apply (n : FVec Ideal S512x256 .f32) (g : FVec Ideal S1x128 .f32) (r : Fin 512) (l : Fin 128) :
    GB n g (ix2 r l) = (n (ix2 r ⟨128 + l.val, by omega⟩) : EReal) * g (ix2 0 l) := by
  pointwise [GB]

theorem TURN_apply (y c s1 s2 : FVec Ideal S512x128 .f32) (r : Fin 512) (l : Fin 128) :
    TURN y c s1 s2 (ix2 r l) = (y (ix2 r l) : EReal) * c (ix2 r l) + y (ix2 r ⟨(l.val + 120) % 128, by omega⟩) * s1 (ix2 r l)
      - y (ix2 r ⟨(l.val + 8) % 128, by omega⟩) * s2 (ix2 r l) := by
  pointwise [TURN]
  have e1 : (⟨(l.val + 128 - 8) % 128, by omega⟩ : Fin 128) = ⟨(l.val + 120) % 128, by omega⟩ := Fin.ext (by show (l.val + 128 - 8) % 128 = (l.val + 120) % 128; omega)
  have e2 : (⟨(l.val + 128 - 120) % 128, by omega⟩ : Fin 128) = ⟨(l.val + 8) % 128, by omega⟩ := Fin.ext (by show (l.val + 128 - 120) % 128 = (l.val + 8) % 128; omega)
  rw [e1, e2]

end Cert.Inp

end
-- ==== Proof.Proj.Pieces.lean ====
/- The pieces of one step of the input projection, for any place of them in the step's results. -/
module

public import proofs.«01_k».proof.Proof.Proj.Block
public import proofs.«01_k».proof.Proof.Tail.Spec
public import Idealize.ShloMosaic.Lib.Pipeline.FrameBody

@[expose] public section

set_option maxRecDepth 16384

noncomputable section

namespace Cert.Inp

open Cert.ProjIdeal Cert.ProjIdeal.Gen Idealize.ShloMosaic

/-- A column of the projection of one normed token. -/
def PJ (h : Fin 1024 → EReal) (w : Fin 1024 → Fin 7424 → EReal) (n : Fin 7424) : EReal := ∑ k, h k * w k n

/-- A column of a head, normed with the gain `G` and turned. -/
def HV (G : Fin 64 → EReal) (cs sn : Fin 8 → EReal) (p : Fin 7424 → EReal) (n : Fin 7424) : EReal :=
  ROPE cs sn (NH (fun d => p ⟨64 * (n.val / 64) + d.val, by omega⟩) G) ⟨n.val % 64, by omega⟩

/-- One token, normed and modulated, from the step's blocks. -/
def TOK (x0 : Vec Ideal S512x1024 .f32) (x1 : Vec Ideal S1x1x6144 .f32) (x2 : Vec Ideal S1x1024 .f32) (r : Fin 512) : Fin 1024 → EReal :=
  Post.HN (fun k => x0 (ix2 r k)) (Post.RS fun k => x0 (ix2 r k)) (fun k => x2 (ix2 0 k)) (fun k => x1 (ix3 0 0 ⟨1024 + k.val, by omega⟩))
    (fun k => x1 (ix3 0 0 ⟨k.val, by omega⟩))

theorem pay1_apply (v0 : Vec Ideal S512x1024 .f32) (v6 v8 : Vec Ideal S1x1x1024 .f32) (v15 : Vec Ideal S1x1024 .f32) (r : Fin 512) (k : Fin 1024) :
    k0_pay1 (F := Ideal) v0 v6 v8 v15 (ix2 r k)
      = Post.HN (fun k => v0 (ix2 r k)) (Post.RS fun k => v0 (ix2 r k)) (fun k => v15 (ix2 0 k)) (fun k => v8 (ix3 0 0 k))
          (fun k => v6 (ix3 0 0 k)) k := by
  unfold k0_pay1
  pointwise []
  rfl

section

variable {H : FVec Ideal S512x1024 .bf16} {W : FVec Ideal S1024x256 .bf16} {one : FVec Ideal S256x256 .bf16} {g : FVec Ideal S1x128 .f32}
    {c s1 s2 : FVec Ideal S512x128 .f32} {tok : Fin 512 → Fin 1024 → EReal} {w : Fin 1024 → Fin 7424 → EReal} {G : Fin 64 → EReal}
    {cs sn : Fin 512 → Fin 8 → EReal} (o : ℕ)

theorem acc_apply (hH : ∀ r k, H (ix2 r k) = tok r k) (hW : ∀ k (j : Fin 256) n, n.val = o + j.val → W (ix2 k j) = w k n)
    (r : Fin 512) (j : Fin 256) (n : Fin 7424) (hn : n.val = o + j.val) : ACC H W (ix2 r j) = PJ (tok r) w n := by
  rw [ACC_apply]
  exact Finset.sum_congr rfl fun k _ => by rw [hH, hW k j n hn]

/-- The two halves of 256 columns from the column `o` on, turned. -/
theorem turn_apply (i : Fin 2) (Y : FVec Ideal S512x128 .f32) (ho : o % 256 = 0) (ho' : o + 256 ≤ 7424)
    (hY : ∀ r (l : Fin 128), Y (ix2 r l) = (NRM (ACC H W) one (ix2 r ⟨128 * i.val + l.val, by omega⟩) : EReal) * g (ix2 0 l))
    (hH : ∀ r k, H (ix2 r k) = tok r k) (hW : ∀ k (j : Fin 256) n, n.val = o + j.val → W (ix2 k j) = w k n)
    (hone : ∀ k l, one (ix2 k l) = if k.val / 64 = l.val / 64 then (1 : EReal) else 0)
    (hg : ∀ l : Fin 128, g (ix2 0 l) = G ⟨l.val % 64, by omega⟩)
    (hc : ∀ r (l : Fin 128), c (ix2 r l) = if h : l.val % 64 < 16 then cs r ⟨l.val % 64 % 8, by omega⟩ else 1)
    (hs1 : ∀ r (l : Fin 128), s1 (ix2 r l) = if h : 8 ≤ l.val % 64 ∧ l.val % 64 < 16 then sn r ⟨l.val % 64 - 8, by omega⟩ else 0)
    (hs2 : ∀ r (l : Fin 128), s2 (ix2 r l) = if h : l.val % 64 < 8 then sn r ⟨l.val % 64, by omega⟩ else 0)
    (r : Fin 512) (l : Fin 128) (n : Fin 7424) (hn : n.val = o + (128 * i.val + l.val)) :
    TURN Y c s1 s2 (ix2 r l) = HV G (cs r) (sn r) (PJ (tok r) w) n := by
  rw [TURN_apply, half_eq (fun k => PJ (tok r) w ⟨o + k.val, by omega⟩) (fun _ => 0) (fun l => Y (ix2 r l)) G (cs r) (sn r) i l
    (c (ix2 r l)) (s1 (ix2 r l)) (s2 (ix2 r l)) (fun j => ?_) (hc r l) (hs1 r l) (hs2 r l)]
  · have e1 : n.val / 64 = o / 64 + (128 * i.val + l.val) / 64 := by omega
    have e2 : n.val % 64 = l.val % 64 := by omega
    have e3 : 64 * (o / 64) = o := by omega
    unfold HV
    refine congrArg₂ (ROPE (cs r) (sn r)) (congrArg (fun y => NH y G) (funext fun d => congrArg (PJ (tok r) w) (Fin.ext ?_))) (Fin.ext e2.symm)
    show o + (64 * ((128 * i.val + l.val) / 64) + d.val) = 64 * (n.val / 64) + d.val
    omega
  · rw [hY, NRM_apply, hg, acc_apply o hH hW r ⟨128 * i.val + j.val, by omega⟩ ⟨o + (128 * i.val + j.val), by omega⟩ rfl]
    simp only [fun k : Fin 256 => acc_apply o hH hW r k ⟨o + k.val, by omega⟩ rfl, hone]

/-- The first and the second head pair of 256 columns. -/
theorem turnA (ho : o % 256 = 0) (ho' : o + 256 ≤ 7424)
    (hH : ∀ r k, H (ix2 r k) = tok r k) (hW : ∀ k (j : Fin 256) n, n.val = o + j.val → W (ix2 k j) = w k n)
    (hone : ∀ k l, one (ix2 k l) = if k.val / 64 = l.val / 64 then (1 : EReal) else 0)
    (hg : ∀ l : Fin 128, g (ix2 0 l) = G ⟨l.val % 64, by omega⟩)
    (hc : ∀ r (l : Fin 128), c (ix2 r l) = if h : l.val % 64 < 16 then cs r ⟨l.val % 64 % 8, by omega⟩ else 1)
    (hs1 : ∀ r (l : Fin 128), s1 (ix2 r l) = if h : 8 ≤ l.val % 64 ∧ l.val % 64 < 16 then sn r ⟨l.val % 64 - 8, by omega⟩ else 0)
    (hs2 : ∀ r (l : Fin 128), s2 (ix2 r l) = if h : l.val % 64 < 8 then sn r ⟨l.val % 64, by omega⟩ else 0)
    (r : Fin 512) (l : Fin 128) (n : Fin 7424) (hn : n.val = o + l.val) :
    TURN (GA (NRM (ACC H W) one) g) c s1 s2 (ix2 r l) = HV G (cs r) (sn r) (PJ (tok r) w) n :=
  turn_apply o 0 _ ho ho' (fun r l => by
    rw [GA_apply, show (⟨l.val, by omega⟩ : Fin 256) = ⟨128 * (0 : Fin 2).val + l.val, by show 128 * 0 + l.val < 256; omega⟩ from
      Fin.ext (by show l.val = 128 * 0 + l.val; omega)]) hH hW hone hg hc hs1 hs2 r l n
    (by show n.val = o + (128 * 0 + l.val); omega)
theorem turnB (ho : o % 256 = 0) (ho' : o + 256 ≤ 7424)
    (hH : ∀ r k, H (ix2 r k) = tok r k) (hW : ∀ k (j : Fin 256) n, n.val = o + j.val → W (ix2 k j) = w k n)
    (hone : ∀ k l, one (ix2 k l) = if k.val / 64 = l.val / 64 then (1 : EReal) else 0)
    (hg : ∀ l : Fin 128, g (ix2 0 l) = G ⟨l.val % 64, by omega⟩)
    (hc : ∀ r (l : Fin 128), c (ix2 r l) = if h : l.val % 64 < 16 then cs r ⟨l.val % 64 % 8, by omega⟩ else 1)
    (hs1 : ∀ r (l : Fin 128), s1 (ix2 r l) = if h : 8 ≤ l.val % 64 ∧ l.val % 64 < 16 then sn r ⟨l.val % 64 - 8, by omega⟩ else 0)
    (hs2 : ∀ r (l : Fin 128), s2 (ix2 r l) = if h : l.val % 64 < 8 then sn r ⟨l.val % 64, by omega⟩ else 0)
    (r : Fin 512) (l : Fin 128) (n : Fin 7424) (hn : n.val = o + (128 + l.val)) :
    TURN (GB (NRM (ACC H W) one) g) c s1 s2 (ix2 r l) = HV G (cs r) (sn r) (PJ (tok r) w) n :=
  turn_apply o 1 _ ho ho' (fun r l => by
    rw [GB_apply]; rfl) hH hW hone hg hc hs1 hs2 r l n (by show n.val = o + (128 * 1 + l.val); omega)

end

/-- The strided reads of the two stored halves. -/
theorem read_b {L d ρ : ℕ} (v : View sig .tc .vmem S2x512x128 .f32) (y1 y0 : FVec Ideal S512x128 .f32)
    (h1 : ∀ a, (![1, 0, 0] : Fin 3 → ℕ) a + S1x512x128.size a ≤ S2x512x128.size a)
    (h0 : ∀ a, (![0, 0, 0] : Fin 3 → ℕ) a + S1x512x128.size a ≤ S2x512x128.size a) (T : List (View.Piece (Elt Ideal) S2x512x128 .f32))
    (hB : ∀ a, (![1, L, 128] : Fin 3 → ℕ) a = 0 ∨ (![1, ρ, 0] : Fin 3 → ℕ) a + (![1, d, 1] : Fin 3 → ℕ) a * ((![1, L, 128] : Fin 3 → ℕ) a - 1) < S2x512x128.size a)
    (t : Fin L) (l : Fin 128) (r : Fin 512) (hr : r.val = ρ + d * t.val) :
    v.readCov (⟨Rect.unit ![1, 0, 0] S1x512x128.size h1, shapeCast S1x512x128 y1 shapeCasts_S512x128_S1x512x128⟩
      :: ⟨Rect.unit ![0, 0, 0] S1x512x128.size h0, shapeCast S1x512x128 y0 shapeCasts_S512x128_S1x512x128⟩ :: T)
      ⟨![1, ρ, 0], ![1, L, 128], ![1, d, 1], hB⟩ (ix3 0 t l) = y1 (ix2 r l) := by
  rw [View.readCov_eq_canon']
  have e : (⟨![1, ρ, 0], ![1, L, 128], ![1, d, 1], hB⟩ : LoadRect S2x512x128).idx (ix3 0 t l)
      = (Rect.unit (s := S2x512x128) ![1, 0, 0] S1x512x128.size h1).emb (ix3 0 r l) := funext fun a => Fin.ext (by
    match a with
    | ⟨0, _⟩ => rfl
    | ⟨1, _⟩ => show ρ + d * t.val = 0 + 1 * r.val; omega
    | ⟨2, _⟩ => show 0 + 1 * l.val = 0 + 1 * l.val; rfl)
  show View.canon _ ((⟨![1, ρ, 0], ![1, L, 128], ![1, d, 1], hB⟩ : LoadRect S2x512x128).idx (ix3 0 t l)) = _
  rw [e, View.canon_cons_emb]
  pointwise []
theorem not_mem_b (h1 : ∀ a, (![1, 0, 0] : Fin 3 → ℕ) a + S1x512x128.size a ≤ S2x512x128.size a) (y : S2x512x128.Idx) (hy : (y 0).val = 0) :
    y ∉ (Rect.unit (s := S2x512x128) ![1, 0, 0] S1x512x128.size h1).set := fun hm => by
  obtain ⟨x, hx⟩ := (Rect.unit (s := S2x512x128) ![1, 0, 0] S1x512x128.size h1).toLoadRect.exists_idx_of_mem hm
  rw [← hx] at hy
  have h' : 1 + 1 * (x 0).val = 0 := hy
  omega
theorem read_second {s : Shape} {e : EltTy} (v : View sig .tc .vmem s e) (r1 r0 : Rect s) (w1 : r1.shape.Idx → Elt Ideal e)
    (w0 : r0.shape.Idx → Elt Ideal e) (T : List (View.Piece (Elt Ideal) s e)) (B : LoadRect s) (j : B.shape.Idx) (x : r0.shape.Idx)
    (hi : B.idx j = r0.emb x) (hn : r0.emb x ∉ r1.set) : v.readCov (⟨r1, w1⟩ :: ⟨r0, w0⟩ :: T) B j = w0 x := by
  rw [View.readCov_eq_canon']
  show View.canon _ (B.idx j) = _
  rw [hi]
  exact (View.canon_cons_of_not_mem ⟨r1, w1⟩ _ hn).trans (View.canon_cons_emb r0 w0 T x)
theorem read_a {L d ρ : ℕ} (v : View sig .tc .vmem S2x512x128 .f32) (y1 y0 : FVec Ideal S512x128 .f32)
    (h1 : ∀ a, (![1, 0, 0] : Fin 3 → ℕ) a + S1x512x128.size a ≤ S2x512x128.size a)
    (h0 : ∀ a, (![0, 0, 0] : Fin 3 → ℕ) a + S1x512x128.size a ≤ S2x512x128.size a) (T : List (View.Piece (Elt Ideal) S2x512x128 .f32))
    (hB : ∀ a, (![1, L, 128] : Fin 3 → ℕ) a = 0 ∨ (![0, ρ, 0] : Fin 3 → ℕ) a + (![1, d, 1] : Fin 3 → ℕ) a * ((![1, L, 128] : Fin 3 → ℕ) a - 1) < S2x512x128.size a)
    (t : Fin L) (l : Fin 128) (r : Fin 512) (hr : r.val = ρ + d * t.val) :
    v.readCov (⟨Rect.unit ![1, 0, 0] S1x512x128.size h1, shapeCast S1x512x128 y1 shapeCasts_S512x128_S1x512x128⟩
      :: ⟨Rect.unit ![0, 0, 0] S1x512x128.size h0, shapeCast S1x512x128 y0 shapeCasts_S512x128_S1x512x128⟩ :: T)
      ⟨![0, ρ, 0], ![1, L, 128], ![1, d, 1], hB⟩ (ix3 0 t l) = y0 (ix2 r l) := by
  have e : (⟨![0, ρ, 0], ![1, L, 128], ![1, d, 1], hB⟩ : LoadRect S2x512x128).idx (ix3 0 t l)
      = (Rect.unit (s := S2x512x128) ![0, 0, 0] S1x512x128.size h0).emb (ix3 0 r l) := funext fun a => Fin.ext (by
    match a with
    | ⟨0, _⟩ => rfl
    | ⟨1, _⟩ => show ρ + d * t.val = 0 + 1 * r.val; omega
    | ⟨2, _⟩ => show 0 + 1 * l.val = 0 + 1 * l.val; rfl)
  have hy : ((Rect.unit (s := S2x512x128) ![0, 0, 0] S1x512x128.size h0).emb (ix3 0 r l) 0).val = 0 := by show 0 + 1 * 0 = 0; rfl
  refine (read_second v _ _ _ _ T _ _ _ e (not_mem_b h1 _ hy)).trans ?_
  pointwise []

theorem strip512 (z : Vec Ideal S1x512x128 .f32) (t : Fin 512) (l : Fin 128) :
    shapeCast S1x1x512x128 (truncf (F := Ideal) .bf16 (shapeCast S512x128 z shapeCasts_S1x512x128_S512x128) bitsLt_bf16_f32) shapeCasts_S512x128_S1x1x512x128 (ix4 0 0 t l)
      = z (ix3 0 t l) := by
  pointwise []
theorem strip128 (z : Vec Ideal S1x128x128 .f32) (t : Fin 128) (l : Fin 128) :
    shapeCast S1x1x128x128 (truncf (F := Ideal) .bf16 (shapeCast S128x128 z shapeCasts_S1x128x128_S128x128) bitsLt_bf16_f32) shapeCasts_S128x128_S1x1x128x128 (ix4 0 0 t l)
      = z (ix3 0 t l) := by
  pointwise []
theorem strip32 (z : Vec Ideal S1x32x128 .f32) (t : Fin 32) (l : Fin 128) :
    shapeCast S1x1x32x128 (truncf (F := Ideal) .bf16 (shapeCast S32x128 z shapeCasts_S1x32x128_S32x128) bitsLt_bf16_f32) shapeCasts_S32x128_S1x1x32x128 (ix4 0 0 t l)
      = z (ix3 0 t l) := by
  pointwise []

theorem sliceA (a : FVec Ideal S512x256 .f32) (r : Fin 512) (l : Fin 128) :
    extractStridedSlice S512x128 ![0, 0] a slices_S512x256_o0_0_S512x128 (ix2 r l) = a (ix2 r ⟨l.val, by omega⟩) := by
  pointwise []
theorem sliceB (a : FVec Ideal S512x256 .f32) (r : Fin 512) (l : Fin 128) :
    extractStridedSlice S512x128 ![0, 128] a slices_S512x256_o0_128_S512x128 (ix2 r l) = a (ix2 r ⟨128 + l.val, by omega⟩) := by
  pointwise []

theorem gate_apply (a : FVec Ideal S512x256 .f32) (b : Vec Ideal S1x256 .f32) (r : Fin 512) (l : Fin 256) :
    truncf (F := Ideal) .bf16 (logistic (addf a (broadcastTo S512x256 b broadcasts_S1x256_S512x256))) bitsLt_bf16_f32 (ix2 r l)
      = Ideal.logistic ((a (ix2 r l) : EReal) + b (ix2 0 l)) := by
  pointwise []

end Cert.Inp

end
-- ==== Proof.Proj.Reads.lean ====
/- What one step of the input projection leaves in its scratch, and the reads of its blocks. -/
module

public import proofs.«01_k».proof.Proof.Proj.KernelIdeal.Frame
public import proofs.«01_k».proof.Proof.Proj.Pieces

@[expose] public section

set_option maxRecDepth 16384

noncomputable section

namespace Cert.Inp

open Cert.ProjIdeal Cert.ProjIdeal.Gen Idealize.ShloMosaic Idealize.ShloMosaic.Tactic

theorem rd {s : Shape} {e : EltTy} (a : Memref sig .tc .vmem s e) (h : a.IsWhole) (R : LoadRect s) (x : Vec Ideal s e) (j : R.shape.Idx) :
    View.readAt (Elt Ideal) a.view R (h.unread x) j = x (R.idx j) := by
  show a.view.read (Elt Ideal) (h.unread x) (R.idx j) = _
  rw [h.read_unread]

theorem idx2 {A B a b p q : ℕ} (h : ∀ i, (![p, q] : Fin 2 → ℕ) i + (![a, b] : Fin 2 → ℕ) i ≤ (⟨2, ![A, B]⟩ : Shape).size i)
    (r : Fin a) (j : Fin b) (R : Fin A) (J : Fin B) (hR : R.val = p + r.val) (hJ : J.val = q + j.val) :
    (Rect.unit (s := ⟨2, ![A, B]⟩) ![p, q] ![a, b] h).toLoadRect.idx (ix2 r j) = ix2 R J := funext fun i => Fin.ext (by
  match i with
  | ⟨0, _⟩ => show p + 1 * r.val = R.val; omega
  | ⟨1, _⟩ => show q + 1 * j.val = J.val; omega)

/-- A table, read whole. -/
theorem tab_apply (a : Memref sig .tc .vmem S512x128 .f32) (h : a.IsWhole) (x : Vec Ideal S512x128 .f32) (r : Fin 512) (l : Fin 128) :
    View.readAt (Elt Ideal) a.view (Rect.unit ![0, 0] S512x128.size inb_S512x128_S512x128_0_0).toLoadRect (h.unread x) (ix2 r l) = x (ix2 r l) :=
  (rd a h _ x _).trans (congrArg x (idx2 _ r l r l (by omega) (by omega)))

/-- The ones of a head, read whole. -/
theorem one_apply (a : Memref sig .tc .vmem S256x256 .bf16) (h : a.IsWhole) (x : Vec Ideal S256x256 .bf16) (r l : Fin 256) :
    View.readAt (Elt Ideal) a.view (Rect.unit ![0, 0] S256x256.size inb_S256x256_S256x256_0_0).toLoadRect (h.unread x) (ix2 r l) = x (ix2 r l) :=
  (rd a h _ x _).trans (congrArg x (idx2 _ r l r l (by omega) (by omega)))

/-- 256 columns of the weight. -/
theorem wgt_apply {o : ℕ} (a : Memref sig .tc .vmem S1024x7424 .bf16) (h : a.IsWhole) (x : Vec Ideal S1024x7424 .bf16)
    (hb : ∀ i, (![0, o] : Fin 2 → ℕ) i + S1024x256.size i ≤ S1024x7424.size i) (k : Fin 1024) (j : Fin 256) (n : Fin 7424) (hn : n.val = o + j.val) :
    View.readAt (Elt Ideal) a.view (Rect.unit (s := S1024x7424) ![0, o] S1024x256.size hb).toLoadRect (h.unread x) (ix2 k j) = x (ix2 k n) :=
  (rd a h _ x _).trans (congrArg x (idx2 _ k j k n (by omega) hn))

/-- 256 columns of the gates' bias. -/
theorem bias_apply {o : ℕ} (a : Memref sig .tc .vmem S1x2048 .f32) (h : a.IsWhole) (x : Vec Ideal S1x2048 .f32)
    (hb : ∀ i, (![0, o] : Fin 2 → ℕ) i + S1x256.size i ≤ S1x2048.size i) (j : Fin 256) (n : Fin 2048) (hn : n.val = o + j.val) :
    View.readAt (Elt Ideal) a.view (Rect.unit (s := S1x2048) ![0, o] S1x256.size hb).toLoadRect (h.unread x) (ix2 0 j) = x (ix2 0 n) :=
  (rd a h _ x _).trans (congrArg x (idx2 _ 0 j 0 n rfl hn))

/-- A row of gains. -/
theorem gain_apply {i : ℕ} (a : Memref sig .tc .vmem S2x128 .f32) (h : a.IsWhole) (x : Vec Ideal S2x128 .f32)
    (hb : ∀ k, (![i, 0] : Fin 2 → ℕ) k + S1x128.size k ≤ S2x128.size k) (I : Fin 2) (hI : I.val = i) (l : Fin 128) :
    View.readAt (Elt Ideal) a.view (Rect.unit (s := S2x128) ![i, 0] S1x128.size hb).toLoadRect (h.unread x) (ix2 0 l) = x (ix2 I l) :=
  (rd a h _ x _).trans (congrArg x (idx2 _ 0 l I l (by show I.val = i + 0; omega) (by omega)))

/-- The columns from `b` on, as results: plain, normed and turned, and the gates. -/
def PJC (x0 : Vec Ideal S512x1024 .f32) (x1 : Vec Ideal S1x1x6144 .f32) (x2 : Vec Ideal S1x1024 .f32) (x3 : Vec Ideal S1024x7424 .bf16)
    (b : ℕ) {C : ℕ} (h : b + C ≤ 7424) (r : Fin 512) (m : Fin C) : EReal := PJ (TOK x0 x1 x2 r) (fun k n => x3 (ix2 k n)) ⟨b + m.val, by omega⟩
def HVC (G : Fin 64 → EReal) (cs sn : Fin 512 → Fin 8 → EReal) (x0 : Vec Ideal S512x1024 .f32) (x1 : Vec Ideal S1x1x6144 .f32) (x2 : Vec Ideal S1x1024 .f32)
    (x3 : Vec Ideal S1024x7424 .bf16) (b : ℕ) {C : ℕ} (h : b + C ≤ 7424) (r : Fin 512) (m : Fin C) : EReal :=
  HV G (cs r) (sn r) (PJ (TOK x0 x1 x2 r) (fun k n => x3 (ix2 k n))) ⟨b + m.val, by omega⟩
def GTC (x0 : Vec Ideal S512x1024 .f32) (x1 : Vec Ideal S1x1x6144 .f32) (x2 : Vec Ideal S1x1024 .f32) (x3 : Vec Ideal S1024x7424 .bf16)
    (x9 : Vec Ideal S1x2048 .f32) (r : Fin 512) (m : Fin 2048) : EReal :=
  Ideal.logistic (PJ (TOK x0 x1 x2 r) (fun k n => x3 (ix2 k n)) ⟨5376 + m.val, by omega⟩ + x9 (ix2 0 m))

/-- The row of a residue's place within a step. -/
def ROW {D L : ℕ} (h : D * L = 512) (p : Fin D) (t : Fin L) : Fin 512 :=
  ⟨p.val + D * t.val, by have := Nat.mul_le_mul_left D (show t.val + 1 ≤ L from t.isLt); rw [Nat.mul_add, h] at this; omega⟩

theorem ROW_eq {D L ρ : ℕ} (h : D * L = 512) {p : Fin D} (t : Fin L) (hp : p.val = ρ) : (ROW h p t).val = ρ + D * t.val := by
  show p.val + D * t.val = ρ + D * t.val
  rw [hp]

/-- One more block of columns in a list of stored blocks. -/
theorem cons2 {C n off : ℕ} {e : EltTy} {h : ∀ a, (![0, off] : Fin 2 → ℕ) a + (![512, n] : Fin 2 → ℕ) a ≤ (⟨2, ![512, C]⟩ : Shape).size a}
    {G : (⟨2, ![512, C]⟩ : Shape).Idx → Elt Ideal e} {w : (⟨2, ![512, n]⟩ : Shape).Idx → Elt Ideal e} {T : List (View.Piece (Elt Ideal) ⟨2, ![512, C]⟩ e)}
    (hw : ∀ r (l : Fin n) (m : Fin C), m.val = off + l.val → w (ix2 r l) = G (ix2 r m)) (hT : ∀ p ∈ T, ∀ x, p.2 x = G (p.1.emb x)) :
    ∀ p ∈ ((⟨Rect.unit ![0, off] ![512, n] h, w⟩ : View.Piece (Elt Ideal) ⟨2, ![512, C]⟩ e) :: T), ∀ x, p.2 x = G (p.1.emb x) :=
  List.forall_mem_cons.2 ⟨fun x => by
    obtain ⟨r, l, rfl⟩ : ∃ (r : Fin 512) (l : Fin n), x = ix2 r l := ⟨x 0, x 1, funext fun a => match a with | ⟨0, _⟩ => rfl | ⟨1, _⟩ => rfl⟩
    refine (hw r l ((Rect.unit (s := ⟨2, ![512, C]⟩) ![0, off] ![512, n] h).emb (ix2 r l) 1) (by show off + 1 * l.val = off + l.val; omega)).trans
      (congrArg G (funext fun a => Fin.ext ?_))
    match a with
    | ⟨0, _⟩ => show r.val = 0 + 1 * r.val; omega
    | ⟨1, _⟩ => rfl, hT⟩

/-- One more block of one residue's tokens in a list of stored blocks. -/
theorem cons4 {D L off ρ : ℕ} {e : EltTy} {h : ∀ a, (![0, ρ, 0, off] : Fin 4 → ℕ) a + (![1, 1, L, 128] : Fin 4 → ℕ) a ≤ (⟨4, ![1, D, L, 256]⟩ : Shape).size a}
    {G : (⟨4, ![1, D, L, 256]⟩ : Shape).Idx → Elt Ideal e} {w : (⟨4, ![1, 1, L, 128]⟩ : Shape).Idx → Elt Ideal e}
    {T : List (View.Piece (Elt Ideal) ⟨4, ![1, D, L, 256]⟩ e)}
    (hw : ∀ (t : Fin L) (l : Fin 128) (p : Fin D) (m : Fin 256), p.val = ρ → m.val = off + l.val → w (ix4 0 0 t l) = G (ix4 0 p t m))
    (hT : ∀ p ∈ T, ∀ x, p.2 x = G (p.1.emb x)) :
    ∀ p ∈ ((⟨Rect.unit ![0, ρ, 0, off] ![1, 1, L, 128] h, w⟩ : View.Piece (Elt Ideal) ⟨4, ![1, D, L, 256]⟩ e) :: T), ∀ x, p.2 x = G (p.1.emb x) :=
  List.forall_mem_cons.2 ⟨fun x => by
    have hx0 : (x 0).val < 1 := (x 0).isLt
    have hx1 : (x 1).val < 1 := (x 1).isLt
    obtain ⟨t, l, rfl⟩ : ∃ (t : Fin L) (l : Fin 128), x = ix4 0 0 t l := ⟨x 2, x 3, funext fun a => match a with
      | ⟨0, _⟩ => Fin.ext (by show (x 0).val = 0; omega) | ⟨1, _⟩ => Fin.ext (by show (x 1).val = 0; omega) | ⟨2, _⟩ => rfl | ⟨3, _⟩ => rfl⟩
    refine (hw t l ((Rect.unit (s := ⟨4, ![1, D, L, 256]⟩) ![0, ρ, 0, off] ![1, 1, L, 128] h).emb (ix4 0 0 t l) 1)
      ((Rect.unit (s := ⟨4, ![1, D, L, 256]⟩) ![0, ρ, 0, off] ![1, 1, L, 128] h).emb (ix4 0 0 t l) 3)
      (by show ρ + 1 * 0 = ρ; omega) (by show off + 1 * l.val = off + l.val; omega)).trans (congrArg G (funext fun a => Fin.ext ?_))
    match a with
    | ⟨0, _⟩ => rfl
    | ⟨1, _⟩ => rfl
    | ⟨2, _⟩ => show t.val = 0 + 1 * t.val; omega
    | ⟨3, _⟩ => rfl, hT⟩

theorem pay5_apply (v : Vec Ideal S1x128 .f32) (l : Fin 128) : k0_pay5 (F := Ideal) v (ix2 0 l) = (v (ix2 0 l) : EReal) * Ideal.ofBits .f32 0x3E38AA3B#32 := by
  unfold k0_pay5
  pointwise []
theorem pay6_apply (v : Vec Ideal S1x128 .f32) (l : Fin 128) : k0_pay6 (F := Ideal) v (ix2 0 l) = (v (ix2 0 l) : EReal) * Ideal.ofBits .f32 0x3E000000#32 := by
  unfold k0_pay6
  pointwise []

/-- The normed tokens, stored once and read again. -/
theorem tok_apply (v : View sig .tc .vmem S512x1024 .bf16) (arg1 : Memref sig .tc .vmem S512x1024 .f32) (harg1 : arg1.IsWhole) (arg2 : Memref sig .tc .vmem S1x1x6144 .f32) (harg2 : arg2.IsWhole)
    (arg3 : Memref sig .tc .vmem S1x1024 .f32) (harg3 : arg3.IsWhole) (x0 : Vec Ideal S512x1024 .f32) (x1 : Vec Ideal S1x1x6144 .f32) (x2 : Vec Ideal S1x1024 .f32)
    (r : Fin 512) (k : Fin 1024) :
    v.readCov (Val := Elt Ideal) [⟨Rect.unit ![0, 0] S512x1024.size inb_S512x1024_S512x1024_0_0,
      k0_pay1 (View.readAt (Elt Ideal) arg1.view (Rect.unit ![0, 0] S512x1024.size inb_S512x1024_S512x1024_0_0).toLoadRect (harg1.unread x0))
        (View.readAt (Elt Ideal) arg2.view (Rect.unit (s := S1x1x6144) ![0, 0, 0] S1x1x1024.size inb_S1x1x6144_S1x1x1024_0_0_0).toLoadRect (harg2.unread x1))
        (View.readAt (Elt Ideal) arg2.view (Rect.unit (s := S1x1x6144) ![0, 0, 1024] S1x1x1024.size inb_S1x1x6144_S1x1x1024_0_0_1024).toLoadRect (harg2.unread x1))
        (View.readAt (Elt Ideal) arg3.view (Rect.unit ![0, 0] S1x1024.size inb_S1x1024_S1x1024_0_0).toLoadRect (harg3.unread x2))⟩]
      (Rect.unit ![0, 0] S512x1024.size inb_S512x1024_S512x1024_0_0).toLoadRect (ix2 r k) = TOK x0 x1 x2 r k := by
  rw [View.readCov_cons_toLoadRect, pay1_apply]
  have e0 : ∀ k, View.readAt (Elt Ideal) arg1.view (Rect.unit ![0, 0] S512x1024.size inb_S512x1024_S512x1024_0_0).toLoadRect (harg1.unread x0) (ix2 r k) = x0 (ix2 r k) :=
    fun k => (rd arg1 harg1 _ x0 _).trans (congrArg x0 (idx2 _ r k r k (by omega) (by omega)))
  have e2 : ∀ k, View.readAt (Elt Ideal) arg3.view (Rect.unit ![0, 0] S1x1024.size inb_S1x1024_S1x1024_0_0).toLoadRect (harg3.unread x2) (ix2 0 k) = x2 (ix2 0 k) :=
    fun k => (rd arg3 harg3 _ x2 _).trans (congrArg x2 (idx2 _ 0 k 0 k rfl (by omega)))
  have e1 : ∀ k : Fin 1024, View.readAt (Elt Ideal) arg2.view (Rect.unit (s := S1x1x6144) ![0, 0, 0] S1x1x1024.size inb_S1x1x6144_S1x1x1024_0_0_0).toLoadRect (harg2.unread x1) (ix3 0 0 k)
      = x1 (ix3 0 0 ⟨k.val, by omega⟩) := fun k => (rd arg2 harg2 _ x1 _).trans (congrArg x1 (funext fun i => Fin.ext (by
    match i with
    | ⟨0, _⟩ => rfl
    | ⟨1, _⟩ => rfl
    | ⟨2, _⟩ => show 0 + 1 * k.val = k.val; omega)))
  have e3 : ∀ k : Fin 1024, View.readAt (Elt Ideal) arg2.view (Rect.unit (s := S1x1x6144) ![0, 0, 1024] S1x1x1024.size inb_S1x1x6144_S1x1x1024_0_0_1024).toLoadRect (harg2.unread x1) (ix3 0 0 k)
      = x1 (ix3 0 0 ⟨1024 + k.val, by omega⟩) := fun k => (rd arg2 harg2 _ x1 _).trans (congrArg x1 (funext fun i => Fin.ext (by
    match i with
    | ⟨0, _⟩ => rfl
    | ⟨1, _⟩ => rfl
    | ⟨2, _⟩ => show 1024 + 1 * k.val = 1024 + k.val; omega)))
  simp only [e0, e1, e2, e3]
  rfl

/-- The reads of one residue's tokens when there is one residue. -/
theorem read_b1 (v : View sig .tc .vmem S2x512x128 .f32) (y1 : FVec Ideal S512x128 .f32)
    (h1 : ∀ a, (![1, 0, 0] : Fin 3 → ℕ) a + S1x512x128.size a ≤ S2x512x128.size a) (T : List (View.Piece (Elt Ideal) S2x512x128 .f32))
    (t : Fin 512) (l : Fin 128) (r : Fin 512) (hr : r.val = t.val) :
    v.readCov (⟨Rect.unit ![1, 0, 0] S1x512x128.size h1, shapeCast S1x512x128 y1 shapeCasts_S512x128_S1x512x128⟩ :: T)
      (Rect.unit (s := S2x512x128) ![1, 0, 0] S1x512x128.size h1).toLoadRect (ix3 0 t l) = y1 (ix2 r l) := by
  obtain rfl : r = t := Fin.ext hr
  rw [View.readCov_cons_toLoadRect]
  pointwise []
theorem read_a1 (v : View sig .tc .vmem S2x512x128 .f32) (y1 y0 : FVec Ideal S512x128 .f32)
    (h1 : ∀ a, (![1, 0, 0] : Fin 3 → ℕ) a + S1x512x128.size a ≤ S2x512x128.size a)
    (h0 : ∀ a, (![0, 0, 0] : Fin 3 → ℕ) a + S1x512x128.size a ≤ S2x512x128.size a) (T : List (View.Piece (Elt Ideal) S2x512x128 .f32))
    (t : Fin 512) (l : Fin 128) (r : Fin 512) (hr : r.val = t.val) :
    v.readCov (⟨Rect.unit ![1, 0, 0] S1x512x128.size h1, shapeCast S1x512x128 y1 shapeCasts_S512x128_S1x512x128⟩
      :: ⟨Rect.unit ![0, 0, 0] S1x512x128.size h0, shapeCast S1x512x128 y0 shapeCasts_S512x128_S1x512x128⟩ :: T)
      (Rect.unit (s := S2x512x128) ![0, 0, 0] S1x512x128.size h0).toLoadRect (ix3 0 t l) = y0 (ix2 r l) := by
  obtain rfl : r = t := Fin.ext hr
  have hy : ((Rect.unit (s := S2x512x128) ![0, 0, 0] S1x512x128.size h0).emb (ix3 0 r l) 0).val = 0 := by show 0 + 1 * 0 = 0; rfl
  have e : (Rect.unit (s := S2x512x128) ![0, 0, 0] S1x512x128.size h0).toLoadRect.idx (ix3 0 r l)
      = (Rect.unit (s := S2x512x128) ![0, 0, 0] S1x512x128.size h0).emb (ix3 0 r l) := funext fun a => Fin.ext (by
    match a with
    | ⟨0, _⟩ => rfl
    | ⟨1, _⟩ => show 0 + 1 * r.val = 0 + 1 * r.val; rfl
    | ⟨2, _⟩ => show 0 + 1 * l.val = 0 + 1 * l.val; rfl)
  refine (read_second v _ _ _ _ T _ _ _ e (not_mem_b h1 _ hy)).trans ?_
  pointwise []

end Cert.Inp

end
-- ==== Proof.Proj.Outs.lean ====
/- What one step of the input projection leaves in each result. -/
module

public import proofs.«01_k».proof.Proof.Proj.Reads

@[expose] public section

set_option backward.proofsInPublic true
set_option maxRecDepth 16384
set_option maxHeartbeats 4000000

noncomputable section

namespace Cert.Inp

open Cert.ProjIdeal Cert.ProjIdeal.Gen Idealize.ShloMosaic Idealize.ShloMosaic.Tactic

variable (c : Dev nD) (i : grid0.Coords) (arg1 : Memref sig .tc .vmem S512x1024 .f32) (harg1 : arg1.IsWhole) (arg2 : Memref sig .tc .vmem S1x1x6144 .f32) (harg2 : arg2.IsWhole) (arg3 : Memref sig .tc .vmem S1x1024 .f32) (harg3 : arg3.IsWhole) (arg4 : Memref sig .tc .vmem S1024x7424 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x2048 .f32) (harg10 : arg10.IsWhole) (arg11 : Memref sig .tc .vmem S256x256 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x1x512x256 .bf16) (harg15 : arg15.IsWhole) (arg16 : Memref sig .tc .vmem S1x4x128x256 .bf16) (harg16 : arg16.IsWhole) (arg17 : Memref sig .tc .vmem S1x16x32x256 .bf16) (harg17 : arg17.IsWhole) (arg18 : Memref sig .tc .vmem S1x1x512x256 .bf16) (harg18 : arg18.IsWhole) (arg19 : Memref sig .tc .vmem S1x4x128x256 .bf16) (harg19 : arg19.IsWhole) (arg20 : Memref sig .tc .vmem S1x16x32x256 .bf16) (harg20 : arg20.IsWhole) (arg21 : Memref sig .tc .vmem S1x1x512x256 .bf16) (harg21 : arg21.IsWhole) (arg22 : Memref sig .tc .vmem S1x4x128x256 .bf16) (harg22 : arg22.IsWhole) (arg23 : Memref sig .tc .vmem S1x16x32x256 .bf16) (harg23 : arg23.IsWhole) (arg24 : Memref sig .tc .vmem S512x2048 .bf16) (harg24 : arg24.IsWhole) (arg25 : Memref sig .tc .vmem S512x1024 .bf16) (harg25 : arg25.IsWhole) (arg26 : Memref sig .tc .vmem S2x512x128 .f32) (harg26 : arg26.IsWhole)
    (x0 : Vec Ideal S512x1024 .f32) (x1 : Vec Ideal S1x1x6144 .f32) (x2 : Vec Ideal S1x1024 .f32) (x3 : Vec Ideal S1024x7424 .bf16) (x4 : Vec Ideal S512x128 .f32) (x5 : Vec Ideal S512x128 .f32) (x6 : Vec Ideal S512x128 .f32) (x7 : Vec Ideal S2x128 .f32) (x8 : Vec Ideal S2x128 .f32) (x9 : Vec Ideal S1x2048 .f32) (x10 : Vec Ideal S256x256 .bf16)

theorem out_13 (r : Fin 512) (m : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r m) = PJC x0 x1 x2 x3 2048 (show 2048 + 1024 ≤ 7424 by omega) r m := by
  obtain ⟨G, hG⟩ : ∃ G : S512x1024.Idx → EReal, G = (fun y : S512x1024.Idx => PJC x0 x1 x2 x3 2048 (show 2048 + 1024 ≤ 7424 by omega) (y 0) (y 1)) := ⟨_, rfl⟩
  have key : ∀ y : S512x1024.Idx, out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_13
    rw [View.read_writes_junk_eq_canon]
    refine View.canon_apply_of_pieces G _ ?_ y (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons2 (fun r l m hm => by
        rw [hG]
        exact acc_apply _ (tok_apply _ arg1 harg1 arg2 harg2 arg3 harg3 x0 x1 x2) (wgt_apply arg4 harg4 x3 _) r l ⟨2048 + m.val, by omega⟩ (by show 2048 + m.val = _ + l.val; omega)) ?_
    exact fun p h => absurd h List.not_mem_nil
  exact (key (ix2 r m)).trans (congrFun hG _)

theorem out_20 (p : Fin 1) (t : Fin 512) (m : Fin 256) : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = PJC x0 x1 x2 x3 4608 (show 4608 + 256 ≤ 7424 by omega) ((ROW (show 1 * 512 = 512 by omega)) p t) m := by
  obtain ⟨G, hG⟩ : ∃ G : S1x1x512x256.Idx → EReal, G = (fun y : S1x1x512x256.Idx => PJC x0 x1 x2 x3 4608 (show 4608 + 256 ≤ 7424 by omega) ((ROW (show 1 * 512 = 512 by omega)) (y 1) (y 2)) (y 3)) := ⟨_, rfl⟩
  have key : ∀ y : S1x1x512x256.Idx, out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_20
    rw [View.read_writes_junk_eq_canon]
    refine View.canon_apply_of_pieces G _ ?_ y (cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 1
      refine cons4 (fun t l p m hp hm => by
        refine (strip512 _ t l).trans ?_
        refine (read_b1 _ _ _ _ t l ((ROW (show 1 * 512 = 512 by omega)) p t) (by show p.val + 1 * t.val = t.val; omega)).trans ?_
        rw [hG]
        exact (sliceB _ ((ROW (show 1 * 512 = 512 by omega)) p t) l).trans (acc_apply _ (tok_apply _ arg1 harg1 arg2 harg2 arg3 harg3 x0 x1 x2) (wgt_apply arg4 harg4 x3 _) ((ROW (show 1 * 512 = 512 by omega)) p t) ⟨128 + l.val, by omega⟩ ⟨4608 + m.val, by omega⟩ (by show 4608 + m.val = _ + (128 + l.val); omega))) ?_
      refine cons4 (fun t l p m hp hm => by
        refine (strip512 _ t l).trans ?_
        refine (read_a1 _ _ _ _ _ _ t l ((ROW (show 1 * 512 = 512 by omega)) p t) (by show p.val + 1 * t.val = t.val; omega)).trans ?_
        rw [hG]
        exact (sliceA _ ((ROW (show 1 * 512 = 512 by omega)) p t) l).trans (acc_apply _ (tok_apply _ arg1 harg1 arg2 harg2 arg3 harg3 x0 x1 x2) (wgt_apply arg4 harg4 x3 _) ((ROW (show 1 * 512 = 512 by omega)) p t) ⟨l.val, by omega⟩ ⟨4608 + m.val, by omega⟩ (by show 4608 + m.val = _ + l.val; omega))) ?_
    exact fun p h => absurd h List.not_mem_nil
  exact (key (ix4 0 p t m)).trans (congrFun hG _)

theorem out_21 (p : Fin 4) (t : Fin 128) (m : Fin 256) : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = PJC x0 x1 x2 x3 4864 (show 4864 + 256 ≤ 7424 by omega) ((ROW (show 4 * 128 = 512 by omega)) p t) m := by
  obtain ⟨G, hG⟩ : ∃ G : S1x4x128x256.Idx → EReal, G = (fun y : S1x4x128x256.Idx => PJC x0 x1 x2 x3 4864 (show 4864 + 256 ≤ 7424 by omega) ((ROW (show 4 * 128 = 512 by omega)) (y 1) (y 2)) (y 3)) := ⟨_, rfl⟩
  have key : ∀ y : S1x4x128x256.Idx, out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_21
    rw [View.read_writes_junk_eq_canon]
    refine View.canon_apply_of_pieces G _ ?_ y (cover0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons4 (fun t l p m hp hm => by
        refine (strip128 _ t l).trans ?_
        refine (read_b _ _ _ _ _ _ _ t l ((ROW (show 4 * 128 = 512 by omega)) p t) (ROW_eq _ t hp)).trans ?_
        rw [hG]
        exact (sliceB _ ((ROW (show 4 * 128 = 512 by omega)) p t) l).trans (acc_apply _ (tok_apply _ arg1 harg1 arg2 harg2 arg3 harg3 x0 x1 x2) (wgt_apply arg4 harg4 x3 _) ((ROW (show 4 * 128 = 512 by omega)) p t) ⟨128 + l.val, by omega⟩ ⟨4864 + m.val, by omega⟩ (by show 4864 + m.val = _ + (128 + l.val); omega))) ?_
      refine cons4 (fun t l p m hp hm => by
        refine (strip128 _ t l).trans ?_
        refine (read_a _ _ _ _ _ _ _ t l ((ROW (show 4 * 128 = 512 by omega)) p t) (ROW_eq _ t hp)).trans ?_
        rw [hG]
        exact (sliceA _ ((ROW (show 4 * 128 = 512 by omega)) p t) l).trans (acc_apply _ (tok_apply _ arg1 harg1 arg2 harg2 arg3 harg3 x0 x1 x2) (wgt_apply arg4 harg4 x3 _) ((ROW (show 4 * 128 = 512 by omega)) p t) ⟨l.val, by omega⟩ ⟨4864 + m.val, by omega⟩ (by show 4864 + m.val = _ + l.val; omega))) ?_
    exact fun p h => absurd h List.not_mem_nil
  exact (key (ix4 0 p t m)).trans (congrFun hG _)

theorem out_22 (p : Fin 16) (t : Fin 32) (m : Fin 256) : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = PJC x0 x1 x2 x3 5120 (show 5120 + 256 ≤ 7424 by omega) ((ROW (show 16 * 32 = 512 by omega)) p t) m := by
  obtain ⟨G, hG⟩ : ∃ G : S1x16x32x256.Idx → EReal, G = (fun y : S1x16x32x256.Idx => PJC x0 x1 x2 x3 5120 (show 5120 + 256 ≤ 7424 by omega) ((ROW (show 16 * 32 = 512 by omega)) (y 1) (y 2)) (y 3)) := ⟨_, rfl⟩
  have key : ∀ y : S1x16x32x256.Idx, out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_22
    rw [View.read_writes_junk_eq_canon]
    refine View.canon_apply_of_pieces G _ ?_ y (cover0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 16
      refine cons4 (fun t l p m hp hm => by
        refine (strip32 _ t l).trans ?_
        refine (read_b _ _ _ _ _ _ _ t l ((ROW (show 16 * 32 = 512 by omega)) p t) (ROW_eq _ t hp)).trans ?_
        rw [hG]
        exact (sliceB _ ((ROW (show 16 * 32 = 512 by omega)) p t) l).trans (acc_apply _ (tok_apply _ arg1 harg1 arg2 harg2 arg3 harg3 x0 x1 x2) (wgt_apply arg4 harg4 x3 _) ((ROW (show 16 * 32 = 512 by omega)) p t) ⟨128 + l.val, by omega⟩ ⟨5120 + m.val, by omega⟩ (by show 5120 + m.val = _ + (128 + l.val); omega))) ?_
      refine cons4 (fun t l p m hp hm => by
        refine (strip32 _ t l).trans ?_
        refine (read_a _ _ _ _ _ _ _ t l ((ROW (show 16 * 32 = 512 by omega)) p t) (ROW_eq _ t hp)).trans ?_
        rw [hG]
        exact (sliceA _ ((ROW (show 16 * 32 = 512 by omega)) p t) l).trans (acc_apply _ (tok_apply _ arg1 harg1 arg2 harg2 arg3 harg3 x0 x1 x2) (wgt_apply arg4 harg4 x3 _) ((ROW (show 16 * 32 = 512 by omega)) p t) ⟨l.val, by omega⟩ ⟨5120 + m.val, by omega⟩ (by show 5120 + m.val = _ + l.val; omega))) ?_
    exact fun p h => absurd h List.not_mem_nil
  exact (key (ix4 0 p t m)).trans (congrFun hG _)

theorem out_23 (r : Fin 512) (m : Fin 2048) : out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r m) = GTC x0 x1 x2 x3 x9 r m := by
  obtain ⟨G, hG⟩ : ∃ G : S512x2048.Idx → EReal, G = (fun y : S512x2048.Idx => GTC x0 x1 x2 x3 x9 (y 0) (y 1)) := ⟨_, rfl⟩
  have key : ∀ y : S512x2048.Idx, out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_23
    rw [View.read_writes_junk_eq_canon]
    refine View.canon_apply_of_pieces G _ ?_ y (cover0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 8
      refine cons2 (fun r l m hm => by
        rw [hG]
        exact (gate_apply _ _ r l).trans (congrArg₂ (fun a b : EReal => Ideal.logistic (a + b)) (acc_apply _ (tok_apply _ arg1 harg1 arg2 harg2 arg3 harg3 x0 x1 x2) (wgt_apply arg4 harg4 x3 _) r l ⟨5376 + m.val, by omega⟩ (by show 5376 + m.val = _ + l.val; omega)) (bias_apply arg10 harg10 x9 _ l m hm))) ?_
    exact fun p h => absurd h List.not_mem_nil
  exact (key (ix2 r m)).trans (congrFun hG _)

variable {ga gb : Fin 2 → Fin 64 → EReal} {cs sn : Fin 512 → Fin 8 → EReal}
    (hone : ∀ k l : Fin 256, x10 (ix2 k l) = if k.val / 64 = l.val / 64 then (1 : EReal) else 0)
    (hga : ∀ i (l : Fin 128), x7 (ix2 i l) = ga i ⟨l.val % 64, by omega⟩) (hgb : ∀ i (l : Fin 128), x8 (ix2 i l) = gb i ⟨l.val % 64, by omega⟩)
    (hc : ∀ r (l : Fin 128), x4 (ix2 r l) = if h : l.val % 64 < 16 then cs r ⟨l.val % 64 % 8, by omega⟩ else 1)
    (hs1 : ∀ r (l : Fin 128), x5 (ix2 r l) = if h : 8 ≤ l.val % 64 ∧ l.val % 64 < 16 then sn r ⟨l.val % 64 - 8, by omega⟩ else 0)
    (hs2 : ∀ r (l : Fin 128), x6 (ix2 r l) = if h : l.val % 64 < 8 then sn r ⟨l.val % 64, by omega⟩ else 0)

include hone hga hgb hc hs1 hs2 in
theorem out_11 (r : Fin 512) (m : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r m) = HVC (fun d => ga 0 d * Ideal.ofBits .f32 0x3E38AA3B#32) cs sn x0 x1 x2 x3 0 (show 0 + 1024 ≤ 7424 by omega) r m := by
  obtain ⟨G, hG⟩ : ∃ G : S512x1024.Idx → EReal, G = (fun y : S512x1024.Idx => HVC (fun d => ga 0 d * Ideal.ofBits .f32 0x3E38AA3B#32) cs sn x0 x1 x2 x3 0 (show 0 + 1024 ≤ 7424 by omega) (y 0) (y 1)) := ⟨_, rfl⟩
  have key : ∀ y : S512x1024.Idx, out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_11
    rw [View.read_writes_junk_eq_canon]
    refine View.canon_apply_of_pieces G _ ?_ y (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons2 (fun r l m hm => by
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (pay5_apply _ l).trans (congrArg (fun z : EReal => z * Ideal.ofBits .f32 0x3E38AA3B#32) ((gain_apply arg8 harg8 x7 _ 0 rfl l).trans (hga 0 l))))
          (fun r l => (tab_apply arg5 harg5 x4 r l).trans (hc r l)) (fun r l => (tab_apply arg6 harg6 x5 r l).trans (hs1 r l)) (fun r l => (tab_apply arg7 harg7 x6 r l).trans (hs2 r l)) r l ⟨0 + m.val, by omega⟩ (by show 0 + m.val = _ + (128 + l.val); omega)) ?_
      refine cons2 (fun r l m hm => by
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (pay5_apply _ l).trans (congrArg (fun z : EReal => z * Ideal.ofBits .f32 0x3E38AA3B#32) ((gain_apply arg8 harg8 x7 _ 0 rfl l).trans (hga 0 l))))
          (fun r l => (tab_apply arg5 harg5 x4 r l).trans (hc r l)) (fun r l => (tab_apply arg6 harg6 x5 r l).trans (hs1 r l)) (fun r l => (tab_apply arg7 harg7 x6 r l).trans (hs2 r l)) r l ⟨0 + m.val, by omega⟩ (by show 0 + m.val = _ + l.val; omega)) ?_
    exact fun p h => absurd h List.not_mem_nil
  exact (key (ix2 r m)).trans (congrFun hG _)

include hone hga hgb hc hs1 hs2 in
theorem out_12 (r : Fin 512) (m : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix2 r m) = HVC (ga 1) cs sn x0 x1 x2 x3 1024 (show 1024 + 1024 ≤ 7424 by omega) r m := by
  obtain ⟨G, hG⟩ : ∃ G : S512x1024.Idx → EReal, G = (fun y : S512x1024.Idx => HVC (ga 1) cs sn x0 x1 x2 x3 1024 (show 1024 + 1024 ≤ 7424 by omega) (y 0) (y 1)) := ⟨_, rfl⟩
  have key : ∀ y : S512x1024.Idx, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_12
    rw [View.read_writes_junk_eq_canon]
    refine View.canon_apply_of_pieces G _ ?_ y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons2 (fun r l m hm => by
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (gain_apply arg8 harg8 x7 _ 1 rfl l).trans (hga 1 l))
          (fun r l => (tab_apply arg5 harg5 x4 r l).trans (hc r l)) (fun r l => (tab_apply arg6 harg6 x5 r l).trans (hs1 r l)) (fun r l => (tab_apply arg7 harg7 x6 r l).trans (hs2 r l)) r l ⟨1024 + m.val, by omega⟩ (by show 1024 + m.val = _ + (128 + l.val); omega)) ?_
      refine cons2 (fun r l m hm => by
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (gain_apply arg8 harg8 x7 _ 1 rfl l).trans (hga 1 l))
          (fun r l => (tab_apply arg5 harg5 x4 r l).trans (hc r l)) (fun r l => (tab_apply arg6 harg6 x5 r l).trans (hs1 r l)) (fun r l => (tab_apply arg7 harg7 x6 r l).trans (hs2 r l)) r l ⟨1024 + m.val, by omega⟩ (by show 1024 + m.val = _ + l.val; omega)) ?_
    exact fun p h => absurd h List.not_mem_nil
  exact (key (ix2 r m)).trans (congrFun hG _)

include hone hga hgb hc hs1 hs2 in
theorem out_14 (p : Fin 1) (t : Fin 512) (m : Fin 256) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (fun d => gb 0 d * Ideal.ofBits .f32 0x3E000000#32) cs sn x0 x1 x2 x3 3072 (show 3072 + 256 ≤ 7424 by omega) ((ROW (show 1 * 512 = 512 by omega)) p t) m := by
  obtain ⟨G, hG⟩ : ∃ G : S1x1x512x256.Idx → EReal, G = (fun y : S1x1x512x256.Idx => HVC (fun d => gb 0 d * Ideal.ofBits .f32 0x3E000000#32) cs sn x0 x1 x2 x3 3072 (show 3072 + 256 ≤ 7424 by omega) ((ROW (show 1 * 512 = 512 by omega)) (y 1) (y 2)) (y 3)) := ⟨_, rfl⟩
  have key : ∀ y : S1x1x512x256.Idx, out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_14
    rw [View.read_writes_junk_eq_canon]
    refine View.canon_apply_of_pieces G _ ?_ y (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 1
      refine cons4 (fun t l p m hp hm => by
        refine (strip512 _ t l).trans ?_
        refine (read_b1 _ _ _ _ t l ((ROW (show 1 * 512 = 512 by omega)) p t) (by show p.val + 1 * t.val = t.val; omega)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 1 * 512 = 512 by omega)) p t) l ⟨3072 + m.val, by omega⟩ (by show 3072 + m.val = _ + (128 + l.val); omega)) ?_
      refine cons4 (fun t l p m hp hm => by
        refine (strip512 _ t l).trans ?_
        refine (read_a1 _ _ _ _ _ _ t l ((ROW (show 1 * 512 = 512 by omega)) p t) (by show p.val + 1 * t.val = t.val; omega)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 1 * 512 = 512 by omega)) p t) l ⟨3072 + m.val, by omega⟩ (by show 3072 + m.val = _ + l.val; omega)) ?_
    exact fun p h => absurd h List.not_mem_nil
  exact (key (ix4 0 p t m)).trans (congrFun hG _)

include hone hga hgb hc hs1 hs2 in
theorem out_15 (p : Fin 4) (t : Fin 128) (m : Fin 256) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (fun d => gb 0 d * Ideal.ofBits .f32 0x3E000000#32) cs sn x0 x1 x2 x3 3328 (show 3328 + 256 ≤ 7424 by omega) ((ROW (show 4 * 128 = 512 by omega)) p t) m := by
  obtain ⟨G, hG⟩ : ∃ G : S1x4x128x256.Idx → EReal, G = (fun y : S1x4x128x256.Idx => HVC (fun d => gb 0 d * Ideal.ofBits .f32 0x3E000000#32) cs sn x0 x1 x2 x3 3328 (show 3328 + 256 ≤ 7424 by omega) ((ROW (show 4 * 128 = 512 by omega)) (y 1) (y 2)) (y 3)) := ⟨_, rfl⟩
  have key : ∀ y : S1x4x128x256.Idx, out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_15
    rw [View.read_writes_junk_eq_canon]
    refine View.canon_apply_of_pieces G _ ?_ y (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons4 (fun t l p m hp hm => by
        refine (strip128 _ t l).trans ?_
        refine (read_b _ _ _ _ _ _ _ t l ((ROW (show 4 * 128 = 512 by omega)) p t) (ROW_eq _ t hp)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 4 * 128 = 512 by omega)) p t) l ⟨3328 + m.val, by omega⟩ (by show 3328 + m.val = _ + (128 + l.val); omega)) ?_
      refine cons4 (fun t l p m hp hm => by
        refine (strip128 _ t l).trans ?_
        refine (read_a _ _ _ _ _ _ _ t l ((ROW (show 4 * 128 = 512 by omega)) p t) (ROW_eq _ t hp)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 4 * 128 = 512 by omega)) p t) l ⟨3328 + m.val, by omega⟩ (by show 3328 + m.val = _ + l.val; omega)) ?_
    exact fun p h => absurd h List.not_mem_nil
  exact (key (ix4 0 p t m)).trans (congrFun hG _)

include hone hga hgb hc hs1 hs2 in
theorem out_16 (p : Fin 16) (t : Fin 32) (m : Fin 256) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (fun d => gb 0 d * Ideal.ofBits .f32 0x3E000000#32) cs sn x0 x1 x2 x3 3584 (show 3584 + 256 ≤ 7424 by omega) ((ROW (show 16 * 32 = 512 by omega)) p t) m := by
  obtain ⟨G, hG⟩ : ∃ G : S1x16x32x256.Idx → EReal, G = (fun y : S1x16x32x256.Idx => HVC (fun d => gb 0 d * Ideal.ofBits .f32 0x3E000000#32) cs sn x0 x1 x2 x3 3584 (show 3584 + 256 ≤ 7424 by omega) ((ROW (show 16 * 32 = 512 by omega)) (y 1) (y 2)) (y 3)) := ⟨_, rfl⟩
  have key : ∀ y : S1x16x32x256.Idx, out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_16
    rw [View.read_writes_junk_eq_canon]
    refine View.canon_apply_of_pieces G _ ?_ y (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 16
      refine cons4 (fun t l p m hp hm => by
        refine (strip32 _ t l).trans ?_
        refine (read_b _ _ _ _ _ _ _ t l ((ROW (show 16 * 32 = 512 by omega)) p t) (ROW_eq _ t hp)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 16 * 32 = 512 by omega)) p t) l ⟨3584 + m.val, by omega⟩ (by show 3584 + m.val = _ + (128 + l.val); omega)) ?_
      refine cons4 (fun t l p m hp hm => by
        refine (strip32 _ t l).trans ?_
        refine (read_a _ _ _ _ _ _ _ t l ((ROW (show 16 * 32 = 512 by omega)) p t) (ROW_eq _ t hp)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (pay6_apply _ l).trans (congrArg (fun z : EReal => z * Ideal.ofBits .f32 0x3E000000#32) ((gain_apply arg9 harg9 x8 _ 0 rfl l).trans (hgb 0 l))))
          (fun r l => (tab_apply arg5 harg5 x4 r l).trans (hc r l)) (fun r l => (tab_apply arg6 harg6 x5 r l).trans (hs1 r l)) (fun r l => (tab_apply arg7 harg7 x6 r l).trans (hs2 r l)) ((ROW (show 16 * 32 = 512 by omega)) p t) l ⟨3584 + m.val, by omega⟩ (by show 3584 + m.val = _ + l.val; omega)) ?_
    exact fun p h => absurd h List.not_mem_nil
  exact (key (ix4 0 p t m)).trans (congrFun hG _)

include hone hga hgb hc hs1 hs2 in
theorem out_17 (p : Fin 1) (t : Fin 512) (m : Fin 256) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (gb 1) cs sn x0 x1 x2 x3 3840 (show 3840 + 256 ≤ 7424 by omega) ((ROW (show 1 * 512 = 512 by omega)) p t) m := by
  obtain ⟨G, hG⟩ : ∃ G : S1x1x512x256.Idx → EReal, G = (fun y : S1x1x512x256.Idx => HVC (gb 1) cs sn x0 x1 x2 x3 3840 (show 3840 + 256 ≤ 7424 by omega) ((ROW (show 1 * 512 = 512 by omega)) (y 1) (y 2)) (y 3)) := ⟨_, rfl⟩
  have key : ∀ y : S1x1x512x256.Idx, out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_17
    rw [View.read_writes_junk_eq_canon]
    refine View.canon_apply_of_pieces G _ ?_ y (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 1
      refine cons4 (fun t l p m hp hm => by
        refine (strip512 _ t l).trans ?_
        refine (read_b1 _ _ _ _ t l ((ROW (show 1 * 512 = 512 by omega)) p t) (by show p.val + 1 * t.val = t.val; omega)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 1 * 512 = 512 by omega)) p t) l ⟨3840 + m.val, by omega⟩ (by show 3840 + m.val = _ + (128 + l.val); omega)) ?_
      refine cons4 (fun t l p m hp hm => by
        refine (strip512 _ t l).trans ?_
        refine (read_a1 _ _ _ _ _ _ t l ((ROW (show 1 * 512 = 512 by omega)) p t) (by show p.val + 1 * t.val = t.val; omega)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 1 * 512 = 512 by omega)) p t) l ⟨3840 + m.val, by omega⟩ (by show 3840 + m.val = _ + l.val; omega)) ?_
    exact fun p h => absurd h List.not_mem_nil
  exact (key (ix4 0 p t m)).trans (congrFun hG _)

include hone hga hgb hc hs1 hs2 in
theorem out_18 (p : Fin 4) (t : Fin 128) (m : Fin 256) : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (gb 1) cs sn x0 x1 x2 x3 4096 (show 4096 + 256 ≤ 7424 by omega) ((ROW (show 4 * 128 = 512 by omega)) p t) m := by
  obtain ⟨G, hG⟩ : ∃ G : S1x4x128x256.Idx → EReal, G = (fun y : S1x4x128x256.Idx => HVC (gb 1) cs sn x0 x1 x2 x3 4096 (show 4096 + 256 ≤ 7424 by omega) ((ROW (show 4 * 128 = 512 by omega)) (y 1) (y 2)) (y 3)) := ⟨_, rfl⟩
  have key : ∀ y : S1x4x128x256.Idx, out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_18
    rw [View.read_writes_junk_eq_canon]
    refine View.canon_apply_of_pieces G _ ?_ y (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 4
      refine cons4 (fun t l p m hp hm => by
        refine (strip128 _ t l).trans ?_
        refine (read_b _ _ _ _ _ _ _ t l ((ROW (show 4 * 128 = 512 by omega)) p t) (ROW_eq _ t hp)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 4 * 128 = 512 by omega)) p t) l ⟨4096 + m.val, by omega⟩ (by show 4096 + m.val = _ + (128 + l.val); omega)) ?_
      refine cons4 (fun t l p m hp hm => by
        refine (strip128 _ t l).trans ?_
        refine (read_a _ _ _ _ _ _ _ t l ((ROW (show 4 * 128 = 512 by omega)) p t) (ROW_eq _ t hp)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 4 * 128 = 512 by omega)) p t) l ⟨4096 + m.val, by omega⟩ (by show 4096 + m.val = _ + l.val; omega)) ?_
    exact fun p h => absurd h List.not_mem_nil
  exact (key (ix4 0 p t m)).trans (congrFun hG _)

include hone hga hgb hc hs1 hs2 in
theorem out_19 (p : Fin 16) (t : Fin 32) (m : Fin 256) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 (ix4 0 p t m) = HVC (gb 1) cs sn x0 x1 x2 x3 4352 (show 4352 + 256 ≤ 7424 by omega) ((ROW (show 16 * 32 = 512 by omega)) p t) m := by
  obtain ⟨G, hG⟩ : ∃ G : S1x16x32x256.Idx → EReal, G = (fun y : S1x16x32x256.Idx => HVC (gb 1) cs sn x0 x1 x2 x3 4352 (show 4352 + 256 ≤ 7424 by omega) ((ROW (show 16 * 32 = 512 by omega)) (y 1) (y 2)) (y 3)) := ⟨_, rfl⟩
  have key : ∀ y : S1x16x32x256.Idx, out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y = G y := fun y => by
    unfold out0_A_19
    rw [View.read_writes_junk_eq_canon]
    refine View.canon_apply_of_pieces G _ ?_ y (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 y)
    unfold kernelRun0_A
    dsimp only
    sl_unfold_words
    iterate 16
      refine cons4 (fun t l p m hp hm => by
        refine (strip32 _ t l).trans ?_
        refine (read_b _ _ _ _ _ _ _ t l ((ROW (show 16 * 32 = 512 by omega)) p t) (ROW_eq _ t hp)).trans ?_
        rw [hG]
        exact turnB _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 16 * 32 = 512 by omega)) p t) l ⟨4352 + m.val, by omega⟩ (by show 4352 + m.val = _ + (128 + l.val); omega)) ?_
      refine cons4 (fun t l p m hp hm => by
        refine (strip32 _ t l).trans ?_
        refine (read_a _ _ _ _ _ _ _ t l ((ROW (show 16 * 32 = 512 by omega)) p t) (ROW_eq _ t hp)).trans ?_
        rw [hG]
        exact turnA _ (by omega) (by omega) (tok_apply _ arg1 harg1 arg2 harg2 arg3 harg3 x0 x1 x2) (wgt_apply arg4 harg4 x3 _) (fun k l => (one_apply arg11 harg11 x10 k l).trans (hone k l)) (fun l => (gain_apply arg9 harg9 x8 _ 1 rfl l).trans (hgb 1 l))
          (fun r l => (tab_apply arg5 harg5 x4 r l).trans (hc r l)) (fun r l => (tab_apply arg6 harg6 x5 r l).trans (hs1 r l)) (fun r l => (tab_apply arg7 harg7 x6 r l).trans (hs2 r l)) ((ROW (show 16 * 32 = 512 by omega)) p t) l ⟨4352 + m.val, by omega⟩ (by show 4352 + m.val = _ + l.val; omega)) ?_
    exact fun p h => absurd h List.not_mem_nil
  exact (key (ix4 0 p t m)).trans (congrFun hG _)

end Cert.Inp

end
-- ==== Proof.Proj.Host.lean ====
/- What the host code before the launch leaves in the launch's prepared arrays: the rotary tables, the gains and the ones of the heads. -/
module

public import proofs.«01_k».proof.Proof.Proj.KernelIdeal.Frame
public import Idealize.ShloMosaic.Lib.StableHlo.RunRead
public import Idealize.ShloMosaic.Lib.Pipeline.ValueKit

@[expose] public section

set_option maxRecDepth 16384

noncomputable section

namespace Cert.Inp

open Cert.ProjIdeal Cert.ProjIdeal.Gen Idealize.ShloMosaic
open Idealize.ShloMosaic.TcCoe Idealize.ShloMosaic.Tactic Idealize.SL.Sem

theorem one32 : Ideal.ofBits .f32 0x3F800000#32 = 1 := by
  have e1 : (1065353216 >>> 23 : ℕ) % 256 = 127 := by decide
  have e2 : ¬BitVec.extractLsb' 31 1 1065353216#32 = 1#1 := by decide
  norm_num [Ideal.ofBits, Ideal.ieee, e1, e2]
theorem zero32 : Ideal.ofBits .f32 0x00000000#32 = 0 := by simp [Ideal.ofBits, Ideal.ieee]

variable (m : (ℓ : Loc nD τ sig) → Buf (Elt Ideal) ℓ)

/-- The tables and the gains as the call was given them. -/
abbrev A4 (c : Dev nD) : S32768x8.Idx → EReal := m ((c : Thread nD τ).loc main_arg4)
abbrev A5 (c : Dev nD) : S32768x8.Idx → EReal := m ((c : Thread nD τ).loc main_arg5)
abbrev A6 (c : Dev nD) : S2x64.Idx → EReal := m ((c : Thread nD τ).loc main_arg6)
abbrev A7 (c : Dev nD) : S2x64.Idx → EReal := m ((c : Thread nD τ).loc main_arg7)

/-- The two halves of a row hold the same 64 entries. -/
theorem tile_row (x : S32768x64.Idx → EReal) (n : Fin 32768) (l : Fin 128) :
    shapeCast S32768x128 (broadcastInDim S1x32768x2x64 ![0, 1, 2, 3] bcast_S1x32768x1x64_S1x32768x2x64_0_1_2_3
      (shapeCast S1x32768x1x64 x shapeCasts_S32768x64_S1x32768x1x64)) shapeCasts_S1x32768x2x64_S32768x128 (ix2 n l) = x (ix2 n ⟨l.val % 64, by omega⟩) := by
  rw [shapeCast_apply _ shapeCasts_S1x32768x2x64_S32768x128 (ix2 n l) (ix4 0 n ⟨l.val / 64, by omega⟩ ⟨l.val % 64, by omega⟩) (by
      rewrite [Shape.rowMajor_val_four, Shape.rowMajor_val_two]; show ((0 * 32768 + n.val) * 2 + l.val / 64) * 64 + l.val % 64 = n.val * 128 + l.val; omega),
    broadcastInDim_apply _ bcast_S1x32768x1x64_S1x32768x2x64_0_1_2_3 _ _ (ix4 0 n 0 ⟨l.val % 64, by omega⟩) (fun a => match a with
      | ⟨0, _⟩ => (if_pos rfl).symm | ⟨1, _⟩ => (if_neg (show ¬(32768 : ℕ) = 1 by decide)).symm | ⟨2, _⟩ => (if_pos rfl).symm
      | ⟨3, _⟩ => (if_neg (show ¬(64 : ℕ) = 1 by decide)).symm),
    shapeCast_apply _ shapeCasts_S32768x64_S1x32768x1x64 _ (ix2 n ⟨l.val % 64, by omega⟩) (by
      rewrite [Shape.rowMajor_val_two, Shape.rowMajor_val_four]; show n.val * 64 + l.val % 64 = ((0 * 32768 + n.val) * 1 + 0) * 64 + l.val % 64; omega)]
theorem tile_gain (x : S2x64.Idx → EReal) (n : Fin 2) (l : Fin 128) :
    shapeCast S2x128 (broadcastInDim S1x2x2x64 ![0, 1, 2, 3] bcast_S1x2x1x64_S1x2x2x64_0_1_2_3
      (shapeCast S1x2x1x64 x shapeCasts_S2x64_S1x2x1x64)) shapeCasts_S1x2x2x64_S2x128 (ix2 n l) = x (ix2 n ⟨l.val % 64, by omega⟩) := by
  rw [shapeCast_apply _ shapeCasts_S1x2x2x64_S2x128 (ix2 n l) (ix4 0 n ⟨l.val / 64, by omega⟩ ⟨l.val % 64, by omega⟩) (by
      rewrite [Shape.rowMajor_val_four, Shape.rowMajor_val_two]; show ((0 * 2 + n.val) * 2 + l.val / 64) * 64 + l.val % 64 = n.val * 128 + l.val; omega),
    broadcastInDim_apply _ bcast_S1x2x1x64_S1x2x2x64_0_1_2_3 _ _ (ix4 0 n 0 ⟨l.val % 64, by omega⟩) (fun a => match a with
      | ⟨0, _⟩ => (if_pos rfl).symm | ⟨1, _⟩ => (if_neg (show ¬(2 : ℕ) = 1 by decide)).symm | ⟨2, _⟩ => (if_pos rfl).symm
      | ⟨3, _⟩ => (if_neg (show ¬(64 : ℕ) = 1 by decide)).symm),
    shapeCast_apply _ shapeCasts_S2x64_S1x2x1x64 _ (ix2 n ⟨l.val % 64, by omega⟩) (by
      rewrite [Shape.rowMajor_val_two, Shape.rowMajor_val_four]; show n.val * 64 + l.val % 64 = ((0 * 2 + n.val) * 1 + 0) * 64 + l.val % 64; omega)]

/-- A row of a rotary table: eight entries, eight more, then the rest. -/
theorem cat_row (x y : S32768x8.Idx → EReal) (z : S32768x48.Idx → EReal) (n : Fin 32768) (d : Fin 64) :
    concatenate S32768x64 1 [⟨S32768x8, x⟩, ⟨S32768x8, y⟩, ⟨S32768x48, z⟩] concatenates_S32768x8_S32768x8_S32768x48_S32768x64_d1 (ix2 n d)
      = if h : d.val < 8 then x (ix2 n ⟨d.val, h⟩) else if h2 : d.val < 16 then y (ix2 n ⟨d.val - 8, by omega⟩) else z (ix2 n ⟨d.val - 16, by omega⟩) := by
  have hb : ∀ {w : ℕ} (e : Fin w) (b : Fin 2), b.cast (rfl : 2 = S32768x64.rank) ≠ 1 → ((ix2 n e : (⟨2, ![32768, w]⟩ : Shape).Idx) b).val = ((ix2 n d : S32768x64.Idx) b).val :=
    fun e b hb => match b with
      | ⟨0, _⟩ => rfl
      | ⟨1, _⟩ => absurd rfl hb
  by_cases h : d.val < 8
  · rw [dif_pos h]
    exact concatenate_apply_piece 1 _ _ (ix2 n d) 0 (by simp) S32768x8 x rfl rfl 0 rfl (ix2 n ⟨d.val, h⟩) (hb _) (by show 0 + d.val = d.val; omega)
  · by_cases h2 : d.val < 16
    · rw [dif_neg h, dif_pos h2]
      exact concatenate_apply_piece 1 _ _ (ix2 n d) 1 (by simp) S32768x8 y rfl rfl 8 rfl (ix2 n ⟨d.val - 8, by omega⟩) (hb _) (by show 8 + (d.val - 8) = d.val; omega)
    · rw [dif_neg h, dif_neg h2]
      exact concatenate_apply_piece 1 _ _ (ix2 n d) 2 (by simp) S32768x48 z rfl rfl 16 rfl (ix2 n ⟨d.val - 16, by omega⟩) (hb _) (by show 16 + (d.val - 16) = d.val; omega)

abbrev CAT (x y : S32768x8.Idx → EReal) (z : S32768x48.Idx → EReal) : S32768x128.Idx → EReal :=
  shapeCast S32768x128 (broadcastInDim S1x32768x2x64 ![0, 1, 2, 3] bcast_S1x32768x1x64_S1x32768x2x64_0_1_2_3 (shapeCast S1x32768x1x64
    (concatenate S32768x64 1 [⟨S32768x8, x⟩, ⟨S32768x8, y⟩, ⟨S32768x48, z⟩] concatenates_S32768x8_S32768x8_S32768x48_S32768x64_d1)
    shapeCasts_S32768x64_S1x32768x1x64)) shapeCasts_S1x32768x2x64_S32768x128

theorem host_cos (c : Dev nD) (n : Fin 32768) (l : Fin 128) : (V m c main_v8 : S32768x128.Idx → EReal) (ix2 n l)
    = (if h : l.val % 64 < 16 then A4 m c (ix2 n ⟨l.val % 64 % 8, by omega⟩) else 1 : EReal) := by
  have e : (V m c main_v8 : S32768x128.Idx → EReal) = CAT (A4 m c) (A4 m c) (fun _ => Ideal.ofBits .f32 0x3F800000#32) := by
    unfold V
    after_reads_simp
    rfl
  rw [e, CAT, tile_row, cat_row]
  by_cases h : l.val % 64 < 8
  · rw [dif_pos h, dif_pos (by omega)]
    exact congrArg (fun k => A4 m c (ix2 n k)) (Fin.ext (by show l.val % 64 = l.val % 64 % 8; omega))
  · by_cases h2 : l.val % 64 < 16
    · rw [dif_neg h, dif_pos h2, dif_pos h2]
      exact congrArg (fun k => A4 m c (ix2 n k)) (Fin.ext (by show l.val % 64 - 8 = l.val % 64 % 8; omega))
    · rw [dif_neg h, dif_neg h2, dif_neg h2]
      exact one32
theorem host_up (c : Dev nD) (n : Fin 32768) (l : Fin 128) : (V m c main_v11 : S32768x128.Idx → EReal) (ix2 n l)
    = (if h : 8 ≤ l.val % 64 ∧ l.val % 64 < 16 then A5 m c (ix2 n ⟨l.val % 64 - 8, by omega⟩) else 0 : EReal) := by
  have e : (V m c main_v11 : S32768x128.Idx → EReal) = CAT (fun _ => Ideal.ofBits .f32 0x00000000#32) (A5 m c) (fun _ => Ideal.ofBits .f32 0x00000000#32) := by
    unfold V
    after_reads_simp
    rfl
  rw [e, CAT, tile_row, cat_row]
  by_cases h : l.val % 64 < 8
  · rw [dif_pos h, dif_neg (by omega)]
    exact zero32
  · by_cases h2 : l.val % 64 < 16
    · rw [dif_neg h, dif_pos h2, dif_pos (by omega)]
    · rw [dif_neg h, dif_neg h2, dif_neg (by omega)]
      exact zero32
theorem host_down (c : Dev nD) (n : Fin 32768) (l : Fin 128) : (V m c main_v14 : S32768x128.Idx → EReal) (ix2 n l)
    = (if h : l.val % 64 < 8 then A5 m c (ix2 n ⟨l.val % 64, by omega⟩) else 0 : EReal) := by
  have e : (V m c main_v14 : S32768x128.Idx → EReal) = CAT (A5 m c) (fun _ => Ideal.ofBits .f32 0x00000000#32) (fun _ => Ideal.ofBits .f32 0x00000000#32) := by
    unfold V
    after_reads_simp
    rfl
  rw [e, CAT, tile_row, cat_row]
  by_cases h : l.val % 64 < 8
  · rw [dif_pos h, dif_pos h]
  · rw [dif_neg h, dif_neg h]
    split
    · exact zero32
    · exact zero32

theorem host_gain_a (c : Dev nD) (n : Fin 2) (l : Fin 128) : (V m c main_v17 : S2x128.Idx → EReal) (ix2 n l)
    = A6 m c (ix2 n ⟨l.val % 64, by omega⟩) := by
  refine Eq.trans (congrFun ?_ _) (tile_gain (A6 m c) n l)
  unfold V
  after_reads_simp
  rfl
theorem host_gain_b (c : Dev nD) (n : Fin 2) (l : Fin 128) : (V m c main_v20 : S2x128.Idx → EReal) (ix2 n l)
    = A7 m c (ix2 n ⟨l.val % 64, by omega⟩) := by
  refine Eq.trans (congrFun ?_ _) (tile_gain (A7 m c) n l)
  unfold V
  after_reads_simp
  rfl

/-- The head of a column, by the host's floor division. -/
def FD : S256.Idx → BitVec 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))
theorem FD_apply : ∀ k : Fin 256, FD (ix1 k) = BitVec.ofNat 32 (k.val / 64) := by decide +kernel

theorem host_ones (c : Dev nD) (k l : Fin 256) : (V m c main_v28 : S256x256.Idx → EReal) (ix2 k l) = (if k.val / 64 = l.val / 64 then 1 else 0 : EReal) := by
  have e : (V m c main_v28 : S256x256.Idx → EReal) = uitofp (F := Ideal) .bf16 (cmpi .eq
      (broadcastInDim S256x256 ![0, 1] bcast_S256x1_S256x256_0_1 (broadcastInDim S256x1 ![0] bcast_S256_S256x1_0 FD))
      (broadcastInDim S256x256 ![0, 1] bcast_S1x256_S256x256_0_1 (broadcastInDim S1x256 ![1] bcast_S256_S1x256_1 FD))) := by
    unfold V
    after_reads_simp
    rfl
  rw [e]
  show (((cmpi .eq (broadcastInDim S256x256 ![0, 1] bcast_S256x1_S256x256_0_1 (broadcastInDim S256x1 ![0] bcast_S256_S256x1_0 FD))
      (broadcastInDim S256x256 ![0, 1] bcast_S1x256_S256x256_0_1 (broadcastInDim S1x256 ![1] bcast_S256_S1x256_1 FD)) (ix2 k l)).toNat : ℝ) : EReal) = _
  have e1 : broadcastInDim S256x256 ![0, 1] bcast_S256x1_S256x256_0_1 (broadcastInDim S256x1 ![0] bcast_S256_S256x1_0 FD) (ix2 k l) = BitVec.ofNat 32 (k.val / 64) := by
    rw [broadcastInDim_apply _ bcast_S256x1_S256x256_0_1 _ _ (ix2 k 0) (fun a => match a with | ⟨0, _⟩ => rfl | ⟨1, _⟩ => rfl),
      broadcastInDim_apply _ bcast_S256_S256x1_0 _ _ (ix1 k) (fun a => match a with | ⟨0, _⟩ => rfl), FD_apply]
  have e2 : broadcastInDim S256x256 ![0, 1] bcast_S1x256_S256x256_0_1 (broadcastInDim S1x256 ![1] bcast_S256_S1x256_1 FD) (ix2 k l) = BitVec.ofNat 32 (l.val / 64) := by
    rw [broadcastInDim_apply _ bcast_S1x256_S256x256_0_1 _ _ (ix2 0 l) (fun a => match a with | ⟨0, _⟩ => rfl | ⟨1, _⟩ => rfl),
      broadcastInDim_apply _ bcast_S256_S1x256_1 _ _ (ix1 l) (fun a => match a with | ⟨0, _⟩ => rfl), FD_apply]
  have e3 : cmpi .eq (broadcastInDim S256x256 ![0, 1] bcast_S256x1_S256x256_0_1 (broadcastInDim S256x1 ![0] bcast_S256_S256x1_0 FD))
      (broadcastInDim S256x256 ![0, 1] bcast_S1x256_S256x256_0_1 (broadcastInDim S1x256 ![1] bcast_S256_S1x256_1 FD)) (ix2 k l)
      = BitVec.ofBool (decide (BitVec.ofNat 32 (k.val / 64) = BitVec.ofNat 32 (l.val / 64))) := by
    rw [← e1, ← e2]
    rfl
  rw [e3]
  have hk : k.val / 64 < 4 := by omega
  have hl : l.val / 64 < 4 := by omega
  by_cases h : k.val / 64 = l.val / 64
  · rw [if_pos h, h]
    simp
  · rw [if_neg h]
    have hne : BitVec.ofNat 32 (k.val / 64) ≠ BitVec.ofNat 32 (l.val / 64) := fun hh => h (by
      have := congrArg BitVec.toNat hh
      simp only [BitVec.toNat_ofNat] at this
      omega)
    simp [hne]

end Cert.Inp

end
-- ==== Proof.Proj.Layer.lean ====
/- The input projection of a token: its normed row, a column of its product, a column of a normed and turned head. -/
module

public import proofs.«01_k».proof.Proof.Proj.Pieces

@[expose] public section

noncomputable section

namespace Cert.Inp

open Cert.ProjIdeal Idealize.ShloMosaic

/-- Token `n`, normed and modulated, from the whole arrays. -/
def TK (x0 : S32768x1024.Idx → EReal) (x1 : S8x1x6144.Idx → EReal) (x2 : S1x1024.Idx → EReal) (n : Fin 32768) : Fin 1024 → EReal :=
  Post.HN (fun k => x0 (ix2 n k)) (Post.RS fun k => x0 (ix2 n k)) (fun k => x2 (ix2 0 k)) (fun k => x1 (ix3 ⟨n.val / 4096, by omega⟩ 0 ⟨1024 + k.val, by omega⟩))
    (fun k => x1 (ix3 ⟨n.val / 4096, by omega⟩ 0 ⟨k.val, by omega⟩))
/-- Column `j` of token `n`. -/
def PN (x0 : S32768x1024.Idx → EReal) (x1 : S8x1x6144.Idx → EReal) (x2 : S1x1024.Idx → EReal) (x3 : S1024x7424.Idx → EReal) (n : Fin 32768) (j : Fin 7424) : EReal :=
  PJ (TK x0 x1 x2 n) (fun k l => x3 (ix2 k l)) j
/-- Column `j` of token `n`, normed in its head with the gain `G` and turned. -/
def HG (x0 : S32768x1024.Idx → EReal) (x1 : S8x1x6144.Idx → EReal) (x2 : S1x1024.Idx → EReal) (x3 : S1024x7424.Idx → EReal) (x4 x5 : S32768x8.Idx → EReal)
    (G : Fin 64 → EReal) (n : Fin 32768) (j : Fin 7424) : EReal := HV G (fun e => x4 (ix2 n e)) (fun e => x5 (ix2 n e)) (PN x0 x1 x2 x3 n) j

/-- The token at place `s` of residue `p` in batch entry `b`. -/
def NB {D T : ℕ} (h : D * T = 4096) (b : Fin 8) (p : Fin D) (s : Fin T) : Fin 32768 :=
  ⟨b.val * 4096 + (p.val + D * s.val), by have := Nat.mul_le_mul_left D (show s.val + 1 ≤ T from s.isLt); rw [Nat.mul_add, h] at this; omega⟩

end Cert.Inp

end
-- ==== Proof.Proj.Grid.lean ====
/- The input projection's launch: every block of its results holds the columns of the block's tokens. -/
module

public import proofs.«01_k».proof.Proof.Proj.Outs
public import proofs.«01_k».proof.Proof.Proj.Host
public import proofs.«01_k».proof.Proof.Proj.Layer

@[expose] public section

set_option maxRecDepth 16384

noncomputable section

namespace Cert.Inp

open Cert.ProjIdeal Cert.ProjIdeal.Gen Idealize.ShloMosaic
open Idealize.ShloMosaic.TcCoe Idealize.ShloMosaic.Tactic Idealize.SL.Sem

variable (m : (ℓ : Loc nD τ sig) → Buf (Elt Ideal) ℓ)

/-- The other arrays as the call was given them. -/
abbrev A0 (c : Dev nD) : S32768x1024.Idx → EReal := m ((c : Thread nD τ).loc main_arg0)
abbrev A1 (c : Dev nD) : S8x1x6144.Idx → EReal := m ((c : Thread nD τ).loc main_arg1)
abbrev A2 (c : Dev nD) : S1x1024.Idx → EReal := m ((c : Thread nD τ).loc main_arg2)
abbrev A3 (c : Dev nD) : S1024x7424.Idx → EReal := m ((c : Thread nD τ).loc main_arg3)
abbrev A8 (c : Dev nD) : S1x2048.Idx → EReal := m ((c : Thread nD τ).loc main_arg8)

/-- The blocks that a point is given. -/
abbrev B0 (c : Dev nD) (t : Fin cfg0.N) : Vec Ideal S512x1024 .f32 := iblk m c 0 t
abbrev B1 (c : Dev nD) (t : Fin cfg0.N) : Vec Ideal S1x1x6144 .f32 := iblk m c 1 t
abbrev B2 (c : Dev nD) (t : Fin cfg0.N) : Vec Ideal S1x1024 .f32 := iblk m c 2 t
abbrev B3 (c : Dev nD) (t : Fin cfg0.N) : Vec Ideal S1024x7424 .bf16 := iblk m c 3 t
abbrev B4 (c : Dev nD) (t : Fin cfg0.N) : Vec Ideal S512x128 .f32 := iblk m c 4 t
abbrev B5 (c : Dev nD) (t : Fin cfg0.N) : Vec Ideal S512x128 .f32 := iblk m c 5 t
abbrev B6 (c : Dev nD) (t : Fin cfg0.N) : Vec Ideal S512x128 .f32 := iblk m c 6 t
abbrev B7 (c : Dev nD) (t : Fin cfg0.N) : Vec Ideal S2x128 .f32 := iblk m c 7 t
abbrev B8 (c : Dev nD) (t : Fin cfg0.N) : Vec Ideal S2x128 .f32 := iblk m c 8 t
abbrev B9 (c : Dev nD) (t : Fin cfg0.N) : Vec Ideal S1x2048 .f32 := iblk m c 9 t
abbrev B10 (c : Dev nD) (t : Fin cfg0.N) : Vec Ideal S256x256 .bf16 := iblk m c 10 t

/-- Point `t` works on the tokens from `512 t` on, of batch entry `t / 8`, with the whole weights. -/
theorem at0 : ∀ t : Fin cfg0.N, (cfg0.win 0).index t 0 = t.val ∧ (cfg0.win 0).index t 1 = 0 := by decide +kernel
theorem at1 : ∀ t : Fin cfg0.N, (cfg0.win 1).index t 0 = t.val / 8 ∧ (cfg0.win 1).index t 1 = 0 ∧ (cfg0.win 1).index t 2 = 0 := by decide +kernel
theorem at2 : ∀ t : Fin cfg0.N, (cfg0.win 2).index t 0 = 0 ∧ (cfg0.win 2).index t 1 = 0 := by decide +kernel
theorem at3 : ∀ t : Fin cfg0.N, (cfg0.win 3).index t 0 = 0 ∧ (cfg0.win 3).index t 1 = 0 := by decide +kernel
theorem at4 : ∀ t : Fin cfg0.N, (cfg0.win 4).index t 0 = t.val ∧ (cfg0.win 4).index t 1 = 0 := by decide +kernel
theorem at5 : ∀ t : Fin cfg0.N, (cfg0.win 5).index t 0 = t.val ∧ (cfg0.win 5).index t 1 = 0 := by decide +kernel
theorem at6 : ∀ t : Fin cfg0.N, (cfg0.win 6).index t 0 = t.val ∧ (cfg0.win 6).index t 1 = 0 := by decide +kernel
theorem at7 : ∀ t : Fin cfg0.N, (cfg0.win 7).index t 0 = 0 ∧ (cfg0.win 7).index t 1 = 0 := by decide +kernel
theorem at8 : ∀ t : Fin cfg0.N, (cfg0.win 8).index t 0 = 0 ∧ (cfg0.win 8).index t 1 = 0 := by decide +kernel
theorem at9 : ∀ t : Fin cfg0.N, (cfg0.win 9).index t 0 = 0 ∧ (cfg0.win 9).index t 1 = 0 := by decide +kernel
theorem at10 : ∀ t : Fin cfg0.N, (cfg0.win 10).index t 0 = 0 ∧ (cfg0.win 10).index t 1 = 0 := by decide +kernel

theorem B0_apply (c : Dev nD) (t : Fin cfg0.N) (y : S512x1024.Idx) (i : S32768x1024.Idx) (h0 : (i 0).val = t.val * 512 + (y 0).val)
    (h1 : (i 1).val = (y 1).val) : B0 m c t y = A0 m c i := by
  obtain ⟨e0, e1⟩ := at0 t
  refine Eq.trans ?_ (congrFun (V_main_arg0 m c) i)
  blk_ext [B0, iblk, V, e0, e1]
theorem B1_apply (c : Dev nD) (t : Fin cfg0.N) (y : S1x1x6144.Idx) (i : S8x1x6144.Idx) (h0 : (i 0).val = t.val / 8)
    (h2 : (i 2).val = (y 2).val) : B1 m c t y = A1 m c i := by
  obtain ⟨e0, e1, e2⟩ := at1 t
  have hy0 : (y 0).val < 1 := (y 0).isLt
  have hy1 : (y 1).val < 1 := (y 1).isLt
  have hi1 : (i 1).val < 1 := (i 1).isLt
  refine Eq.trans ?_ (congrFun (V_main_arg1 m c) i)
  blk_ext [B1, iblk, V, e0, e1, e2]
theorem B2_apply (c : Dev nD) (t : Fin cfg0.N) (y : S1x1024.Idx) : B2 m c t y = A2 m c y := by
  obtain ⟨e0, e1⟩ := at2 t
  refine Eq.trans ?_ (congrFun (V_main_arg2 m c) y)
  blk_ext [B2, iblk, V, e0, e1]
theorem B3_apply (c : Dev nD) (t : Fin cfg0.N) (y : S1024x7424.Idx) : B3 m c t y = A3 m c y := by
  obtain ⟨e0, e1⟩ := at3 t
  refine Eq.trans ?_ (congrFun (V_main_arg3 m c) y)
  blk_ext [B3, iblk, V, e0, e1]
theorem B4_apply (c : Dev nD) (t : Fin cfg0.N) (y : S512x128.Idx) (i : S32768x128.Idx) (h0 : (i 0).val = t.val * 512 + (y 0).val)
    (h1 : (i 1).val = (y 1).val) : B4 m c t y = (V m c main_v8 : S32768x128.Idx → EReal) i := by
  obtain ⟨e0, e1⟩ := at4 t
  blk_ext [B4, iblk, V, e0, e1]
theorem B5_apply (c : Dev nD) (t : Fin cfg0.N) (y : S512x128.Idx) (i : S32768x128.Idx) (h0 : (i 0).val = t.val * 512 + (y 0).val)
    (h1 : (i 1).val = (y 1).val) : B5 m c t y = (V m c main_v11 : S32768x128.Idx → EReal) i := by
  obtain ⟨e0, e1⟩ := at5 t
  blk_ext [B5, iblk, V, e0, e1]
theorem B6_apply (c : Dev nD) (t : Fin cfg0.N) (y : S512x128.Idx) (i : S32768x128.Idx) (h0 : (i 0).val = t.val * 512 + (y 0).val)
    (h1 : (i 1).val = (y 1).val) : B6 m c t y = (V m c main_v14 : S32768x128.Idx → EReal) i := by
  obtain ⟨e0, e1⟩ := at6 t
  blk_ext [B6, iblk, V, e0, e1]
theorem B7_apply (c : Dev nD) (t : Fin cfg0.N) (y : S2x128.Idx) : B7 m c t y = (V m c main_v17 : S2x128.Idx → EReal) y := by
  obtain ⟨e0, e1⟩ := at7 t
  blk_ext [B7, iblk, V, e0, e1]
theorem B8_apply (c : Dev nD) (t : Fin cfg0.N) (y : S2x128.Idx) : B8 m c t y = (V m c main_v20 : S2x128.Idx → EReal) y := by
  obtain ⟨e0, e1⟩ := at8 t
  blk_ext [B8, iblk, V, e0, e1]
theorem B9_apply (c : Dev nD) (t : Fin cfg0.N) (y : S1x2048.Idx) : B9 m c t y = A8 m c y := by
  obtain ⟨e0, e1⟩ := at9 t
  refine Eq.trans ?_ (congrFun (V_main_arg8 m c) y)
  blk_ext [B9, iblk, V, e0, e1]
theorem B10_apply (c : Dev nD) (t : Fin cfg0.N) (y : S256x256.Idx) : B10 m c t y = (V m c main_v28 : S256x256.Idx → EReal) y := by
  obtain ⟨e0, e1⟩ := at10 t
  blk_ext [B10, iblk, V, e0, e1]

/-- The token of a point's row. -/
abbrev TN (t : Fin cfg0.N) (r : Fin 512) : Fin 32768 := ⟨t.val * 512 + r.val, by have : t.val < 64 := t.isLt; omega⟩

theorem tok_block (c : Dev nD) (t : Fin cfg0.N) (r : Fin 512) : TOK (B0 m c t) (B1 m c t) (B2 m c t) r = TK (A0 m c) (A1 m c) (A2 m c) (TN t r) := by
  have hN : t.val < 64 := t.isLt
  have e0 : ∀ k : Fin 1024, B0 m c t (ix2 r k) = A0 m c (ix2 (TN t r) k) := fun k => B0_apply m c t (ix2 r k) (ix2 (TN t r) k) rfl rfl
  have e1 : ∀ k : Fin 6144, B1 m c t (ix3 0 0 k) = A1 m c (ix3 ⟨(TN t r).val / 4096, by omega⟩ 0 k) := fun k =>
    B1_apply m c t (ix3 0 0 k) (ix3 ⟨(TN t r).val / 4096, by omega⟩ 0 k) (by show (t.val * 512 + r.val) / 4096 = t.val / 8; omega) rfl
  unfold TOK TK
  simp only [e0, e1, B2_apply]
theorem pj_block (c : Dev nD) (t : Fin cfg0.N) (r : Fin 512) :
    PJ (TOK (B0 m c t) (B1 m c t) (B2 m c t) r) (fun k l => B3 m c t (ix2 k l)) = PN (A0 m c) (A1 m c) (A2 m c) (A3 m c) (TN t r) := by
  funext j
  simp only [tok_block, B3_apply, PN]
theorem pjc_block (c : Dev nD) (t : Fin cfg0.N) (b : ℕ) {C : ℕ} (h : b + C ≤ 7424) (r : Fin 512) (l : Fin C) :
    PJC (B0 m c t) (B1 m c t) (B2 m c t) (B3 m c t) b h r l = PN (A0 m c) (A1 m c) (A2 m c) (A3 m c) (TN t r) ⟨b + l.val, by omega⟩ :=
  congrFun (pj_block m c t r) _
theorem hvc_block (c : Dev nD) (t : Fin cfg0.N) (G : Fin 64 → EReal) (b : ℕ) {C : ℕ} (h : b + C ≤ 7424) (r : Fin 512) (l : Fin C) :
    HVC G (fun r e => A4 m c (ix2 (TN t r) e)) (fun r e => A5 m c (ix2 (TN t r) e)) (B0 m c t) (B1 m c t) (B2 m c t) (B3 m c t) b h r l
      = HG (A0 m c) (A1 m c) (A2 m c) (A3 m c) (A4 m c) (A5 m c) G (TN t r) ⟨b + l.val, by omega⟩ := by
  unfold HVC HG
  rw [pj_block]

theorem one_block (c : Dev nD) (t : Fin cfg0.N) (k l : Fin 256) : B10 m c t (ix2 k l) = if k.val / 64 = l.val / 64 then (1 : EReal) else 0 :=
  (B10_apply m c t _).trans (host_ones m c k l)
theorem ga_block (c : Dev nD) (t : Fin cfg0.N) (i : Fin 2) (l : Fin 128) : B7 m c t (ix2 i l) = A6 m c (ix2 i ⟨l.val % 64, by omega⟩) :=
  (B7_apply m c t _).trans (host_gain_a m c i l)
theorem gb_block (c : Dev nD) (t : Fin cfg0.N) (i : Fin 2) (l : Fin 128) : B8 m c t (ix2 i l) = A7 m c (ix2 i ⟨l.val % 64, by omega⟩) :=
  (B8_apply m c t _).trans (host_gain_b m c i l)
theorem cos_block (c : Dev nD) (t : Fin cfg0.N) (r : Fin 512) (l : Fin 128) :
    B4 m c t (ix2 r l) = (if h : l.val % 64 < 16 then A4 m c (ix2 (TN t r) ⟨l.val % 64 % 8, by omega⟩) else 1 : EReal) :=
  (B4_apply m c t _ (ix2 (TN t r) l) rfl rfl).trans (host_cos m c (TN t r) l)
theorem up_block (c : Dev nD) (t : Fin cfg0.N) (r : Fin 512) (l : Fin 128) :
    B5 m c t (ix2 r l) = (if h : 8 ≤ l.val % 64 ∧ l.val % 64 < 16 then A5 m c (ix2 (TN t r) ⟨l.val % 64 - 8, by omega⟩) else 0 : EReal) :=
  (B5_apply m c t _ (ix2 (TN t r) l) rfl rfl).trans (host_up m c (TN t r) l)
theorem down_block (c : Dev nD) (t : Fin cfg0.N) (r : Fin 512) (l : Fin 128) :
    B6 m c t (ix2 r l) = (if h : l.val % 64 < 8 then A5 m c (ix2 (TN t r) ⟨l.val % 64, by omega⟩) else 0 : EReal) :=
  (B6_apply m c t _ (ix2 (TN t r) l) rfl rfl).trans (host_down m c (TN t r) l)

theorem gtc_block (c : Dev nD) (t : Fin cfg0.N) (r : Fin 512) (j : Fin 2048) : GTC (B0 m c t) (B1 m c t) (B2 m c t) (B3 m c t) (B9 m c t) r j
    = Ideal.logistic (PN (A0 m c) (A1 m c) (A2 m c) (A3 m c) (TN t r) ⟨5376 + j.val, by omega⟩ + A8 m c (ix2 0 j)) := by
  unfold GTC
  rw [pj_block, B9_apply]

theorem block_11 (c : Dev nD) (t : Fin cfg0.N) (r : Fin 512) (j : Fin 1024) : (outsAt0 m c t).1 (ix2 r j)
    = HG (A0 m c) (A1 m c) (A2 m c) (A3 m c) (A4 m c) (A5 m c) (fun d => A6 m c (ix2 0 d) * Ideal.ofBits .f32 0x3E38AA3B#32) (TN t r) ⟨0 + j.val, by omega⟩ := by
  refine Eq.trans ?_ (hvc_block m c t _ _ (by omega) r j)
  unfold outsAt0 left0_A
  dsimp only
  exact out_11 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) r j
theorem block_12 (c : Dev nD) (t : Fin cfg0.N) (r : Fin 512) (j : Fin 1024) : (outsAt0 m c t).2.1 (ix2 r j)
    = HG (A0 m c) (A1 m c) (A2 m c) (A3 m c) (A4 m c) (A5 m c) (fun d => A6 m c (ix2 1 d)) (TN t r) ⟨1024 + j.val, by omega⟩ := by
  refine Eq.trans ?_ (hvc_block m c t _ _ (by omega) r j)
  unfold outsAt0 left0_A
  dsimp only
  exact out_12 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) r j
theorem block_13 (c : Dev nD) (t : Fin cfg0.N) (r : Fin 512) (j : Fin 1024) : (outsAt0 m c t).2.2.1 (ix2 r j)
    = PN (A0 m c) (A1 m c) (A2 m c) (A3 m c) (TN t r) ⟨2048 + j.val, by omega⟩ := by
  refine Eq.trans ?_ (pjc_block m c t _ (by omega) r j)
  unfold outsAt0 left0_A
  dsimp only
  exact out_13 c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) r j
theorem block_14 (c : Dev nD) (t : Fin cfg0.N) (p : Fin 1) (r : Fin 512) (j : Fin 256) : (outsAt0 m c t).2.2.2.1 (ix4 0 p r j)
    = HG (A0 m c) (A1 m c) (A2 m c) (A3 m c) (A4 m c) (A5 m c) (fun d => A7 m c (ix2 0 d) * Ideal.ofBits .f32 0x3E000000#32) (TN t (ROW (show 1 * 512 = 512 by omega) p r)) ⟨3072 + j.val, by omega⟩ := by
  refine Eq.trans ?_ (hvc_block m c t _ _ (by omega) (ROW _ p r) j)
  unfold outsAt0 left0_A
  dsimp only
  exact out_14 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_15 (c : Dev nD) (t : Fin cfg0.N) (p : Fin 4) (r : Fin 128) (j : Fin 256) : (outsAt0 m c t).2.2.2.2.1 (ix4 0 p r j)
    = HG (A0 m c) (A1 m c) (A2 m c) (A3 m c) (A4 m c) (A5 m c) (fun d => A7 m c (ix2 0 d) * Ideal.ofBits .f32 0x3E000000#32) (TN t (ROW (show 4 * 128 = 512 by omega) p r)) ⟨3328 + j.val, by omega⟩ := by
  refine Eq.trans ?_ (hvc_block m c t _ _ (by omega) (ROW _ p r) j)
  unfold outsAt0 left0_A
  dsimp only
  exact out_15 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_16 (c : Dev nD) (t : Fin cfg0.N) (p : Fin 16) (r : Fin 32) (j : Fin 256) : (outsAt0 m c t).2.2.2.2.2.1 (ix4 0 p r j)
    = HG (A0 m c) (A1 m c) (A2 m c) (A3 m c) (A4 m c) (A5 m c) (fun d => A7 m c (ix2 0 d) * Ideal.ofBits .f32 0x3E000000#32) (TN t (ROW (show 16 * 32 = 512 by omega) p r)) ⟨3584 + j.val, by omega⟩ := by
  refine Eq.trans ?_ (hvc_block m c t _ _ (by omega) (ROW _ p r) j)
  unfold outsAt0 left0_A
  dsimp only
  exact out_16 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_17 (c : Dev nD) (t : Fin cfg0.N) (p : Fin 1) (r : Fin 512) (j : Fin 256) : (outsAt0 m c t).2.2.2.2.2.2.1 (ix4 0 p r j)
    = HG (A0 m c) (A1 m c) (A2 m c) (A3 m c) (A4 m c) (A5 m c) (fun d => A7 m c (ix2 1 d)) (TN t (ROW (show 1 * 512 = 512 by omega) p r)) ⟨3840 + j.val, by omega⟩ := by
  refine Eq.trans ?_ (hvc_block m c t _ _ (by omega) (ROW _ p r) j)
  unfold outsAt0 left0_A
  dsimp only
  exact out_17 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_18 (c : Dev nD) (t : Fin cfg0.N) (p : Fin 4) (r : Fin 128) (j : Fin 256) : (outsAt0 m c t).2.2.2.2.2.2.2.1 (ix4 0 p r j)
    = HG (A0 m c) (A1 m c) (A2 m c) (A3 m c) (A4 m c) (A5 m c) (fun d => A7 m c (ix2 1 d)) (TN t (ROW (show 4 * 128 = 512 by omega) p r)) ⟨4096 + j.val, by omega⟩ := by
  refine Eq.trans ?_ (hvc_block m c t _ _ (by omega) (ROW _ p r) j)
  unfold outsAt0 left0_A
  dsimp only
  exact out_18 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_19 (c : Dev nD) (t : Fin cfg0.N) (p : Fin 16) (r : Fin 32) (j : Fin 256) : (outsAt0 m c t).2.2.2.2.2.2.2.2.1 (ix4 0 p r j)
    = HG (A0 m c) (A1 m c) (A2 m c) (A3 m c) (A4 m c) (A5 m c) (fun d => A7 m c (ix2 1 d)) (TN t (ROW (show 16 * 32 = 512 by omega) p r)) ⟨4352 + j.val, by omega⟩ := by
  refine Eq.trans ?_ (hvc_block m c t _ _ (by omega) (ROW _ p r) j)
  unfold outsAt0 left0_A
  dsimp only
  exact out_19 (ga := fun i d => A6 m c (ix2 i d)) (gb := fun i d => A7 m c (ix2 i d)) (cs := fun r e => A4 m c (ix2 (TN t r) e)) (sn := fun r e => A5 m c (ix2 (TN t r) e)) c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) (one_block m c t) (ga_block m c t) (gb_block m c t) (cos_block m c t) (up_block m c t) (down_block m c t) p r j
theorem block_20 (c : Dev nD) (t : Fin cfg0.N) (p : Fin 1) (r : Fin 512) (j : Fin 256) : (outsAt0 m c t).2.2.2.2.2.2.2.2.2.1 (ix4 0 p r j)
    = PN (A0 m c) (A1 m c) (A2 m c) (A3 m c) (TN t (ROW (show 1 * 512 = 512 by omega) p r)) ⟨4608 + j.val, by omega⟩ := by
  refine Eq.trans ?_ (pjc_block m c t _ (by omega) (ROW _ p r) j)
  unfold outsAt0 left0_A
  dsimp only
  exact out_20 c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) p r j
theorem block_21 (c : Dev nD) (t : Fin cfg0.N) (p : Fin 4) (r : Fin 128) (j : Fin 256) : (outsAt0 m c t).2.2.2.2.2.2.2.2.2.2.1 (ix4 0 p r j)
    = PN (A0 m c) (A1 m c) (A2 m c) (A3 m c) (TN t (ROW (show 4 * 128 = 512 by omega) p r)) ⟨4864 + j.val, by omega⟩ := by
  refine Eq.trans ?_ (pjc_block m c t _ (by omega) (ROW _ p r) j)
  unfold outsAt0 left0_A
  dsimp only
  exact out_21 c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) p r j
theorem block_22 (c : Dev nD) (t : Fin cfg0.N) (p : Fin 16) (r : Fin 32) (j : Fin 256) : (outsAt0 m c t).2.2.2.2.2.2.2.2.2.2.2.1 (ix4 0 p r j)
    = PN (A0 m c) (A1 m c) (A2 m c) (A3 m c) (TN t (ROW (show 16 * 32 = 512 by omega) p r)) ⟨5120 + j.val, by omega⟩ := by
  refine Eq.trans ?_ (pjc_block m c t _ (by omega) (ROW _ p r) j)
  unfold outsAt0 left0_A
  dsimp only
  exact out_22 c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) p r j
theorem block_23 (c : Dev nD) (t : Fin cfg0.N) (r : Fin 512) (j : Fin 2048) : (outsAt0 m c t).2.2.2.2.2.2.2.2.2.2.2.2 (ix2 r j)
    = Ideal.logistic (PN (A0 m c) (A1 m c) (A2 m c) (A3 m c) (TN t r) ⟨5376 + j.val, by omega⟩ + A8 m c (ix2 0 j)) := by
  refine Eq.trans ?_ (gtc_block m c t r j)
  unfold outsAt0 left0_A
  dsimp only
  exact out_23 c (grid0.coords t) _ _ _ _ _ _ _ _ _ _ _ _ _ _ _ _ _ _ _ _ _ _ _ _ _ _ _ _ _ _ _ _ _ _ _ _ _ _ _ _ _ _ _ _ _ _ _ _ _ _ _ _ (B0 m c t) (B1 m c t) (B2 m c t) (B3 m c t) (B4 m c t) (B5 m c t) (B6 m c t) (B7 m c t) (B8 m c t) (B9 m c t) (B10 m c t) r j

/-- An index by its coordinates. -/
theorem wide_idx {R C : ℕ} (y : (⟨2, ![R, C]⟩ : Shape).Idx) : y = ix2 (y 0) (y 1) := funext fun a => match a with | ⟨0, _⟩ => rfl | ⟨1, _⟩ => rfl
theorem res_idx {D L C : ℕ} (y : (⟨4, ![1, D, L, C]⟩ : Shape).Idx) : y = ix4 0 (y 1) (y 2) (y 3) := funext fun a => match a with
  | ⟨0, _⟩ => Fin.ext (by have : (y 0).val < 1 := (y 0).isLt; show (y 0).val = 0; omega) | ⟨1, _⟩ => rfl | ⟨2, _⟩ => rfl | ⟨3, _⟩ => rfl

theorem at11 : ∀ t : Fin cfg0.N, (cfg0.win 11).index t 0 = t.val ∧ (cfg0.win 11).index t 1 = 0 := by decide +kernel
theorem covers11 : (cfg0.win 11).Covers := by decide +kernel
theorem launch_11 (c : Dev nD) (G : S32768x1024.Idx → EReal) (hG : ∀ (n : Fin 32768) (j : Fin 1024), G (ix2 n j) = HG (A0 m c) (A1 m c) (A2 m c) (A3 m c) (A4 m c) (A5 m c) (fun d => A6 m c (ix2 0 d) * Ideal.ofBits .f32 0x3E38AA3B#32) n ⟨0 + j.val, by omega⟩) :
    (dats m 0 c).arrAt 11 cfg0.N = G := by
  refine (dats m 0 c).arrAt_eq_of_covers 11 G covers11 (fun t hf y => ?_)
  obtain ⟨e0, e1⟩ := at11 t
  have ey := wide_idx y
  have ei : ((cfg0.win 11).blk t).view.emb y = (ix2 (TN t (y 0)) (y 1) : S32768x1024.Idx) := by
    refine funext fun a => Fin.ext ?_
    match a with
    | ⟨0, _⟩ => blk_simp [e0]; simp
    | ⟨1, _⟩ => blk_simp [e1]; simp
  have k3 := (congrArg (outsAt0 m c t).1 ey).trans ((block_11 m c t (y 0) (y 1)).trans ((hG _ _).symm.trans (congrArg G ei.symm)))
  clear ei ey hG
  generalize G (((cfg0.win 11).blk t).view.emb y) = z at k3 ⊢
  rw [after0_11]
  refine Eq.trans ?_ k3
  clear k3
  generalize (outsAt0 m c t).1 = o
  rfl

theorem at12 : ∀ t : Fin cfg0.N, (cfg0.win 12).index t 0 = t.val ∧ (cfg0.win 12).index t 1 = 0 := by decide +kernel
theorem covers12 : (cfg0.win 12).Covers := by decide +kernel
theorem launch_12 (c : Dev nD) (G : S32768x1024.Idx → EReal) (hG : ∀ (n : Fin 32768) (j : Fin 1024), G (ix2 n j) = HG (A0 m c) (A1 m c) (A2 m c) (A3 m c) (A4 m c) (A5 m c) (fun d => A6 m c (ix2 1 d)) n ⟨1024 + j.val, by omega⟩) :
    (dats m 0 c).arrAt 12 cfg0.N = G := by
  refine (dats m 0 c).arrAt_eq_of_covers 12 G covers12 (fun t hf y => ?_)
  obtain ⟨e0, e1⟩ := at12 t
  have ey := wide_idx y
  have ei : ((cfg0.win 12).blk t).view.emb y = (ix2 (TN t (y 0)) (y 1) : S32768x1024.Idx) := by
    refine funext fun a => Fin.ext ?_
    match a with
    | ⟨0, _⟩ => blk_simp [e0]; simp
    | ⟨1, _⟩ => blk_simp [e1]; simp
  have k3 := (congrArg (outsAt0 m c t).2.1 ey).trans ((block_12 m c t (y 0) (y 1)).trans ((hG _ _).symm.trans (congrArg G ei.symm)))
  clear ei ey hG
  generalize G (((cfg0.win 12).blk t).view.emb y) = z at k3 ⊢
  rw [after0_12]
  refine Eq.trans ?_ k3
  clear k3
  generalize (outsAt0 m c t).2.1 = o
  rfl

theorem at13 : ∀ t : Fin cfg0.N, (cfg0.win 13).index t 0 = t.val ∧ (cfg0.win 13).index t 1 = 0 := by decide +kernel
theorem covers13 : (cfg0.win 13).Covers := by decide +kernel
theorem launch_13 (c : Dev nD) (G : S32768x1024.Idx → EReal) (hG : ∀ (n : Fin 32768) (j : Fin 1024), G (ix2 n j) = PN (A0 m c) (A1 m c) (A2 m c) (A3 m c) n ⟨2048 + j.val, by omega⟩) :
    (dats m 0 c).arrAt 13 cfg0.N = G := by
  refine (dats m 0 c).arrAt_eq_of_covers 13 G covers13 (fun t hf y => ?_)
  obtain ⟨e0, e1⟩ := at13 t
  have ey := wide_idx y
  have ei : ((cfg0.win 13).blk t).view.emb y = (ix2 (TN t (y 0)) (y 1) : S32768x1024.Idx) := by
    refine funext fun a => Fin.ext ?_
    match a with
    | ⟨0, _⟩ => blk_simp [e0]; simp
    | ⟨1, _⟩ => blk_simp [e1]; simp
  have k3 := (congrArg (outsAt0 m c t).2.2.1 ey).trans ((block_13 m c t (y 0) (y 1)).trans ((hG _ _).symm.trans (congrArg G ei.symm)))
  clear ei ey hG
  generalize G (((cfg0.win 13).blk t).view.emb y) = z at k3 ⊢
  rw [after0_13]
  refine Eq.trans ?_ k3
  clear k3
  generalize (outsAt0 m c t).2.2.1 = o
  rfl

theorem at14 : ∀ t : Fin cfg0.N, (cfg0.win 14).index t 0 = t.val / 8 ∧ (cfg0.win 14).index t 1 = 0 ∧ (cfg0.win 14).index t 2 = t.val % 8 ∧ (cfg0.win 14).index t 3 = 0 := by decide +kernel
theorem covers14 : (cfg0.win 14).Covers := by decide +kernel
theorem launch_14 (c : Dev nD) (G : S8x1x4096x256.Idx → EReal)
    (hG : ∀ (b : Fin 8) (p : Fin 1) (s : Fin 4096) (j : Fin 256), G (ix4 b p s j) = HG (A0 m c) (A1 m c) (A2 m c) (A3 m c) (A4 m c) (A5 m c) (fun d => A7 m c (ix2 0 d) * Ideal.ofBits .f32 0x3E000000#32) (NB (show 1 * 4096 = 4096 by omega) b p s) ⟨3072 + j.val, by omega⟩) :
    (dats m 0 c).arrAt 14 cfg0.N = G := by
  refine (dats m 0 c).arrAt_eq_of_covers 14 G covers14 (fun t hf y => ?_)
  have hN : t.val < 64 := t.isLt
  obtain ⟨e0, e1, e2, e3⟩ := at14 t
  have ey := res_idx y
  have ei : ((cfg0.win 14).blk t).view.emb y = (ix4 ⟨t.val / 8, by omega⟩ (y 1) ⟨t.val % 8 * 512 + (y 2).val, by have : (y 2).val < 512 := (y 2).isLt; omega⟩ (y 3) : S8x1x4096x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 1 * 512 = 512 by omega) (y 1) (y 2)) = NB (show 1 * 4096 = 4096 by omega) ⟨t.val / 8, by omega⟩ (y 1) ⟨t.val % 8 * 512 + (y 2).val, by have : (y 2).val < 512 := (y 2).isLt; omega⟩ := Fin.ext (by
    show t.val * 512 + ((y 1).val + 1 * (y 2).val) = t.val / 8 * 4096 + ((y 1).val + 1 * (t.val % 8 * 512 + (y 2).val)); omega)
  have k1 := block_14 m c t (y 1) (y 2) (y 3)
  rw [en] at k1
  have k3 := (congrArg (outsAt0 m c t).2.2.2.1 ey).trans (k1.trans ((hG _ _ _ _).symm.trans (congrArg G ei.symm)))
  clear k1 ei ey hG en
  generalize G (((cfg0.win 14).blk t).view.emb y) = z at k3 ⊢
  rw [after0_14]
  refine Eq.trans ?_ k3
  clear k3
  generalize (outsAt0 m c t).2.2.2.1 = o
  rfl

theorem at15 : ∀ t : Fin cfg0.N, (cfg0.win 15).index t 0 = t.val / 8 ∧ (cfg0.win 15).index t 1 = 0 ∧ (cfg0.win 15).index t 2 = t.val % 8 ∧ (cfg0.win 15).index t 3 = 0 := by decide +kernel
theorem covers15 : (cfg0.win 15).Covers := by decide +kernel
theorem launch_15 (c : Dev nD) (G : S8x4x1024x256.Idx → EReal)
    (hG : ∀ (b : Fin 8) (p : Fin 4) (s : Fin 1024) (j : Fin 256), G (ix4 b p s j) = HG (A0 m c) (A1 m c) (A2 m c) (A3 m c) (A4 m c) (A5 m c) (fun d => A7 m c (ix2 0 d) * Ideal.ofBits .f32 0x3E000000#32) (NB (show 4 * 1024 = 4096 by omega) b p s) ⟨3328 + j.val, by omega⟩) :
    (dats m 0 c).arrAt 15 cfg0.N = G := by
  refine (dats m 0 c).arrAt_eq_of_covers 15 G covers15 (fun t hf y => ?_)
  have hN : t.val < 64 := t.isLt
  obtain ⟨e0, e1, e2, e3⟩ := at15 t
  have ey := res_idx y
  have ei : ((cfg0.win 15).blk t).view.emb y = (ix4 ⟨t.val / 8, by omega⟩ (y 1) ⟨t.val % 8 * 128 + (y 2).val, by have : (y 2).val < 128 := (y 2).isLt; omega⟩ (y 3) : S8x4x1024x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 4 * 128 = 512 by omega) (y 1) (y 2)) = NB (show 4 * 1024 = 4096 by omega) ⟨t.val / 8, by omega⟩ (y 1) ⟨t.val % 8 * 128 + (y 2).val, by have : (y 2).val < 128 := (y 2).isLt; omega⟩ := Fin.ext (by
    show t.val * 512 + ((y 1).val + 4 * (y 2).val) = t.val / 8 * 4096 + ((y 1).val + 4 * (t.val % 8 * 128 + (y 2).val)); omega)
  have k1 := block_15 m c t (y 1) (y 2) (y 3)
  rw [en] at k1
  have k3 := (congrArg (outsAt0 m c t).2.2.2.2.1 ey).trans (k1.trans ((hG _ _ _ _).symm.trans (congrArg G ei.symm)))
  clear k1 ei ey hG en
  generalize G (((cfg0.win 15).blk t).view.emb y) = z at k3 ⊢
  rw [after0_15]
  refine Eq.trans ?_ k3
  clear k3
  generalize (outsAt0 m c t).2.2.2.2.1 = o
  rfl

theorem at16 : ∀ t : Fin cfg0.N, (cfg0.win 16).index t 0 = t.val / 8 ∧ (cfg0.win 16).index t 1 = 0 ∧ (cfg0.win 16).index t 2 = t.val % 8 ∧ (cfg0.win 16).index t 3 = 0 := by decide +kernel
theorem covers16 : (cfg0.win 16).Covers := by decide +kernel
theorem launch_16 (c : Dev nD) (G : S8x16x256x256.Idx → EReal)
    (hG : ∀ (b : Fin 8) (p : Fin 16) (s : Fin 256) (j : Fin 256), G (ix4 b p s j) = HG (A0 m c) (A1 m c) (A2 m c) (A3 m c) (A4 m c) (A5 m c) (fun d => A7 m c (ix2 0 d) * Ideal.ofBits .f32 0x3E000000#32) (NB (show 16 * 256 = 4096 by omega) b p s) ⟨3584 + j.val, by omega⟩) :
    (dats m 0 c).arrAt 16 cfg0.N = G := by
  refine (dats m 0 c).arrAt_eq_of_covers 16 G covers16 (fun t hf y => ?_)
  have hN : t.val < 64 := t.isLt
  obtain ⟨e0, e1, e2, e3⟩ := at16 t
  have ey := res_idx y
  have ei : ((cfg0.win 16).blk t).view.emb y = (ix4 ⟨t.val / 8, by omega⟩ (y 1) ⟨t.val % 8 * 32 + (y 2).val, by have : (y 2).val < 32 := (y 2).isLt; omega⟩ (y 3) : S8x16x256x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 16 * 32 = 512 by omega) (y 1) (y 2)) = NB (show 16 * 256 = 4096 by omega) ⟨t.val / 8, by omega⟩ (y 1) ⟨t.val % 8 * 32 + (y 2).val, by have : (y 2).val < 32 := (y 2).isLt; omega⟩ := Fin.ext (by
    show t.val * 512 + ((y 1).val + 16 * (y 2).val) = t.val / 8 * 4096 + ((y 1).val + 16 * (t.val % 8 * 32 + (y 2).val)); omega)
  have k1 := block_16 m c t (y 1) (y 2) (y 3)
  rw [en] at k1
  have k3 := (congrArg (outsAt0 m c t).2.2.2.2.2.1 ey).trans (k1.trans ((hG _ _ _ _).symm.trans (congrArg G ei.symm)))
  clear k1 ei ey hG en
  generalize G (((cfg0.win 16).blk t).view.emb y) = z at k3 ⊢
  rw [after0_16]
  refine Eq.trans ?_ k3
  clear k3
  generalize (outsAt0 m c t).2.2.2.2.2.1 = o
  rfl

theorem at17 : ∀ t : Fin cfg0.N, (cfg0.win 17).index t 0 = t.val / 8 ∧ (cfg0.win 17).index t 1 = 0 ∧ (cfg0.win 17).index t 2 = t.val % 8 ∧ (cfg0.win 17).index t 3 = 0 := by decide +kernel
theorem covers17 : (cfg0.win 17).Covers := by decide +kernel
theorem launch_17 (c : Dev nD) (G : S8x1x4096x256.Idx → EReal)
    (hG : ∀ (b : Fin 8) (p : Fin 1) (s : Fin 4096) (j : Fin 256), G (ix4 b p s j) = HG (A0 m c) (A1 m c) (A2 m c) (A3 m c) (A4 m c) (A5 m c) (fun d => A7 m c (ix2 1 d)) (NB (show 1 * 4096 = 4096 by omega) b p s) ⟨3840 + j.val, by omega⟩) :
    (dats m 0 c).arrAt 17 cfg0.N = G := by
  refine (dats m 0 c).arrAt_eq_of_covers 17 G covers17 (fun t hf y => ?_)
  have hN : t.val < 64 := t.isLt
  obtain ⟨e0, e1, e2, e3⟩ := at17 t
  have ey := res_idx y
  have ei : ((cfg0.win 17).blk t).view.emb y = (ix4 ⟨t.val / 8, by omega⟩ (y 1) ⟨t.val % 8 * 512 + (y 2).val, by have : (y 2).val < 512 := (y 2).isLt; omega⟩ (y 3) : S8x1x4096x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 1 * 512 = 512 by omega) (y 1) (y 2)) = NB (show 1 * 4096 = 4096 by omega) ⟨t.val / 8, by omega⟩ (y 1) ⟨t.val % 8 * 512 + (y 2).val, by have : (y 2).val < 512 := (y 2).isLt; omega⟩ := Fin.ext (by
    show t.val * 512 + ((y 1).val + 1 * (y 2).val) = t.val / 8 * 4096 + ((y 1).val + 1 * (t.val % 8 * 512 + (y 2).val)); omega)
  have k1 := block_17 m c t (y 1) (y 2) (y 3)
  rw [en] at k1
  have k3 := (congrArg (outsAt0 m c t).2.2.2.2.2.2.1 ey).trans (k1.trans ((hG _ _ _ _).symm.trans (congrArg G ei.symm)))
  clear k1 ei ey hG en
  generalize G (((cfg0.win 17).blk t).view.emb y) = z at k3 ⊢
  rw [after0_17]
  refine Eq.trans ?_ k3
  clear k3
  generalize (outsAt0 m c t).2.2.2.2.2.2.1 = o
  rfl

theorem at18 : ∀ t : Fin cfg0.N, (cfg0.win 18).index t 0 = t.val / 8 ∧ (cfg0.win 18).index t 1 = 0 ∧ (cfg0.win 18).index t 2 = t.val % 8 ∧ (cfg0.win 18).index t 3 = 0 := by decide +kernel
theorem covers18 : (cfg0.win 18).Covers := by decide +kernel
theorem launch_18 (c : Dev nD) (G : S8x4x1024x256.Idx → EReal)
    (hG : ∀ (b : Fin 8) (p : Fin 4) (s : Fin 1024) (j : Fin 256), G (ix4 b p s j) = HG (A0 m c) (A1 m c) (A2 m c) (A3 m c) (A4 m c) (A5 m c) (fun d => A7 m c (ix2 1 d)) (NB (show 4 * 1024 = 4096 by omega) b p s) ⟨4096 + j.val, by omega⟩) :
    (dats m 0 c).arrAt 18 cfg0.N = G := by
  refine (dats m 0 c).arrAt_eq_of_covers 18 G covers18 (fun t hf y => ?_)
  have hN : t.val < 64 := t.isLt
  obtain ⟨e0, e1, e2, e3⟩ := at18 t
  have ey := res_idx y
  have ei : ((cfg0.win 18).blk t).view.emb y = (ix4 ⟨t.val / 8, by omega⟩ (y 1) ⟨t.val % 8 * 128 + (y 2).val, by have : (y 2).val < 128 := (y 2).isLt; omega⟩ (y 3) : S8x4x1024x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 4 * 128 = 512 by omega) (y 1) (y 2)) = NB (show 4 * 1024 = 4096 by omega) ⟨t.val / 8, by omega⟩ (y 1) ⟨t.val % 8 * 128 + (y 2).val, by have : (y 2).val < 128 := (y 2).isLt; omega⟩ := Fin.ext (by
    show t.val * 512 + ((y 1).val + 4 * (y 2).val) = t.val / 8 * 4096 + ((y 1).val + 4 * (t.val % 8 * 128 + (y 2).val)); omega)
  have k1 := block_18 m c t (y 1) (y 2) (y 3)
  rw [en] at k1
  have k3 := (congrArg (outsAt0 m c t).2.2.2.2.2.2.2.1 ey).trans (k1.trans ((hG _ _ _ _).symm.trans (congrArg G ei.symm)))
  clear k1 ei ey hG en
  generalize G (((cfg0.win 18).blk t).view.emb y) = z at k3 ⊢
  rw [after0_18]
  refine Eq.trans ?_ k3
  clear k3
  generalize (outsAt0 m c t).2.2.2.2.2.2.2.1 = o
  rfl

theorem at19 : ∀ t : Fin cfg0.N, (cfg0.win 19).index t 0 = t.val / 8 ∧ (cfg0.win 19).index t 1 = 0 ∧ (cfg0.win 19).index t 2 = t.val % 8 ∧ (cfg0.win 19).index t 3 = 0 := by decide +kernel
theorem covers19 : (cfg0.win 19).Covers := by decide +kernel
theorem launch_19 (c : Dev nD) (G : S8x16x256x256.Idx → EReal)
    (hG : ∀ (b : Fin 8) (p : Fin 16) (s : Fin 256) (j : Fin 256), G (ix4 b p s j) = HG (A0 m c) (A1 m c) (A2 m c) (A3 m c) (A4 m c) (A5 m c) (fun d => A7 m c (ix2 1 d)) (NB (show 16 * 256 = 4096 by omega) b p s) ⟨4352 + j.val, by omega⟩) :
    (dats m 0 c).arrAt 19 cfg0.N = G := by
  refine (dats m 0 c).arrAt_eq_of_covers 19 G covers19 (fun t hf y => ?_)
  have hN : t.val < 64 := t.isLt
  obtain ⟨e0, e1, e2, e3⟩ := at19 t
  have ey := res_idx y
  have ei : ((cfg0.win 19).blk t).view.emb y = (ix4 ⟨t.val / 8, by omega⟩ (y 1) ⟨t.val % 8 * 32 + (y 2).val, by have : (y 2).val < 32 := (y 2).isLt; omega⟩ (y 3) : S8x16x256x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 16 * 32 = 512 by omega) (y 1) (y 2)) = NB (show 16 * 256 = 4096 by omega) ⟨t.val / 8, by omega⟩ (y 1) ⟨t.val % 8 * 32 + (y 2).val, by have : (y 2).val < 32 := (y 2).isLt; omega⟩ := Fin.ext (by
    show t.val * 512 + ((y 1).val + 16 * (y 2).val) = t.val / 8 * 4096 + ((y 1).val + 16 * (t.val % 8 * 32 + (y 2).val)); omega)
  have k1 := block_19 m c t (y 1) (y 2) (y 3)
  rw [en] at k1
  have k3 := (congrArg (outsAt0 m c t).2.2.2.2.2.2.2.2.1 ey).trans (k1.trans ((hG _ _ _ _).symm.trans (congrArg G ei.symm)))
  clear k1 ei ey hG en
  generalize G (((cfg0.win 19).blk t).view.emb y) = z at k3 ⊢
  rw [after0_19]
  refine Eq.trans ?_ k3
  clear k3
  generalize (outsAt0 m c t).2.2.2.2.2.2.2.2.1 = o
  rfl

theorem at20 : ∀ t : Fin cfg0.N, (cfg0.win 20).index t 0 = t.val / 8 ∧ (cfg0.win 20).index t 1 = 0 ∧ (cfg0.win 20).index t 2 = t.val % 8 ∧ (cfg0.win 20).index t 3 = 0 := by decide +kernel
theorem covers20 : (cfg0.win 20).Covers := by decide +kernel
theorem launch_20 (c : Dev nD) (G : S8x1x4096x256.Idx → EReal)
    (hG : ∀ (b : Fin 8) (p : Fin 1) (s : Fin 4096) (j : Fin 256), G (ix4 b p s j) = PN (A0 m c) (A1 m c) (A2 m c) (A3 m c) (NB (show 1 * 4096 = 4096 by omega) b p s) ⟨4608 + j.val, by omega⟩) :
    (dats m 0 c).arrAt 20 cfg0.N = G := by
  refine (dats m 0 c).arrAt_eq_of_covers 20 G covers20 (fun t hf y => ?_)
  have hN : t.val < 64 := t.isLt
  obtain ⟨e0, e1, e2, e3⟩ := at20 t
  have ey := res_idx y
  have ei : ((cfg0.win 20).blk t).view.emb y = (ix4 ⟨t.val / 8, by omega⟩ (y 1) ⟨t.val % 8 * 512 + (y 2).val, by have : (y 2).val < 512 := (y 2).isLt; omega⟩ (y 3) : S8x1x4096x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 1 * 512 = 512 by omega) (y 1) (y 2)) = NB (show 1 * 4096 = 4096 by omega) ⟨t.val / 8, by omega⟩ (y 1) ⟨t.val % 8 * 512 + (y 2).val, by have : (y 2).val < 512 := (y 2).isLt; omega⟩ := Fin.ext (by
    show t.val * 512 + ((y 1).val + 1 * (y 2).val) = t.val / 8 * 4096 + ((y 1).val + 1 * (t.val % 8 * 512 + (y 2).val)); omega)
  have k1 := block_20 m c t (y 1) (y 2) (y 3)
  rw [en] at k1
  have k3 := (congrArg (outsAt0 m c t).2.2.2.2.2.2.2.2.2.1 ey).trans (k1.trans ((hG _ _ _ _).symm.trans (congrArg G ei.symm)))
  clear k1 ei ey hG en
  generalize G (((cfg0.win 20).blk t).view.emb y) = z at k3 ⊢
  rw [after0_20]
  refine Eq.trans ?_ k3
  clear k3
  generalize (outsAt0 m c t).2.2.2.2.2.2.2.2.2.1 = o
  rfl

theorem at21 : ∀ t : Fin cfg0.N, (cfg0.win 21).index t 0 = t.val / 8 ∧ (cfg0.win 21).index t 1 = 0 ∧ (cfg0.win 21).index t 2 = t.val % 8 ∧ (cfg0.win 21).index t 3 = 0 := by decide +kernel
theorem covers21 : (cfg0.win 21).Covers := by decide +kernel
theorem launch_21 (c : Dev nD) (G : S8x4x1024x256.Idx → EReal)
    (hG : ∀ (b : Fin 8) (p : Fin 4) (s : Fin 1024) (j : Fin 256), G (ix4 b p s j) = PN (A0 m c) (A1 m c) (A2 m c) (A3 m c) (NB (show 4 * 1024 = 4096 by omega) b p s) ⟨4864 + j.val, by omega⟩) :
    (dats m 0 c).arrAt 21 cfg0.N = G := by
  refine (dats m 0 c).arrAt_eq_of_covers 21 G covers21 (fun t hf y => ?_)
  have hN : t.val < 64 := t.isLt
  obtain ⟨e0, e1, e2, e3⟩ := at21 t
  have ey := res_idx y
  have ei : ((cfg0.win 21).blk t).view.emb y = (ix4 ⟨t.val / 8, by omega⟩ (y 1) ⟨t.val % 8 * 128 + (y 2).val, by have : (y 2).val < 128 := (y 2).isLt; omega⟩ (y 3) : S8x4x1024x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 4 * 128 = 512 by omega) (y 1) (y 2)) = NB (show 4 * 1024 = 4096 by omega) ⟨t.val / 8, by omega⟩ (y 1) ⟨t.val % 8 * 128 + (y 2).val, by have : (y 2).val < 128 := (y 2).isLt; omega⟩ := Fin.ext (by
    show t.val * 512 + ((y 1).val + 4 * (y 2).val) = t.val / 8 * 4096 + ((y 1).val + 4 * (t.val % 8 * 128 + (y 2).val)); omega)
  have k1 := block_21 m c t (y 1) (y 2) (y 3)
  rw [en] at k1
  have k3 := (congrArg (outsAt0 m c t).2.2.2.2.2.2.2.2.2.2.1 ey).trans (k1.trans ((hG _ _ _ _).symm.trans (congrArg G ei.symm)))
  clear k1 ei ey hG en
  generalize G (((cfg0.win 21).blk t).view.emb y) = z at k3 ⊢
  rw [after0_21]
  refine Eq.trans ?_ k3
  clear k3
  generalize (outsAt0 m c t).2.2.2.2.2.2.2.2.2.2.1 = o
  rfl

theorem at22 : ∀ t : Fin cfg0.N, (cfg0.win 22).index t 0 = t.val / 8 ∧ (cfg0.win 22).index t 1 = 0 ∧ (cfg0.win 22).index t 2 = t.val % 8 ∧ (cfg0.win 22).index t 3 = 0 := by decide +kernel
theorem covers22 : (cfg0.win 22).Covers := by decide +kernel
theorem launch_22 (c : Dev nD) (G : S8x16x256x256.Idx → EReal)
    (hG : ∀ (b : Fin 8) (p : Fin 16) (s : Fin 256) (j : Fin 256), G (ix4 b p s j) = PN (A0 m c) (A1 m c) (A2 m c) (A3 m c) (NB (show 16 * 256 = 4096 by omega) b p s) ⟨5120 + j.val, by omega⟩) :
    (dats m 0 c).arrAt 22 cfg0.N = G := by
  refine (dats m 0 c).arrAt_eq_of_covers 22 G covers22 (fun t hf y => ?_)
  have hN : t.val < 64 := t.isLt
  obtain ⟨e0, e1, e2, e3⟩ := at22 t
  have ey := res_idx y
  have ei : ((cfg0.win 22).blk t).view.emb y = (ix4 ⟨t.val / 8, by omega⟩ (y 1) ⟨t.val % 8 * 32 + (y 2).val, by have : (y 2).val < 32 := (y 2).isLt; omega⟩ (y 3) : S8x16x256x256.Idx) := by
    have hy0 : (y 0).val < 1 := (y 0).isLt
    refine funext fun a => Fin.ext ?_
    match a with
    | ⟨0, _⟩ => blk_simp [e0]; try simp
    | ⟨1, _⟩ => blk_simp [e1]; try simp
    | ⟨2, _⟩ => blk_simp [e2]; try simp
    | ⟨3, _⟩ => blk_simp [e3]; try simp
  have en : TN t (ROW (show 16 * 32 = 512 by omega) (y 1) (y 2)) = NB (show 16 * 256 = 4096 by omega) ⟨t.val / 8, by omega⟩ (y 1) ⟨t.val % 8 * 32 + (y 2).val, by have : (y 2).val < 32 := (y 2).isLt; omega⟩ := Fin.ext (by
    show t.val * 512 + ((y 1).val + 16 * (y 2).val) = t.val / 8 * 4096 + ((y 1).val + 16 * (t.val % 8 * 32 + (y 2).val)); omega)
  have k1 := block_22 m c t (y 1) (y 2) (y 3)
  rw [en] at k1
  have k3 := (congrArg (outsAt0 m c t).2.2.2.2.2.2.2.2.2.2.2.1 ey).trans (k1.trans ((hG _ _ _ _).symm.trans (congrArg G ei.symm)))
  clear k1 ei ey hG en
  generalize G (((cfg0.win 22).blk t).view.emb y) = z at k3 ⊢
  rw [after0_22]
  refine Eq.trans ?_ k3
  clear k3
  generalize (outsAt0 m c t).2.2.2.2.2.2.2.2.2.2.2.1 = o
  rfl

theorem at23 : ∀ t : Fin cfg0.N, (cfg0.win 23).index t 0 = t.val ∧ (cfg0.win 23).index t 1 = 0 := by decide +kernel
theorem covers23 : (cfg0.win 23).Covers := by decide +kernel
theorem launch_23 (c : Dev nD) (G : S32768x2048.Idx → EReal) (hG : ∀ (n : Fin 32768) (j : Fin 2048), G (ix2 n j) = Ideal.logistic (PN (A0 m c) (A1 m c) (A2 m c) (A3 m c) n ⟨5376 + j.val, by omega⟩ + A8 m c (ix2 0 j))) :
    (dats m 0 c).arrAt 23 cfg0.N = G := by
  refine (dats m 0 c).arrAt_eq_of_covers 23 G covers23 (fun t hf y => ?_)
  obtain ⟨e0, e1⟩ := at23 t
  have ey := wide_idx y
  have ei : ((cfg0.win 23).blk t).view.emb y = (ix2 (TN t (y 0)) (y 1) : S32768x2048.Idx) := by
    refine funext fun a => Fin.ext ?_
    match a with
    | ⟨0, _⟩ => blk_simp [e0]; simp
    | ⟨1, _⟩ => blk_simp [e1]; simp
  have k3 := (congrArg (outsAt0 m c t).2.2.2.2.2.2.2.2.2.2.2.2 ey).trans ((block_23 m c t (y 0) (y 1)).trans ((hG _ _).symm.trans (congrArg G ei.symm)))
  clear ei ey hG
  generalize G (((cfg0.win 23).blk t).view.emb y) = z at k3 ⊢
  rw [after0_23]
  refine Eq.trans ?_ k3
  clear k3
  generalize (outsAt0 m c t).2.2.2.2.2.2.2.2.2.2.2.2 = o
  rfl

end Cert.Inp

end
-- ==== Proof.Proj.Ref.lean ====
/- The reference's input projection at an element. -/
module

public import proofs.«01_k».proof.Proof.Proj.Layer
public import proofs.«01_k».proof.Proof.Gen.ProjReferenceIdeal.Read
public import Idealize.ShloMosaic.Lib.Pipeline.ValueKit

@[expose] public section

set_option backward.proofsInPublic true
set_option maxRecDepth 16384

noncomputable section

namespace Cert.Inp

open Cert.ProjReferenceIdeal Cert.ProjReferenceIdeal.Gen Cert.ProjReferenceIdeal.Read Idealize.ShloMosaic

/-- Column `j` of token `n`, in its batch entry. -/
abbrev TP {C : ℕ} (n : Fin 32768) (j : Fin C) : (⟨3, ![8, 4096, C]⟩ : Shape).Idx := ix3 ⟨n.val / 4096, by omega⟩ ⟨n.val % 4096, by omega⟩ j
/-- Entry `d` of a head of token `n`. -/
abbrev TQ {H Q C : ℕ} (n : Fin 32768) (h : Fin H) (q : Fin Q) (d : Fin C) : (⟨5, ![8, 4096, H, Q, C]⟩ : Shape).Idx :=
  ix5 ⟨n.val / 4096, by omega⟩ ⟨n.val % 4096, by omega⟩ h q d

theorem ref_one : Ideal.ofBits .f32 0x3F800000#32 = 1 := by
  have e1 : (1065353216 >>> 23 : ℕ) % 256 = 127 := by decide
  have e2 : ¬BitVec.extractLsb' 31 1 1065353216#32 = 1#1 := by decide
  norm_num [Ideal.ofBits, Ideal.ieee, e1, e2]
theorem ref_zero : Ideal.ofBits .f32 0x00000000#32 = 0 := by simp [Ideal.ofBits, Ideal.ieee]

/-- A head's norm as the reference writes it. -/
theorem norm_val (Y g : Fin 64 → EReal) (d : Fin 64) :
    Y d * Ideal.rsqrt (Ideal.div (Ideal.ofBits .f32 0x00000000#32 + ∑ k, Y k * Y k) (Ideal.ofBits .f32 0x42800000#32) + Ideal.ofBits .f32 0x358637BD#32) * g d
      = NH Y g d := by
  rw [ref_zero, zero_add]
  rfl

/-- The turn as the reference writes it: the two turned pieces and the rest, put side by side. -/
theorem rope_cat {H Q : ℕ} (x y : (⟨5, ![8, 4096, H, Q, 8]⟩ : Shape).Idx → EReal) (z : (⟨5, ![8, 4096, H, Q, 48]⟩ : Shape).Idx → EReal)
    (hcat : Shape.Concatenates [⟨5, ![8, 4096, H, Q, 8]⟩, ⟨5, ![8, 4096, H, Q, 8]⟩, ⟨5, ![8, 4096, H, Q, 48]⟩] ⟨5, ![8, 4096, H, Q, 64]⟩ 4)
    (n : Fin 32768) (h : Fin H) (q : Fin Q) (cs sn : Fin 8 → EReal) (N : Fin 64 → EReal)
    (hx : ∀ e : Fin 8, x (TQ n h q e) = N ⟨e.val, by omega⟩ * cs e - N ⟨8 + e.val, by omega⟩ * sn e)
    (hy : ∀ e : Fin 8, y (TQ n h q e) = N ⟨8 + e.val, by omega⟩ * cs e + N ⟨e.val, by omega⟩ * sn e)
    (hz : ∀ e : Fin 48, z (TQ n h q e) = N ⟨16 + e.val, by omega⟩) (d : Fin 64) :
    concatenate ⟨5, ![8, 4096, H, Q, 64]⟩ 4 [⟨_, x⟩, ⟨_, y⟩, ⟨_, z⟩] hcat (TQ n h q d) = ROPE cs sn N d := by
  have hb : ∀ {w : ℕ} (e : Fin w) (b : Fin 5), b.cast (rfl : 5 = (⟨5, ![8, 4096, H, Q, 64]⟩ : Shape).rank) ≠ 4 →
      ((TQ n h q e : (⟨5, ![8, 4096, H, Q, w]⟩ : Shape).Idx) b).val = ((TQ n h q d : (⟨5, ![8, 4096, H, Q, 64]⟩ : Shape).Idx) b).val :=
    fun e b hb => match b with
      | ⟨0, _⟩ => rfl
      | ⟨1, _⟩ => rfl
      | ⟨2, _⟩ => rfl
      | ⟨3, _⟩ => rfl
      | ⟨4, _⟩ => absurd rfl hb
  unfold ROPE
  by_cases h8 : d.val < 8
  · rw [dif_pos h8]
    refine (concatenate_apply_piece 4 _ _ (TQ n h q d) 0 (by simp) ⟨5, ![8, 4096, H, Q, 8]⟩ x rfl rfl 0 rfl (TQ n h q ⟨d.val, h8⟩) (hb _)
      (by show 0 + d.val = d.val; omega)).trans ((hx _).trans ?_)
    have e : (⟨8 + d.val, by omega⟩ : Fin 64) = ⟨d.val + 8, by omega⟩ := Fin.ext (by show 8 + d.val = d.val + 8; omega)
    rw [e]
  · by_cases h16 : d.val < 16
    · rw [dif_neg h8, dif_pos h16]
      refine (concatenate_apply_piece 4 _ _ (TQ n h q d) 1 (by simp) ⟨5, ![8, 4096, H, Q, 8]⟩ y rfl rfl 8 rfl (TQ n h q ⟨d.val - 8, by omega⟩) (hb _)
        (by show 8 + (d.val - 8) = d.val; omega)).trans ((hy _).trans ?_)
      have e : (⟨8 + (d.val - 8), by omega⟩ : Fin 64) = d := Fin.ext (by show 8 + (d.val - 8) = d.val; omega)
      rw [e]
    · rw [dif_neg h8, dif_neg h16]
      refine (concatenate_apply_piece 4 _ _ (TQ n h q d) 2 (by simp) ⟨5, ![8, 4096, H, Q, 48]⟩ z rfl rfl 16 rfl (TQ n h q ⟨d.val - 16, by omega⟩) (hb _)
        (by show 16 + (d.val - 16) = d.val; omega)).trans ((hz _).trans ?_)
      exact congrArg N (Fin.ext (by show 16 + (d.val - 16) = d.val; omega))

variable (x0 : S32768x1024.Idx → EReal) (x1 : S8x1x6144.Idx → EReal) (x2 : S1x1024.Idx → EReal) (x3 : S1024x7424.Idx → EReal)
  (x4 x5 : S32768x8.Idx → EReal) (x6 x7 : S2x64.Idx → EReal) (x8 : S1x2048.Idx → EReal)

theorem ref_x (n : Fin 32768) (j : Fin 1024) : val_main_v0 (F := Ideal) x0 (TP n j) = x0 (ix2 n j) := by
  rw [val_main_v0_apply]
  refine congrArg x0 (funext fun a => Fin.ext ?_)
  match a with
  | ⟨0, _⟩ => show ((n.val / 4096 * 4096 + n.val % 4096) * 1024 + j.val) / 1024 = n.val; omega
  | ⟨1, _⟩ => show ((n.val / 4096 * 4096 + n.val % 4096) * 1024 + j.val) % 1024 = j.val; omega
theorem ref_cos (n : Fin 32768) (e : Fin 8) : val_main_v36 (F := Ideal) x4 (TP n e) = x4 (ix2 n e) := by
  rw [val_main_v36_apply]
  refine congrArg x4 (funext fun a => Fin.ext ?_)
  match a with
  | ⟨0, _⟩ => show ((n.val / 4096 * 4096 + n.val % 4096) * 8 + e.val) / 8 = n.val; omega
  | ⟨1, _⟩ => show ((n.val / 4096 * 4096 + n.val % 4096) * 8 + e.val) % 8 = e.val; omega

theorem ref_root (n : Fin 32768) (j : Fin 1024) : val_main_v16 (F := Ideal) x0 (TP n j) = Post.RS fun k => x0 (ix2 n k) := by
  rw [val_main_v16_apply, val_main_v15_apply, val_main_v14_apply, val_main_v12_apply, val_main_v10_apply, val_main_v11_apply, val_main_v13_apply,
    val_main_cst_0_apply, val_main_cst_1_apply, val_main_v9_apply, val_main_cst_apply]
  refine congrArg (fun a : EReal => Ideal.rsqrt (Ideal.div a (Ideal.ofBits .f32 0x44800000#32) + Ideal.ofBits .f32 0x358637BD#32)) ?_
  show (Ideal.ofBits .f32 0x00000000#32 : EReal) + _ = _
  rw [ref_zero, zero_add]
  refine Finset.sum_congr rfl fun k _ => ?_
  have hi : idx_main_v9 (idx_main_v10 (idx_main_v16 (TP n j))) k = TP n k := funext fun a => match a with | ⟨0, _⟩ => rfl | ⟨1, _⟩ => rfl | ⟨2, _⟩ => rfl
  rw [val_main_v8_apply, hi, ref_x]
  rfl

theorem ref_norm (n : Fin 32768) (k : Fin 1024) : val_main_v26 (F := Ideal) x0 x1 x2 (TP n k) = TK x0 x1 x2 n k := by
  have hg : val_main_v19 (F := Ideal) x2 (TP n k) = x2 (ix2 0 k) := by
    rw [val_main_v19_apply, val_main_v18_apply, val_main_v7_apply]
    refine congrArg x2 (funext fun a => Fin.ext ?_)
    match a with
    | ⟨0, _⟩ => rfl
    | ⟨1, _⟩ => show k.val % 1024 = k.val; omega
  have hs : val_main_v23 (F := Ideal) x1 (TP n k) = (1 + x1 (ix3 ⟨n.val / 4096, by omega⟩ 0 ⟨1024 + k.val, by omega⟩) : EReal) := by
    rw [val_main_v23_apply, val_main_v22_apply, val_main_v21_apply, val_main_cst_2_apply, val_main_v2_apply]
    show (Ideal.ofBits .f32 0x3F800000#32 : EReal) + x1 _ = _
    rw [ref_one]
    exact congrArg (fun i => 1 + x1 i) (funext fun a => match a with | ⟨0, _⟩ => rfl | ⟨1, _⟩ => rfl | ⟨2, _⟩ => rfl)
  have hb : val_main_v25 (F := Ideal) x1 (TP n k) = x1 (ix3 ⟨n.val / 4096, by omega⟩ 0 ⟨k.val, by omega⟩) := by
    rw [val_main_v25_apply, val_main_v1_apply]
    exact congrArg x1 (funext fun a => match a with | ⟨0, _⟩ => rfl | ⟨1, _⟩ => rfl | ⟨2, _⟩ => rfl)
  rw [val_main_v26_apply, val_main_v24_apply, val_main_v20_apply, val_main_v17_apply, ref_x, ref_root, hg, hs, hb]
  rfl

theorem ref_proj (n : Fin 32768) (j : Fin 7424) : val_main_v28 (F := Ideal) x0 x1 x2 x3 (TP n j) = PN x0 x1 x2 x3 n j := by
  rw [val_main_v28_apply]
  unfold PN PJ
  refine Finset.sum_congr rfl fun k _ => congrArg₂ (fun a b : EReal => a * b) (Eq.trans (congrArg _ ?_) (ref_norm x0 x1 x2 n k)) (congrArg x3 ?_)
  · exact funext fun a => match a with | ⟨0, _⟩ => rfl | ⟨1, _⟩ => rfl | ⟨2, _⟩ => rfl
  · exact funext fun a => match a with | ⟨0, _⟩ => rfl | ⟨1, _⟩ => rfl

/-- A factor on the turned head is a factor on its gain. -/
theorem hg_scale (G : Fin 64 → EReal) (s : EReal) (hs : ∃ r : ℝ, 0 ≤ r ∧ s = (r : EReal)) (n : Fin 32768) (j : Fin 7424) :
    HG x0 x1 x2 x3 x4 x5 G n j * s = HG x0 x1 x2 x3 x4 x5 (fun d => G d * s) n j := by
  obtain ⟨r, h0, rfl⟩ := hs
  unfold HG HV
  exact (rope_scale _ _ _ _ r h0 _).symm

theorem ref_nqa (n : Fin 32768) (h : Fin 8) (q : Fin 2) (c : Fin 7424) (hc : 64 * (c.val / 64) = 0 + (h.val * 128 + q.val * 64)) (d : Fin 64) :
    val_main_v53 (F := Ideal) x0 x1 x2 x3 x6 (TQ n h q d) = NH (fun e => PN x0 x1 x2 x3 n ⟨64 * (c.val / 64) + e.val, by omega⟩) (fun e => x6 (ix2 0 e)) d := by
  have hy : ∀ e : Fin 64, val_main_v38 (F := Ideal) x0 x1 x2 x3 (TQ n h q e) = PN x0 x1 x2 x3 n ⟨64 * (c.val / 64) + e.val, by omega⟩ := fun e => by
    rw [val_main_v38_apply, val_main_v29_apply]
    refine Eq.trans (congrArg (val_main_v28 (F := Ideal) x0 x1 x2 x3) (funext fun a => Fin.ext ?_)) (ref_proj x0 x1 x2 x3 n _)
    match a with
    | ⟨0, _⟩ => show ((((n.val / 4096 * 4096 + n.val % 4096) * 8 + h.val) * 2 + q.val) * 64 + e.val) / 4194304 = n.val / 4096; omega
    | ⟨1, _⟩ => show ((((n.val / 4096 * 4096 + n.val % 4096) * 8 + h.val) * 2 + q.val) * 64 + e.val) / 1024 % 4096 = n.val % 4096; omega
    | ⟨2, _⟩ => show ((((n.val / 4096 * 4096 + n.val % 4096) * 8 + h.val) * 2 + q.val) * 64 + e.val) % 1024 = 64 * (c.val / 64) + e.val; omega
  have hs : ∀ k, idx_main_v42 (idx_main_v43 (idx_main_v49 (TQ n h q d))) k = TQ n h q k := fun k => funext fun a => match a with
    | ⟨0, _⟩ => rfl | ⟨1, _⟩ => rfl | ⟨2, _⟩ => rfl | ⟨3, _⟩ => rfl | ⟨4, _⟩ => rfl
  have hg : val_main_v52 (F := Ideal) x6 (TQ n h q d) = x6 (ix2 0 d) := by
    rw [val_main_v52_apply, val_main_v51_apply, val_main_v40_apply, val_main_v39_apply]
    refine congrArg x6 (funext fun a => Fin.ext ?_)
    match a with
    | ⟨0, _⟩ => rfl
    | ⟨1, _⟩ => show d.val % 64 = d.val; omega
  rw [val_main_v53_apply, val_main_v50_apply, val_main_v49_apply, val_main_v48_apply, val_main_v47_apply, val_main_v45_apply, val_main_v44_apply, val_main_v46_apply, val_main_v43_apply, val_main_v42_apply,
    val_main_cst_3_apply, val_main_cst_4_apply, val_main_cst_5_apply, hg, hy]
  simp only [hs, val_main_v41_apply, hy]
  exact norm_val (fun e => PN x0 x1 x2 x3 n ⟨64 * (c.val / 64) + e.val, by omega⟩) (fun e => x6 (ix2 0 e)) d

theorem ref_qa (n : Fin 32768) (h : Fin 8) (q : Fin 2) (d : Fin 64) (c : Fin 7424) (hc : c.val = 0 + (h.val * 128 + q.val * 64 + d.val)) :
    val_main_v69 (F := Ideal) x0 x1 x2 x3 x4 x5 x6 (TQ n h q d) = HG x0 x1 x2 x3 x4 x5 (fun e => x6 (ix2 0 e)) n c := by
  have hN := ref_nqa x0 x1 x2 x3 x6 n h q c (by omega)
  have ec : (⟨c.val % 64, by omega⟩ : Fin 64) = d := Fin.ext (by show c.val % 64 = d.val; omega)
  have h1 : ∀ e : Fin 8, val_main_v56 (F := Ideal) x0 x1 x2 x3 x6 (TQ n h q e) = val_main_v53 (F := Ideal) x0 x1 x2 x3 x6 (TQ n h q ⟨e.val, by omega⟩) := fun e =>
    by
    have hi : idx_main_v56 (TQ n h q e) = TQ n h q ⟨e.val, by omega⟩ := funext fun a => match a with | ⟨0, _⟩ => rfl | ⟨1, _⟩ => rfl | ⟨2, _⟩ => rfl | ⟨3, _⟩ => rfl | ⟨4, _⟩ => rfl
    rw [val_main_v56_apply, hi]
  have h2 : ∀ e : Fin 8, val_main_v57 (F := Ideal) x0 x1 x2 x3 x6 (TQ n h q e) = val_main_v53 (F := Ideal) x0 x1 x2 x3 x6 (TQ n h q ⟨8 + e.val, by omega⟩) := fun e =>
    by
    have hi : idx_main_v57 (TQ n h q e) = TQ n h q ⟨8 + e.val, by omega⟩ := funext fun a => match a with | ⟨0, _⟩ => rfl | ⟨1, _⟩ => rfl | ⟨2, _⟩ => rfl | ⟨3, _⟩ => rfl | ⟨4, _⟩ => rfl
    rw [val_main_v57_apply, hi]
  have h3 : ∀ e : Fin 48, val_main_v58 (F := Ideal) x0 x1 x2 x3 x6 (TQ n h q e) = val_main_v53 (F := Ideal) x0 x1 x2 x3 x6 (TQ n h q ⟨16 + e.val, by omega⟩) := fun e =>
    by
    have hi : idx_main_v58 (TQ n h q e) = TQ n h q ⟨16 + e.val, by omega⟩ := funext fun a => match a with | ⟨0, _⟩ => rfl | ⟨1, _⟩ => rfl | ⟨2, _⟩ => rfl | ⟨3, _⟩ => rfl | ⟨4, _⟩ => rfl
    rw [val_main_v58_apply, hi]
  have hp : ∀ e : Fin 8, idx_main_v54 (idx_main_v59 (TQ n h q e)) = TP n e := fun e => by
    refine funext fun a => Fin.ext ?_
    match a with
    | ⟨0, _⟩ => show ((((n.val / 4096 * 4096 + n.val % 4096) * 1 + 0) * 1 + 0) * 8 + e.val) / 32768 = n.val / 4096; omega
    | ⟨1, _⟩ => show ((((n.val / 4096 * 4096 + n.val % 4096) * 1 + 0) * 1 + 0) * 8 + e.val) / 8 % 4096 = n.val % 4096; omega
    | ⟨2, _⟩ => show ((((n.val / 4096 * 4096 + n.val % 4096) * 1 + 0) * 1 + 0) * 8 + e.val) % 8 = e.val; omega
  have c1 : ∀ e : Fin 8, val_main_v59 (F := Ideal) x4 (TQ n h q e) = x4 (ix2 n e) := fun e => by rw [val_main_v59_apply, val_main_v54_apply, hp, ref_cos]
  have c2 : ∀ e : Fin 8, val_main_v64 (F := Ideal) x4 (TQ n h q e) = x4 (ix2 n e) := c1
  have s1 : ∀ e : Fin 8, val_main_v61 (F := Ideal) x5 (TQ n h q e) = x5 (ix2 n e) := fun e => by rw [val_main_v61_apply, val_main_v55_apply]; exact (congrArg (val_main_v36 (F := Ideal) x5) (hp e)).trans (ref_cos x5 n e)
  have s2 : ∀ e : Fin 8, val_main_v66 (F := Ideal) x5 (TQ n h q e) = x5 (ix2 n e) := s1
  unfold HG HV
  rw [ec]
  unfold val_main_v69
  refine rope_cat _ _ _ _ n h q _ _ _ (fun e => ?_) (fun e => ?_) (fun e => ?_) d
  · rw [val_main_v63_apply, val_main_v60_apply, val_main_v62_apply, h1, h2, c1, s1, hN, hN]
    rfl
  · rw [val_main_v68_apply, val_main_v65_apply, val_main_v67_apply, h1, h2, c2, s2, hN, hN]
    rfl
  · rw [h3, hN]

theorem ref_nka (n : Fin 32768) (h : Fin 8) (q : Fin 2) (c : Fin 7424) (hc : 64 * (c.val / 64) = 1024 + (h.val * 128 + q.val * 64)) (d : Fin 64) :
    val_main_v87 (F := Ideal) x0 x1 x2 x3 x6 (TQ n h q d) = NH (fun e => PN x0 x1 x2 x3 n ⟨64 * (c.val / 64) + e.val, by omega⟩) (fun e => x6 (ix2 1 e)) d := by
  have hy : ∀ e : Fin 64, val_main_v72 (F := Ideal) x0 x1 x2 x3 (TQ n h q e) = PN x0 x1 x2 x3 n ⟨64 * (c.val / 64) + e.val, by omega⟩ := fun e => by
    rw [val_main_v72_apply, val_main_v30_apply]
    refine Eq.trans (congrArg (val_main_v28 (F := Ideal) x0 x1 x2 x3) (funext fun a => Fin.ext ?_)) (ref_proj x0 x1 x2 x3 n _)
    match a with
    | ⟨0, _⟩ => show ((((n.val / 4096 * 4096 + n.val % 4096) * 8 + h.val) * 2 + q.val) * 64 + e.val) / 4194304 = n.val / 4096; omega
    | ⟨1, _⟩ => show ((((n.val / 4096 * 4096 + n.val % 4096) * 8 + h.val) * 2 + q.val) * 64 + e.val) / 1024 % 4096 = n.val % 4096; omega
    | ⟨2, _⟩ => show 1024 + ((((n.val / 4096 * 4096 + n.val % 4096) * 8 + h.val) * 2 + q.val) * 64 + e.val) % 1024 = 64 * (c.val / 64) + e.val; omega
  have hs : ∀ k, idx_main_v76 (idx_main_v77 (idx_main_v83 (TQ n h q d))) k = TQ n h q k := fun k => funext fun a => match a with
    | ⟨0, _⟩ => rfl | ⟨1, _⟩ => rfl | ⟨2, _⟩ => rfl | ⟨3, _⟩ => rfl | ⟨4, _⟩ => rfl
  have hg : val_main_v86 (F := Ideal) x6 (TQ n h q d) = x6 (ix2 1 d) := by
    rw [val_main_v86_apply, val_main_v85_apply, val_main_v74_apply, val_main_v73_apply]
    refine congrArg x6 (funext fun a => Fin.ext ?_)
    match a with
    | ⟨0, _⟩ => rfl
    | ⟨1, _⟩ => show d.val % 64 = d.val; omega
  rw [val_main_v87_apply, val_main_v84_apply, val_main_v83_apply, val_main_v82_apply, val_main_v81_apply, val_main_v79_apply, val_main_v78_apply, val_main_v80_apply, val_main_v77_apply, val_main_v76_apply,
    val_main_cst_7_apply, val_main_cst_8_apply, val_main_cst_9_apply, hg, hy]
  simp only [hs, val_main_v75_apply, hy]
  exact norm_val (fun e => PN x0 x1 x2 x3 n ⟨64 * (c.val / 64) + e.val, by omega⟩) (fun e => x6 (ix2 1 e)) d

theorem ref_ka (n : Fin 32768) (h : Fin 8) (q : Fin 2) (d : Fin 64) (c : Fin 7424) (hc : c.val = 1024 + (h.val * 128 + q.val * 64 + d.val)) :
    val_main_v103 (F := Ideal) x0 x1 x2 x3 x4 x5 x6 (TQ n h q d) = HG x0 x1 x2 x3 x4 x5 (fun e => x6 (ix2 1 e)) n c := by
  have hN := ref_nka x0 x1 x2 x3 x6 n h q c (by omega)
  have ec : (⟨c.val % 64, by omega⟩ : Fin 64) = d := Fin.ext (by show c.val % 64 = d.val; omega)
  have h1 : ∀ e : Fin 8, val_main_v90 (F := Ideal) x0 x1 x2 x3 x6 (TQ n h q e) = val_main_v87 (F := Ideal) x0 x1 x2 x3 x6 (TQ n h q ⟨e.val, by omega⟩) := fun e =>
    by
    have hi : idx_main_v90 (TQ n h q e) = TQ n h q ⟨e.val, by omega⟩ := funext fun a => match a with | ⟨0, _⟩ => rfl | ⟨1, _⟩ => rfl | ⟨2, _⟩ => rfl | ⟨3, _⟩ => rfl | ⟨4, _⟩ => rfl
    rw [val_main_v90_apply, hi]
  have h2 : ∀ e : Fin 8, val_main_v91 (F := Ideal) x0 x1 x2 x3 x6 (TQ n h q e) = val_main_v87 (F := Ideal) x0 x1 x2 x3 x6 (TQ n h q ⟨8 + e.val, by omega⟩) := fun e =>
    by
    have hi : idx_main_v91 (TQ n h q e) = TQ n h q ⟨8 + e.val, by omega⟩ := funext fun a => match a with | ⟨0, _⟩ => rfl | ⟨1, _⟩ => rfl | ⟨2, _⟩ => rfl | ⟨3, _⟩ => rfl | ⟨4, _⟩ => rfl
    rw [val_main_v91_apply, hi]
  have h3 : ∀ e : Fin 48, val_main_v92 (F := Ideal) x0 x1 x2 x3 x6 (TQ n h q e) = val_main_v87 (F := Ideal) x0 x1 x2 x3 x6 (TQ n h q ⟨16 + e.val, by omega⟩) := fun e =>
    by
    have hi : idx_main_v92 (TQ n h q e) = TQ n h q ⟨16 + e.val, by omega⟩ := funext fun a => match a with | ⟨0, _⟩ => rfl | ⟨1, _⟩ => rfl | ⟨2, _⟩ => rfl | ⟨3, _⟩ => rfl | ⟨4, _⟩ => rfl
    rw [val_main_v92_apply, hi]
  have hp : ∀ e : Fin 8, idx_main_v88 (idx_main_v93 (TQ n h q e)) = TP n e := fun e => by
    refine funext fun a => Fin.ext ?_
    match a with
    | ⟨0, _⟩ => show ((((n.val / 4096 * 4096 + n.val % 4096) * 1 + 0) * 1 + 0) * 8 + e.val) / 32768 = n.val / 4096; omega
    | ⟨1, _⟩ => show ((((n.val / 4096 * 4096 + n.val % 4096) * 1 + 0) * 1 + 0) * 8 + e.val) / 8 % 4096 = n.val % 4096; omega
    | ⟨2, _⟩ => show ((((n.val / 4096 * 4096 + n.val % 4096) * 1 + 0) * 1 + 0) * 8 + e.val) % 8 = e.val; omega
  have c1 : ∀ e : Fin 8, val_main_v93 (F := Ideal) x4 (TQ n h q e) = x4 (ix2 n e) := fun e => by rw [val_main_v93_apply, val_main_v88_apply, hp, ref_cos]
  have c2 : ∀ e : Fin 8, val_main_v98 (F := Ideal) x4 (TQ n h q e) = x4 (ix2 n e) := c1
  have s1 : ∀ e : Fin 8, val_main_v95 (F := Ideal) x5 (TQ n h q e) = x5 (ix2 n e) := fun e => by rw [val_main_v95_apply, val_main_v89_apply]; exact (congrArg (val_main_v36 (F := Ideal) x5) (hp e)).trans (ref_cos x5 n e)
  have s2 : ∀ e : Fin 8, val_main_v100 (F := Ideal) x5 (TQ n h q e) = x5 (ix2 n e) := s1
  unfold HG HV
  rw [ec]
  unfold val_main_v103
  refine rope_cat _ _ _ _ n h q _ _ _ (fun e => ?_) (fun e => ?_) (fun e => ?_) d
  · rw [val_main_v97_apply, val_main_v94_apply, val_main_v96_apply, h1, h2, c1, s1, hN, hN]
    rfl
  · rw [val_main_v102_apply, val_main_v99_apply, val_main_v101_apply, h1, h2, c2, s2, hN, hN]
    rfl
  · rw [h3, hN]

theorem ref_nqb (n : Fin 32768) (h : Fin 3) (q : Fin 4) (c : Fin 7424) (hc : 64 * (c.val / 64) = 3072 + (h.val * 256 + q.val * 64)) (d : Fin 64) :
    val_main_v119 (F := Ideal) x0 x1 x2 x3 x7 (TQ n h q d) = NH (fun e => PN x0 x1 x2 x3 n ⟨64 * (c.val / 64) + e.val, by omega⟩) (fun e => x7 (ix2 0 e)) d := by
  have hy : ∀ e : Fin 64, val_main_v104 (F := Ideal) x0 x1 x2 x3 (TQ n h q e) = PN x0 x1 x2 x3 n ⟨64 * (c.val / 64) + e.val, by omega⟩ := fun e => by
    rw [val_main_v104_apply, val_main_v32_apply]
    refine Eq.trans (congrArg (val_main_v28 (F := Ideal) x0 x1 x2 x3) (funext fun a => Fin.ext ?_)) (ref_proj x0 x1 x2 x3 n _)
    match a with
    | ⟨0, _⟩ => show ((((n.val / 4096 * 4096 + n.val % 4096) * 3 + h.val) * 4 + q.val) * 64 + e.val) / 3145728 = n.val / 4096; omega
    | ⟨1, _⟩ => show ((((n.val / 4096 * 4096 + n.val % 4096) * 3 + h.val) * 4 + q.val) * 64 + e.val) / 768 % 4096 = n.val % 4096; omega
    | ⟨2, _⟩ => show 3072 + ((((n.val / 4096 * 4096 + n.val % 4096) * 3 + h.val) * 4 + q.val) * 64 + e.val) % 768 = 64 * (c.val / 64) + e.val; omega
  have hs : ∀ k, idx_main_v108 (idx_main_v109 (idx_main_v115 (TQ n h q d))) k = TQ n h q k := fun k => funext fun a => match a with
    | ⟨0, _⟩ => rfl | ⟨1, _⟩ => rfl | ⟨2, _⟩ => rfl | ⟨3, _⟩ => rfl | ⟨4, _⟩ => rfl
  have hg : val_main_v118 (F := Ideal) x7 (TQ n h q d) = x7 (ix2 0 d) := by
    rw [val_main_v118_apply, val_main_v117_apply, val_main_v106_apply, val_main_v105_apply]
    refine congrArg x7 (funext fun a => Fin.ext ?_)
    match a with
    | ⟨0, _⟩ => rfl
    | ⟨1, _⟩ => show d.val % 64 = d.val; omega
  rw [val_main_v119_apply, val_main_v116_apply, val_main_v115_apply, val_main_v114_apply, val_main_v113_apply, val_main_v111_apply, val_main_v110_apply, val_main_v112_apply, val_main_v109_apply, val_main_v108_apply,
    val_main_cst_10_apply, val_main_cst_11_apply, val_main_cst_12_apply, hg, hy]
  simp only [hs, val_main_v107_apply, hy]
  exact norm_val (fun e => PN x0 x1 x2 x3 n ⟨64 * (c.val / 64) + e.val, by omega⟩) (fun e => x7 (ix2 0 e)) d

theorem ref_qb (n : Fin 32768) (h : Fin 3) (q : Fin 4) (d : Fin 64) (c : Fin 7424) (hc : c.val = 3072 + (h.val * 256 + q.val * 64 + d.val)) :
    val_main_v135 (F := Ideal) x0 x1 x2 x3 x4 x5 x7 (TQ n h q d) = HG x0 x1 x2 x3 x4 x5 (fun e => x7 (ix2 0 e)) n c := by
  have hN := ref_nqb x0 x1 x2 x3 x7 n h q c (by omega)
  have ec : (⟨c.val % 64, by omega⟩ : Fin 64) = d := Fin.ext (by show c.val % 64 = d.val; omega)
  have h1 : ∀ e : Fin 8, val_main_v122 (F := Ideal) x0 x1 x2 x3 x7 (TQ n h q e) = val_main_v119 (F := Ideal) x0 x1 x2 x3 x7 (TQ n h q ⟨e.val, by omega⟩) := fun e =>
    by
    have hi : idx_main_v122 (TQ n h q e) = TQ n h q ⟨e.val, by omega⟩ := funext fun a => match a with | ⟨0, _⟩ => rfl | ⟨1, _⟩ => rfl | ⟨2, _⟩ => rfl | ⟨3, _⟩ => rfl | ⟨4, _⟩ => rfl
    rw [val_main_v122_apply, hi]
  have h2 : ∀ e : Fin 8, val_main_v123 (F := Ideal) x0 x1 x2 x3 x7 (TQ n h q e) = val_main_v119 (F := Ideal) x0 x1 x2 x3 x7 (TQ n h q ⟨8 + e.val, by omega⟩) := fun e =>
    by
    have hi : idx_main_v123 (TQ n h q e) = TQ n h q ⟨8 + e.val, by omega⟩ := funext fun a => match a with | ⟨0, _⟩ => rfl | ⟨1, _⟩ => rfl | ⟨2, _⟩ => rfl | ⟨3, _⟩ => rfl | ⟨4, _⟩ => rfl
    rw [val_main_v123_apply, hi]
  have h3 : ∀ e : Fin 48, val_main_v124 (F := Ideal) x0 x1 x2 x3 x7 (TQ n h q e) = val_main_v119 (F := Ideal) x0 x1 x2 x3 x7 (TQ n h q ⟨16 + e.val, by omega⟩) := fun e =>
    by
    have hi : idx_main_v124 (TQ n h q e) = TQ n h q ⟨16 + e.val, by omega⟩ := funext fun a => match a with | ⟨0, _⟩ => rfl | ⟨1, _⟩ => rfl | ⟨2, _⟩ => rfl | ⟨3, _⟩ => rfl | ⟨4, _⟩ => rfl
    rw [val_main_v124_apply, hi]
  have hp : ∀ e : Fin 8, idx_main_v120 (idx_main_v125 (TQ n h q e)) = TP n e := fun e => by
    refine funext fun a => Fin.ext ?_
    match a with
    | ⟨0, _⟩ => show ((((n.val / 4096 * 4096 + n.val % 4096) * 1 + 0) * 1 + 0) * 8 + e.val) / 32768 = n.val / 4096; omega
    | ⟨1, _⟩ => show ((((n.val / 4096 * 4096 + n.val % 4096) * 1 + 0) * 1 + 0) * 8 + e.val) / 8 % 4096 = n.val % 4096; omega
    | ⟨2, _⟩ => show ((((n.val / 4096 * 4096 + n.val % 4096) * 1 + 0) * 1 + 0) * 8 + e.val) % 8 = e.val; omega
  have c1 : ∀ e : Fin 8, val_main_v125 (F := Ideal) x4 (TQ n h q e) = x4 (ix2 n e) := fun e => by rw [val_main_v125_apply, val_main_v120_apply, hp, ref_cos]
  have c2 : ∀ e : Fin 8, val_main_v130 (F := Ideal) x4 (TQ n h q e) = x4 (ix2 n e) := c1
  have s1 : ∀ e : Fin 8, val_main_v127 (F := Ideal) x5 (TQ n h q e) = x5 (ix2 n e) := fun e => by rw [val_main_v127_apply, val_main_v121_apply]; exact (congrArg (val_main_v36 (F := Ideal) x5) (hp e)).trans (ref_cos x5 n e)
  have s2 : ∀ e : Fin 8, val_main_v132 (F := Ideal) x5 (TQ n h q e) = x5 (ix2 n e) := s1
  unfold HG HV
  rw [ec]
  unfold val_main_v135
  refine rope_cat _ _ _ _ n h q _ _ _ (fun e => ?_) (fun e => ?_) (fun e => ?_) d
  · rw [val_main_v129_apply, val_main_v126_apply, val_main_v128_apply, h1, h2, c1, s1, hN, hN]
    rfl
  · rw [val_main_v134_apply, val_main_v131_apply, val_main_v133_apply, h1, h2, c2, s2, hN, hN]
    rfl
  · rw [h3, hN]

theorem ref_nkb (n : Fin 32768) (h : Fin 3) (q : Fin 4) (c : Fin 7424) (hc : 64 * (c.val / 64) = 3840 + (h.val * 256 + q.val * 64)) (d : Fin 64) :
    val_main_v153 (F := Ideal) x0 x1 x2 x3 x7 (TQ n h q d) = NH (fun e => PN x0 x1 x2 x3 n ⟨64 * (c.val / 64) + e.val, by omega⟩) (fun e => x7 (ix2 1 e)) d := by
  have hy : ∀ e : Fin 64, val_main_v138 (F := Ideal) x0 x1 x2 x3 (TQ n h q e) = PN x0 x1 x2 x3 n ⟨64 * (c.val / 64) + e.val, by omega⟩ := fun e => by
    rw [val_main_v138_apply, val_main_v33_apply]
    refine Eq.trans (congrArg (val_main_v28 (F := Ideal) x0 x1 x2 x3) (funext fun a => Fin.ext ?_)) (ref_proj x0 x1 x2 x3 n _)
    match a with
    | ⟨0, _⟩ => show ((((n.val / 4096 * 4096 + n.val % 4096) * 3 + h.val) * 4 + q.val) * 64 + e.val) / 3145728 = n.val / 4096; omega
    | ⟨1, _⟩ => show ((((n.val / 4096 * 4096 + n.val % 4096) * 3 + h.val) * 4 + q.val) * 64 + e.val) / 768 % 4096 = n.val % 4096; omega
    | ⟨2, _⟩ => show 3840 + ((((n.val / 4096 * 4096 + n.val % 4096) * 3 + h.val) * 4 + q.val) * 64 + e.val) % 768 = 64 * (c.val / 64) + e.val; omega
  have hs : ∀ k, idx_main_v142 (idx_main_v143 (idx_main_v149 (TQ n h q d))) k = TQ n h q k := fun k => funext fun a => match a with
    | ⟨0, _⟩ => rfl | ⟨1, _⟩ => rfl | ⟨2, _⟩ => rfl | ⟨3, _⟩ => rfl | ⟨4, _⟩ => rfl
  have hg : val_main_v152 (F := Ideal) x7 (TQ n h q d) = x7 (ix2 1 d) := by
    rw [val_main_v152_apply, val_main_v151_apply, val_main_v140_apply, val_main_v139_apply]
    refine congrArg x7 (funext fun a => Fin.ext ?_)
    match a with
    | ⟨0, _⟩ => rfl
    | ⟨1, _⟩ => show d.val % 64 = d.val; omega
  rw [val_main_v153_apply, val_main_v150_apply, val_main_v149_apply, val_main_v148_apply, val_main_v147_apply, val_main_v145_apply, val_main_v144_apply, val_main_v146_apply, val_main_v143_apply, val_main_v142_apply,
    val_main_cst_14_apply, val_main_cst_15_apply, val_main_cst_16_apply, hg, hy]
  simp only [hs, val_main_v141_apply, hy]
  exact norm_val (fun e => PN x0 x1 x2 x3 n ⟨64 * (c.val / 64) + e.val, by omega⟩) (fun e => x7 (ix2 1 e)) d

theorem ref_kb (n : Fin 32768) (h : Fin 3) (q : Fin 4) (d : Fin 64) (c : Fin 7424) (hc : c.val = 3840 + (h.val * 256 + q.val * 64 + d.val)) :
    val_main_v169 (F := Ideal) x0 x1 x2 x3 x4 x5 x7 (TQ n h q d) = HG x0 x1 x2 x3 x4 x5 (fun e => x7 (ix2 1 e)) n c := by
  have hN := ref_nkb x0 x1 x2 x3 x7 n h q c (by omega)
  have ec : (⟨c.val % 64, by omega⟩ : Fin 64) = d := Fin.ext (by show c.val % 64 = d.val; omega)
  have h1 : ∀ e : Fin 8, val_main_v156 (F := Ideal) x0 x1 x2 x3 x7 (TQ n h q e) = val_main_v153 (F := Ideal) x0 x1 x2 x3 x7 (TQ n h q ⟨e.val, by omega⟩) := fun e =>
    by
    have hi : idx_main_v156 (TQ n h q e) = TQ n h q ⟨e.val, by omega⟩ := funext fun a => match a with | ⟨0, _⟩ => rfl | ⟨1, _⟩ => rfl | ⟨2, _⟩ => rfl | ⟨3, _⟩ => rfl | ⟨4, _⟩ => rfl
    rw [val_main_v156_apply, hi]
  have h2 : ∀ e : Fin 8, val_main_v157 (F := Ideal) x0 x1 x2 x3 x7 (TQ n h q e) = val_main_v153 (F := Ideal) x0 x1 x2 x3 x7 (TQ n h q ⟨8 + e.val, by omega⟩) := fun e =>
    by
    have hi : idx_main_v157 (TQ n h q e) = TQ n h q ⟨8 + e.val, by omega⟩ := funext fun a => match a with | ⟨0, _⟩ => rfl | ⟨1, _⟩ => rfl | ⟨2, _⟩ => rfl | ⟨3, _⟩ => rfl | ⟨4, _⟩ => rfl
    rw [val_main_v157_apply, hi]
  have h3 : ∀ e : Fin 48, val_main_v158 (F := Ideal) x0 x1 x2 x3 x7 (TQ n h q e) = val_main_v153 (F := Ideal) x0 x1 x2 x3 x7 (TQ n h q ⟨16 + e.val, by omega⟩) := fun e =>
    by
    have hi : idx_main_v158 (TQ n h q e) = TQ n h q ⟨16 + e.val, by omega⟩ := funext fun a => match a with | ⟨0, _⟩ => rfl | ⟨1, _⟩ => rfl | ⟨2, _⟩ => rfl | ⟨3, _⟩ => rfl | ⟨4, _⟩ => rfl
    rw [val_main_v158_apply, hi]
  have hp : ∀ e : Fin 8, idx_main_v154 (idx_main_v159 (TQ n h q e)) = TP n e := fun e => by
    refine funext fun a => Fin.ext ?_
    match a with
    | ⟨0, _⟩ => show ((((n.val / 4096 * 4096 + n.val % 4096) * 1 + 0) * 1 + 0) * 8 + e.val) / 32768 = n.val / 4096; omega
    | ⟨1, _⟩ => show ((((n.val / 4096 * 4096 + n.val % 4096) * 1 + 0) * 1 + 0) * 8 + e.val) / 8 % 4096 = n.val % 4096; omega
    | ⟨2, _⟩ => show ((((n.val / 4096 * 4096 + n.val % 4096) * 1 + 0) * 1 + 0) * 8 + e.val) % 8 = e.val; omega
  have c1 : ∀ e : Fin 8, val_main_v159 (F := Ideal) x4 (TQ n h q e) = x4 (ix2 n e) := fun e => by rw [val_main_v159_apply, val_main_v154_apply, hp, ref_cos]
  have c2 : ∀ e : Fin 8, val_main_v164 (F := Ideal) x4 (TQ n h q e) = x4 (ix2 n e) := c1
  have s1 : ∀ e : Fin 8, val_main_v161 (F := Ideal) x5 (TQ n h q e) = x5 (ix2 n e) := fun e => by rw [val_main_v161_apply, val_main_v155_apply]; exact (congrArg (val_main_v36 (F := Ideal) x5) (hp e)).trans (ref_cos x5 n e)
  have s2 : ∀ e : Fin 8, val_main_v166 (F := Ideal) x5 (TQ n h q e) = x5 (ix2 n e) := s1
  unfold HG HV
  rw [ec]
  unfold val_main_v169
  refine rope_cat _ _ _ _ n h q _ _ _ (fun e => ?_) (fun e => ?_) (fun e => ?_) d
  · rw [val_main_v163_apply, val_main_v160_apply, val_main_v162_apply, h1, h2, c1, s1, hN, hN]
    rfl
  · rw [val_main_v168_apply, val_main_v165_apply, val_main_v167_apply, h1, h2, c2, s2, hN, hN]
    rfl
  · rw [h3, hN]

theorem ref_vb (n : Fin 32768) (h : Fin 3) (q : Fin 4) (d : Fin 64) (c : Fin 7424) (hc : c.val = 4608 + (h.val * 256 + q.val * 64 + d.val)) :
    val_main_v170 (F := Ideal) x0 x1 x2 x3 (TQ n h q d) = PN x0 x1 x2 x3 n c := by
  rw [val_main_v170_apply, val_main_v34_apply]
  refine Eq.trans (congrArg (val_main_v28 (F := Ideal) x0 x1 x2 x3) (funext fun a => Fin.ext ?_)) (ref_proj x0 x1 x2 x3 n _)
  match a with
  | ⟨0, _⟩ => show ((((n.val / 4096 * 4096 + n.val % 4096) * 3 + h.val) * 4 + q.val) * 64 + d.val) / 3145728 = n.val / 4096; omega
  | ⟨1, _⟩ => show ((((n.val / 4096 * 4096 + n.val % 4096) * 3 + h.val) * 4 + q.val) * 64 + d.val) / 768 % 4096 = n.val % 4096; omega
  | ⟨2, _⟩ => show 4608 + ((((n.val / 4096 * 4096 + n.val % 4096) * 3 + h.val) * 4 + q.val) * 64 + d.val) % 768 = c.val; omega

/-- Where the results' layouts read a head: token by token, or residue by residue. -/
theorem at_wide (n : Fin 32768) (j : Fin 1024) : idx_main_v181 (ix2 n j) = TQ n ⟨j.val / 128, by omega⟩ ⟨j.val / 64 % 2, by omega⟩ ⟨j.val % 64, by omega⟩ := by
  refine funext fun a => Fin.ext ?_
  match a with
  | ⟨0, _⟩ => show (n.val * 1024 + j.val) / 4194304 = n.val / 4096; omega
  | ⟨1, _⟩ => show (n.val * 1024 + j.val) / 1024 % 4096 = n.val % 4096; omega
  | ⟨2, _⟩ => show (n.val * 1024 + j.val) / 128 % 8 = j.val / 128; omega
  | ⟨3, _⟩ => show (n.val * 1024 + j.val) / 64 % 2 = j.val / 64 % 2; omega
  | ⟨4, _⟩ => show (n.val * 1024 + j.val) % 64 = j.val % 64; omega
theorem at_res1 (b : Fin 8) (p : Fin 1) (s : Fin 4096) (j : Fin 256) : idx_main_v184 (idx_main_v185 (idx_main_v186 (idx_main_v187 (ix4 b p s j))))
    = TQ (NB (show 1 * 4096 = 4096 by omega) b p s) 0 ⟨j.val / 64, by omega⟩ ⟨j.val % 64, by omega⟩ := by
  have e1 : idx_main_v186 (idx_main_v187 (ix4 b p s j)) = ix4 b ⟨p.val + 1 * s.val, by omega⟩ ⟨j.val / 64, by omega⟩ ⟨j.val % 64, by omega⟩ := by
    refine funext fun a => Fin.ext ?_
    match a with
    | ⟨0, _⟩ => show (((b.val * 4096 + s.val) * 1 + p.val) * 256 + j.val) / 1048576 = b.val; omega
    | ⟨1, _⟩ => show (((b.val * 4096 + s.val) * 1 + p.val) * 256 + j.val) / 256 % 4096 = p.val + 1 * s.val; omega
    | ⟨2, _⟩ => show (((b.val * 4096 + s.val) * 1 + p.val) * 256 + j.val) / 64 % 4 = j.val / 64; omega
    | ⟨3, _⟩ => show (((b.val * 4096 + s.val) * 1 + p.val) * 256 + j.val) % 64 = j.val % 64; omega
  rw [e1]
  refine funext fun a => Fin.ext ?_
  match a with
  | ⟨0, _⟩ => show (((b.val * 4096 + (p.val + 1 * s.val)) * 4 + j.val / 64) * 64 + j.val % 64) / 1048576 = (b.val * 4096 + (p.val + 1 * s.val)) / 4096; omega
  | ⟨1, _⟩ => show (((b.val * 4096 + (p.val + 1 * s.val)) * 4 + j.val / 64) * 64 + j.val % 64) / 256 % 4096 = (b.val * 4096 + (p.val + 1 * s.val)) % 4096; omega
  | ⟨2, _⟩ => rfl
  | ⟨3, _⟩ => show (((b.val * 4096 + (p.val + 1 * s.val)) * 4 + j.val / 64) * 64 + j.val % 64) / 64 % 4 = j.val / 64; omega
  | ⟨4, _⟩ => show (((b.val * 4096 + (p.val + 1 * s.val)) * 4 + j.val / 64) * 64 + j.val % 64) % 64 = j.val % 64; omega
theorem at_res4 (b : Fin 8) (p : Fin 4) (s : Fin 1024) (j : Fin 256) : idx_main_v188 (idx_main_v189 (idx_main_v190 (idx_main_v191 (ix4 b p s j))))
    = TQ (NB (show 4 * 1024 = 4096 by omega) b p s) 1 ⟨j.val / 64, by omega⟩ ⟨j.val % 64, by omega⟩ := by
  have e1 : idx_main_v190 (idx_main_v191 (ix4 b p s j)) = ix4 b ⟨p.val + 4 * s.val, by omega⟩ ⟨j.val / 64, by omega⟩ ⟨j.val % 64, by omega⟩ := by
    refine funext fun a => Fin.ext ?_
    match a with
    | ⟨0, _⟩ => show (((b.val * 1024 + s.val) * 4 + p.val) * 256 + j.val) / 1048576 = b.val; omega
    | ⟨1, _⟩ => show (((b.val * 1024 + s.val) * 4 + p.val) * 256 + j.val) / 256 % 4096 = p.val + 4 * s.val; omega
    | ⟨2, _⟩ => show (((b.val * 1024 + s.val) * 4 + p.val) * 256 + j.val) / 64 % 4 = j.val / 64; omega
    | ⟨3, _⟩ => show (((b.val * 1024 + s.val) * 4 + p.val) * 256 + j.val) % 64 = j.val % 64; omega
  rw [e1]
  refine funext fun a => Fin.ext ?_
  match a with
  | ⟨0, _⟩ => show (((b.val * 4096 + (p.val + 4 * s.val)) * 4 + j.val / 64) * 64 + j.val % 64) / 1048576 = (b.val * 4096 + (p.val + 4 * s.val)) / 4096; omega
  | ⟨1, _⟩ => show (((b.val * 4096 + (p.val + 4 * s.val)) * 4 + j.val / 64) * 64 + j.val % 64) / 256 % 4096 = (b.val * 4096 + (p.val + 4 * s.val)) % 4096; omega
  | ⟨2, _⟩ => rfl
  | ⟨3, _⟩ => show (((b.val * 4096 + (p.val + 4 * s.val)) * 4 + j.val / 64) * 64 + j.val % 64) / 64 % 4 = j.val / 64; omega
  | ⟨4, _⟩ => show (((b.val * 4096 + (p.val + 4 * s.val)) * 4 + j.val / 64) * 64 + j.val % 64) % 64 = j.val % 64; omega
theorem at_res16 (b : Fin 8) (p : Fin 16) (s : Fin 256) (j : Fin 256) : idx_main_v192 (idx_main_v193 (idx_main_v194 (idx_main_v195 (ix4 b p s j))))
    = TQ (NB (show 16 * 256 = 4096 by omega) b p s) 2 ⟨j.val / 64, by omega⟩ ⟨j.val % 64, by omega⟩ := by
  have e1 : idx_main_v194 (idx_main_v195 (ix4 b p s j)) = ix4 b ⟨p.val + 16 * s.val, by omega⟩ ⟨j.val / 64, by omega⟩ ⟨j.val % 64, by omega⟩ := by
    refine funext fun a => Fin.ext ?_
    match a with
    | ⟨0, _⟩ => show (((b.val * 256 + s.val) * 16 + p.val) * 256 + j.val) / 1048576 = b.val; omega
    | ⟨1, _⟩ => show (((b.val * 256 + s.val) * 16 + p.val) * 256 + j.val) / 256 % 4096 = p.val + 16 * s.val; omega
    | ⟨2, _⟩ => show (((b.val * 256 + s.val) * 16 + p.val) * 256 + j.val) / 64 % 4 = j.val / 64; omega
    | ⟨3, _⟩ => show (((b.val * 256 + s.val) * 16 + p.val) * 256 + j.val) % 64 = j.val % 64; omega
  rw [e1]
  refine funext fun a => Fin.ext ?_
  match a with
  | ⟨0, _⟩ => show (((b.val * 4096 + (p.val + 16 * s.val)) * 4 + j.val / 64) * 64 + j.val % 64) / 1048576 = (b.val * 4096 + (p.val + 16 * s.val)) / 4096; omega
  | ⟨1, _⟩ => show (((b.val * 4096 + (p.val + 16 * s.val)) * 4 + j.val / 64) * 64 + j.val % 64) / 256 % 4096 = (b.val * 4096 + (p.val + 16 * s.val)) % 4096; omega
  | ⟨2, _⟩ => rfl
  | ⟨3, _⟩ => show (((b.val * 4096 + (p.val + 16 * s.val)) * 4 + j.val / 64) * 64 + j.val % 64) / 64 % 4 = j.val / 64; omega
  | ⟨4, _⟩ => show (((b.val * 4096 + (p.val + 16 * s.val)) * 4 + j.val / 64) * 64 + j.val % 64) % 64 = j.val % 64; omega

theorem fac_a : ∃ r : ℝ, 0 ≤ r ∧ Ideal.ofBits .f32 0x3E38AA3B#32 = (r : EReal) := scale32
theorem fac_b : ∃ r : ℝ, 0 ≤ r ∧ Ideal.ofBits .f32 0x3E000000#32 = (r : EReal) := ⟨1 / 8, by norm_num, eighth32⟩

/-- The results of the reference at an element. -/
theorem res_11 (n : Fin 32768) (j : Fin 1024) : val_main_v221 (F := Ideal) x0 x1 x2 x3 x4 x5 x6 (ix2 n j)
    = HG x0 x1 x2 x3 x4 x5 (fun d => x6 (ix2 0 d) * Ideal.ofBits .f32 0x3E38AA3B#32) n ⟨0 + j.val, by omega⟩ := by
  rw [← hg_scale _ _ _ _ _ _ _ _ fac_a, ← ref_qa x0 x1 x2 x3 x4 x5 x6 n ⟨j.val / 128, by omega⟩ ⟨j.val / 64 % 2, by omega⟩ ⟨j.val % 64, by omega⟩ _ (by
    show 0 + j.val = 0 + (j.val / 128 * 128 + j.val / 64 % 2 * 64 + j.val % 64); omega), ← at_wide, val_main_v221_apply, val_main_v181_apply, val_main_v71_apply,
    val_main_v70_apply, val_main_cst_6_apply]
  rfl
theorem res_12 (n : Fin 32768) (j : Fin 1024) : val_main_v222 (F := Ideal) x0 x1 x2 x3 x4 x5 x6 (ix2 n j)
    = HG x0 x1 x2 x3 x4 x5 (fun d => x6 (ix2 1 d)) n ⟨1024 + j.val, by omega⟩ := by
  rw [← ref_ka x0 x1 x2 x3 x4 x5 x6 n ⟨j.val / 128, by omega⟩ ⟨j.val / 64 % 2, by omega⟩ ⟨j.val % 64, by omega⟩ _ (by
    show 1024 + j.val = 1024 + (j.val / 128 * 128 + j.val / 64 % 2 * 64 + j.val % 64); omega), ← at_wide, val_main_v222_apply, val_main_v182_apply]
  rfl
theorem res_13 (n : Fin 32768) (j : Fin 1024) : val_main_v223 (F := Ideal) x0 x1 x2 x3 (ix2 n j) = PN x0 x1 x2 x3 n ⟨2048 + j.val, by omega⟩ := by
  rw [val_main_v223_apply, val_main_v183_apply, val_main_v31_apply]
  refine Eq.trans (congrArg (val_main_v28 (F := Ideal) x0 x1 x2 x3) (funext fun a => Fin.ext ?_)) (ref_proj x0 x1 x2 x3 n _)
  match a with
  | ⟨0, _⟩ => show (n.val * 1024 + j.val) / 4194304 = n.val / 4096; omega
  | ⟨1, _⟩ => show (n.val * 1024 + j.val) / 1024 % 4096 = n.val % 4096; omega
  | ⟨2, _⟩ => show 2048 + (n.val * 1024 + j.val) % 1024 = 2048 + j.val; omega
theorem res_23 (n : Fin 32768) (j : Fin 2048) : val_main_v233 (F := Ideal) x0 x1 x2 x3 x8 (ix2 n j)
    = Ideal.logistic (PN x0 x1 x2 x3 n ⟨5376 + j.val, by omega⟩ + x8 (ix2 0 j)) := by
  have ei : idx_main_v220 (ix2 n j) = TP n j := by
    refine funext fun a => Fin.ext ?_
    match a with
    | ⟨0, _⟩ => show (n.val * 2048 + j.val) / 8388608 = n.val / 4096; omega
    | ⟨1, _⟩ => show (n.val * 2048 + j.val) / 2048 % 4096 = n.val % 4096; omega
    | ⟨2, _⟩ => show (n.val * 2048 + j.val) % 2048 = j.val; omega
  have hb : val_main_v173 (F := Ideal) x8 (TP n j) = x8 (ix2 0 j) := by
    rw [val_main_v173_apply, val_main_v172_apply, val_main_v171_apply]
    refine congrArg x8 (funext fun a => Fin.ext ?_)
    match a with
    | ⟨0, _⟩ => rfl
    | ⟨1, _⟩ => show j.val % 2048 = j.val; omega
  have hi : idx_main_v35 (TP n j) = TP n ⟨5376 + j.val, by omega⟩ := funext fun a => match a with | ⟨0, _⟩ => rfl | ⟨1, _⟩ => rfl | ⟨2, _⟩ => rfl
  have hp : val_main_v35 (F := Ideal) x0 x1 x2 x3 (TP n j) = PN x0 x1 x2 x3 n ⟨5376 + j.val, by omega⟩ := by rw [val_main_v35_apply, hi, ref_proj]
  rw [val_main_v233_apply, val_main_v220_apply, ei, val_main_v180_apply, val_main_v179_apply, val_main_v178_apply, val_main_v177_apply, val_main_v176_apply,
    val_main_v175_apply, val_main_v174_apply, val_main_cst_17_apply, val_main_cst_18_apply, hb, hp]
  show Ideal.div (Ideal.ofBits .f32 0x3F800000#32) (Ideal.ofBits .f32 0x3F800000#32 + Ideal.exp (-(_ : EReal))) = _
  rw [ref_one]
  rfl
theorem res_14 (b : Fin 8) (p : Fin 1) (s : Fin 4096) (j : Fin 256) : val_main_v224 (F := Ideal) x0 x1 x2 x3 x4 x5 x7 (ix4 b p s j)
    = HG x0 x1 x2 x3 x4 x5 (fun d => x7 (ix2 0 d) * Ideal.ofBits .f32 0x3E000000#32) (NB (show 1 * 4096 = 4096 by omega) b p s) ⟨3072 + j.val, by omega⟩ := by
  rw [← hg_scale _ _ _ _ _ _ _ _ fac_b, ← ref_qb x0 x1 x2 x3 x4 x5 x7 (NB (show 1 * 4096 = 4096 by omega) b p s) 0 ⟨j.val / 64, by omega⟩ ⟨j.val % 64, by omega⟩ _ (by
    show 3072 + j.val = 3072 + (0 * 256 + j.val / 64 * 64 + j.val % 64); omega), ← at_res1, val_main_v224_apply,
    val_main_v187_apply, val_main_v186_apply, val_main_v185_apply, val_main_v184_apply, val_main_v137_apply]
  rfl
theorem res_17 (b : Fin 8) (p : Fin 1) (s : Fin 4096) (j : Fin 256) : val_main_v227 (F := Ideal) x0 x1 x2 x3 x4 x5 x7 (ix4 b p s j)
    = HG x0 x1 x2 x3 x4 x5 (fun d => x7 (ix2 1 d)) (NB (show 1 * 4096 = 4096 by omega) b p s) ⟨3840 + j.val, by omega⟩ := by
  rw [← ref_kb x0 x1 x2 x3 x4 x5 x7 (NB (show 1 * 4096 = 4096 by omega) b p s) 0 ⟨j.val / 64, by omega⟩ ⟨j.val % 64, by omega⟩ _ (by
    show 3840 + j.val = 3840 + (0 * 256 + j.val / 64 * 64 + j.val % 64); omega), ← at_res1, val_main_v227_apply,
    val_main_v199_apply, val_main_v198_apply, val_main_v197_apply, val_main_v196_apply]
  rfl
theorem res_20 (b : Fin 8) (p : Fin 1) (s : Fin 4096) (j : Fin 256) : val_main_v230 (F := Ideal) x0 x1 x2 x3 (ix4 b p s j)
    = PN x0 x1 x2 x3 (NB (show 1 * 4096 = 4096 by omega) b p s) ⟨4608 + j.val, by omega⟩ := by
  rw [val_main_v230_apply, val_main_v211_apply, val_main_v210_apply, val_main_v209_apply, val_main_v208_apply]
  refine Eq.trans (congrArg (val_main_v170 (F := Ideal) x0 x1 x2 x3) (at_res1 b p s j)) (ref_vb x0 x1 x2 x3 (NB (show 1 * 4096 = 4096 by omega) b p s) 0 ⟨j.val / 64, by omega⟩ ⟨j.val % 64, by omega⟩ _ (by
    show 4608 + j.val = 4608 + (0 * 256 + j.val / 64 * 64 + j.val % 64); omega))
theorem res_15 (b : Fin 8) (p : Fin 4) (s : Fin 1024) (j : Fin 256) : val_main_v225 (F := Ideal) x0 x1 x2 x3 x4 x5 x7 (ix4 b p s j)
    = HG x0 x1 x2 x3 x4 x5 (fun d => x7 (ix2 0 d) * Ideal.ofBits .f32 0x3E000000#32) (NB (show 4 * 1024 = 4096 by omega) b p s) ⟨3328 + j.val, by omega⟩ := by
  rw [← hg_scale _ _ _ _ _ _ _ _ fac_b, ← ref_qb x0 x1 x2 x3 x4 x5 x7 (NB (show 4 * 1024 = 4096 by omega) b p s) 1 ⟨j.val / 64, by omega⟩ ⟨j.val % 64, by omega⟩ _ (by
    show 3328 + j.val = 3072 + (1 * 256 + j.val / 64 * 64 + j.val % 64); omega), ← at_res4, val_main_v225_apply,
    val_main_v191_apply, val_main_v190_apply, val_main_v189_apply, val_main_v188_apply, val_main_v137_apply]
  rfl
theorem res_18 (b : Fin 8) (p : Fin 4) (s : Fin 1024) (j : Fin 256) : val_main_v228 (F := Ideal) x0 x1 x2 x3 x4 x5 x7 (ix4 b p s j)
    = HG x0 x1 x2 x3 x4 x5 (fun d => x7 (ix2 1 d)) (NB (show 4 * 1024 = 4096 by omega) b p s) ⟨4096 + j.val, by omega⟩ := by
  rw [← ref_kb x0 x1 x2 x3 x4 x5 x7 (NB (show 4 * 1024 = 4096 by omega) b p s) 1 ⟨j.val / 64, by omega⟩ ⟨j.val % 64, by omega⟩ _ (by
    show 4096 + j.val = 3840 + (1 * 256 + j.val / 64 * 64 + j.val % 64); omega), ← at_res4, val_main_v228_apply,
    val_main_v203_apply, val_main_v202_apply, val_main_v201_apply, val_main_v200_apply]
  rfl
theorem res_21 (b : Fin 8) (p : Fin 4) (s : Fin 1024) (j : Fin 256) : val_main_v231 (F := Ideal) x0 x1 x2 x3 (ix4 b p s j)
    = PN x0 x1 x2 x3 (NB (show 4 * 1024 = 4096 by omega) b p s) ⟨4864 + j.val, by omega⟩ := by
  rw [val_main_v231_apply, val_main_v215_apply, val_main_v214_apply, val_main_v213_apply, val_main_v212_apply]
  refine Eq.trans (congrArg (val_main_v170 (F := Ideal) x0 x1 x2 x3) (at_res4 b p s j)) (ref_vb x0 x1 x2 x3 (NB (show 4 * 1024 = 4096 by omega) b p s) 1 ⟨j.val / 64, by omega⟩ ⟨j.val % 64, by omega⟩ _ (by
    show 4864 + j.val = 4608 + (1 * 256 + j.val / 64 * 64 + j.val % 64); omega))
theorem res_16 (b : Fin 8) (p : Fin 16) (s : Fin 256) (j : Fin 256) : val_main_v226 (F := Ideal) x0 x1 x2 x3 x4 x5 x7 (ix4 b p s j)
    = HG x0 x1 x2 x3 x4 x5 (fun d => x7 (ix2 0 d) * Ideal.ofBits .f32 0x3E000000#32) (NB (show 16 * 256 = 4096 by omega) b p s) ⟨3584 + j.val, by omega⟩ := by
  rw [← hg_scale _ _ _ _ _ _ _ _ fac_b, ← ref_qb x0 x1 x2 x3 x4 x5 x7 (NB (show 16 * 256 = 4096 by omega) b p s) 2 ⟨j.val / 64, by omega⟩ ⟨j.val % 64, by omega⟩ _ (by
    show 3584 + j.val = 3072 + (2 * 256 + j.val / 64 * 64 + j.val % 64); omega), ← at_res16, val_main_v226_apply,
    val_main_v195_apply, val_main_v194_apply, val_main_v193_apply, val_main_v192_apply, val_main_v137_apply]
  rfl
theorem res_19 (b : Fin 8) (p : Fin 16) (s : Fin 256) (j : Fin 256) : val_main_v229 (F := Ideal) x0 x1 x2 x3 x4 x5 x7 (ix4 b p s j)
    = HG x0 x1 x2 x3 x4 x5 (fun d => x7 (ix2 1 d)) (NB (show 16 * 256 = 4096 by omega) b p s) ⟨4352 + j.val, by omega⟩ := by
  rw [← ref_kb x0 x1 x2 x3 x4 x5 x7 (NB (show 16 * 256 = 4096 by omega) b p s) 2 ⟨j.val / 64, by omega⟩ ⟨j.val % 64, by omega⟩ _ (by
    show 4352 + j.val = 3840 + (2 * 256 + j.val / 64 * 64 + j.val % 64); omega), ← at_res16, val_main_v229_apply,
    val_main_v207_apply, val_main_v206_apply, val_main_v205_apply, val_main_v204_apply]
  rfl
theorem res_22 (b : Fin 8) (p : Fin 16) (s : Fin 256) (j : Fin 256) : val_main_v232 (F := Ideal) x0 x1 x2 x3 (ix4 b p s j)
    = PN x0 x1 x2 x3 (NB (show 16 * 256 = 4096 by omega) b p s) ⟨5120 + j.val, by omega⟩ := by
  rw [val_main_v232_apply, val_main_v219_apply, val_main_v218_apply, val_main_v217_apply, val_main_v216_apply]
  refine Eq.trans (congrArg (val_main_v170 (F := Ideal) x0 x1 x2 x3) (at_res16 b p s j)) (ref_vb x0 x1 x2 x3 (NB (show 16 * 256 = 4096 by omega) b p s) 2 ⟨j.val / 64, by omega⟩ ⟨j.val % 64, by omega⟩ _ (by
    show 5120 + j.val = 4608 + (2 * 256 + j.val / 64 * 64 + j.val % 64); omega))

end Cert.Inp

end
-- ==== Proof.Proj.Equal.lean ====
/- The input projection: each array of the launch is the reference's result. -/
module

public import proofs.«01_k».proof.Proof.Proj.Grid
public import proofs.«01_k».proof.Proof.Proj.Ref
public import proofs.«01_k».proof.Proof.Gen.ProjReferenceIdeal.Run

@[expose] public section

noncomputable section

namespace Cert.Inp

open Idealize.ShloMosaic Idealize.ShloMosaic.TcCoe Idealize.SL.Sem

section Kernel

open Cert.ProjIdeal Cert.ProjIdeal.Gen

variable (m : (ℓ : Loc nD τ sig) → Buf (Elt Ideal) ℓ) (c : Dev nD)

theorem same_11 : (dats m 0 c).arrAt 11 cfg0.N = Cert.ProjReferenceIdeal.Read.val_main_v221 (F := Ideal) (A0 m c) (A1 m c) (A2 m c) (A3 m c) (A4 m c) (A5 m c) (A6 m c) :=
  launch_11 m c _ fun n j => res_11 (A0 m c) (A1 m c) (A2 m c) (A3 m c) (A4 m c) (A5 m c) (A6 m c) n j
theorem same_12 : (dats m 0 c).arrAt 12 cfg0.N = Cert.ProjReferenceIdeal.Read.val_main_v222 (F := Ideal) (A0 m c) (A1 m c) (A2 m c) (A3 m c) (A4 m c) (A5 m c) (A6 m c) :=
  launch_12 m c _ fun n j => res_12 (A0 m c) (A1 m c) (A2 m c) (A3 m c) (A4 m c) (A5 m c) (A6 m c) n j
theorem same_13 : (dats m 0 c).arrAt 13 cfg0.N = Cert.ProjReferenceIdeal.Read.val_main_v223 (F := Ideal) (A0 m c) (A1 m c) (A2 m c) (A3 m c) :=
  launch_13 m c _ fun n j => res_13 (A0 m c) (A1 m c) (A2 m c) (A3 m c) n j
theorem same_14 : (dats m 0 c).arrAt 14 cfg0.N = Cert.ProjReferenceIdeal.Read.val_main_v224 (F := Ideal) (A0 m c) (A1 m c) (A2 m c) (A3 m c) (A4 m c) (A5 m c) (A7 m c) :=
  launch_14 m c _ fun b p s j => res_14 (A0 m c) (A1 m c) (A2 m c) (A3 m c) (A4 m c) (A5 m c) (A7 m c) b p s j
theorem same_15 : (dats m 0 c).arrAt 15 cfg0.N = Cert.ProjReferenceIdeal.Read.val_main_v225 (F := Ideal) (A0 m c) (A1 m c) (A2 m c) (A3 m c) (A4 m c) (A5 m c) (A7 m c) :=
  launch_15 m c _ fun b p s j => res_15 (A0 m c) (A1 m c) (A2 m c) (A3 m c) (A4 m c) (A5 m c) (A7 m c) b p s j
theorem same_16 : (dats m 0 c).arrAt 16 cfg0.N = Cert.ProjReferenceIdeal.Read.val_main_v226 (F := Ideal) (A0 m c) (A1 m c) (A2 m c) (A3 m c) (A4 m c) (A5 m c) (A7 m c) :=
  launch_16 m c _ fun b p s j => res_16 (A0 m c) (A1 m c) (A2 m c) (A3 m c) (A4 m c) (A5 m c) (A7 m c) b p s j
theorem same_17 : (dats m 0 c).arrAt 17 cfg0.N = Cert.ProjReferenceIdeal.Read.val_main_v227 (F := Ideal) (A0 m c) (A1 m c) (A2 m c) (A3 m c) (A4 m c) (A5 m c) (A7 m c) :=
  launch_17 m c _ fun b p s j => res_17 (A0 m c) (A1 m c) (A2 m c) (A3 m c) (A4 m c) (A5 m c) (A7 m c) b p s j
theorem same_18 : (dats m 0 c).arrAt 18 cfg0.N = Cert.ProjReferenceIdeal.Read.val_main_v228 (F := Ideal) (A0 m c) (A1 m c) (A2 m c) (A3 m c) (A4 m c) (A5 m c) (A7 m c) :=
  launch_18 m c _ fun b p s j => res_18 (A0 m c) (A1 m c) (A2 m c) (A3 m c) (A4 m c) (A5 m c) (A7 m c) b p s j
theorem same_19 : (dats m 0 c).arrAt 19 cfg0.N = Cert.ProjReferenceIdeal.Read.val_main_v229 (F := Ideal) (A0 m c) (A1 m c) (A2 m c) (A3 m c) (A4 m c) (A5 m c) (A7 m c) :=
  launch_19 m c _ fun b p s j => res_19 (A0 m c) (A1 m c) (A2 m c) (A3 m c) (A4 m c) (A5 m c) (A7 m c) b p s j
theorem same_20 : (dats m 0 c).arrAt 20 cfg0.N = Cert.ProjReferenceIdeal.Read.val_main_v230 (F := Ideal) (A0 m c) (A1 m c) (A2 m c) (A3 m c) :=
  launch_20 m c _ fun b p s j => res_20 (A0 m c) (A1 m c) (A2 m c) (A3 m c) b p s j
theorem same_21 : (dats m 0 c).arrAt 21 cfg0.N = Cert.ProjReferenceIdeal.Read.val_main_v231 (F := Ideal) (A0 m c) (A1 m c) (A2 m c) (A3 m c) :=
  launch_21 m c _ fun b p s j => res_21 (A0 m c) (A1 m c) (A2 m c) (A3 m c) b p s j
theorem same_22 : (dats m 0 c).arrAt 22 cfg0.N = Cert.ProjReferenceIdeal.Read.val_main_v232 (F := Ideal) (A0 m c) (A1 m c) (A2 m c) (A3 m c) :=
  launch_22 m c _ fun b p s j => res_22 (A0 m c) (A1 m c) (A2 m c) (A3 m c) b p s j
theorem same_23 : (dats m 0 c).arrAt 23 cfg0.N = Cert.ProjReferenceIdeal.Read.val_main_v233 (F := Ideal) (A0 m c) (A1 m c) (A2 m c) (A3 m c) (A8 m c) :=
  launch_23 m c _ fun n j => res_23 (A0 m c) (A1 m c) (A2 m c) (A3 m c) (A8 m c) n j

end Kernel

section Reference

open Cert.ProjReferenceIdeal Cert.ProjReferenceIdeal.Read

variable (m : (ℓ : Loc nD τ sig) → Buf (Elt Ideal) ℓ) (ρ : Dev nD → PrngReg)

set_option maxHeartbeats 2000000 in
/-- The reference's run leaves the stages' results and its arguments as they were. -/
theorem ref_run : θ_run defs (onTc (τ := τ) (main (F := Ideal))) ⟨m, fun _ => 0, ρ⟩ fun r => ∀ c : Dev nD,
      r.2.mem ((c.tc : Thread nD τ).loc main_v221) = val_main_v221 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v222) = val_main_v222 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v223) = val_main_v223 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v224) = val_main_v224 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v225) = val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v226) = val_main_v226 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v227) = val_main_v227 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v228) = val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v230) = val_main_v230 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v231) = val_main_v231 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v232) = val_main_v232 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v233) = val_main_v233 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.ProjReferenceIdeal.Value.run (F := Ideal) m ρ)
  obtain ⟨r0, r1, r2, r3, r4, r5, r6, r7, r8, r9, r10, r11, r12, k⟩ := h c
  exact ⟨r0.trans (val_main_v221_eq (StableHlo.launchContents m c)),
    r1.trans (val_main_v222_eq (StableHlo.launchContents m c)),
    r2.trans (val_main_v223_eq (StableHlo.launchContents m c)),
    r3.trans (val_main_v224_eq (StableHlo.launchContents m c)),
    r4.trans (val_main_v225_eq (StableHlo.launchContents m c)),
    r5.trans (val_main_v226_eq (StableHlo.launchContents m c)),
    r6.trans (val_main_v227_eq (StableHlo.launchContents m c)),
    r7.trans (val_main_v228_eq (StableHlo.launchContents m c)),
    r8.trans (val_main_v229_eq (StableHlo.launchContents m c)),
    r9.trans (val_main_v230_eq (StableHlo.launchContents m c)),
    r10.trans (val_main_v231_eq (StableHlo.launchContents m c)),
    r11.trans (val_main_v232_eq (StableHlo.launchContents m c)),
    r12.trans (val_main_v233_eq (StableHlo.launchContents m c)), k⟩

end Reference

end Cert.Inp

end
-- ==== Proof.Attn.Kernel.RunA.lean ====
/- The body at the first point. -/
module

public import proofs.«01_k».proof.Proof.Attn.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in this case: from its buffers at their contents to the stored pieces of every buffer, last first. -/
noncomputable def kernelRun0_A (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : cond0_0 i) (hc1 : ¬cond0_1 i)
    (x0 : Vec F S4x64 .f32) (x1 : Vec F S128x1 .f32) (x2 : Vec F S1x512x128 .bf16) (x3 : Vec F S1x4096x128 .bf16) (x4 : Vec F S1x4096x128 .bf16) :
    Σ' (LS1 : List (View.Piece (Elt F) S4096x512 .f32)), Σ' (LS3 : List (View.Piece (Elt F) S8x512 .f32)), { LS6 : List (View.Piece (Elt F) S144x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS1) ∗ (∃ d, owns (c : Thread nD τ) arg9 fullShare d) ∗ (∃ f, arg10.view.loc (c : Thread nD τ) ↦[arg10.view.set]{fullShare} arg10.view.writes (Elt F) f LS3) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS6)) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    isplitl [HS5]
    · iexists _, _; isplitr; swap; · iexact HS5
      ipureintro; rfl
    iexists _; iexact HS6

end Cert.Kernel.Gen

end
-- ==== Proof.Attn.Kernel.RunB.lean ====
/- The body at a point that keeps its values. -/
module

public import proofs.«01_k».proof.Proof.Attn.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- The body's run in this case: from its buffers at their contents to the stored pieces of every buffer, last first. -/
noncomputable def kernelRun0_B (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : ¬cond0_1 i)
    (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs6 : Vec F S144x4096 .bf16) :
    Σ' (LS1 : List (View.Piece (Elt F) S4096x512 .f32)), Σ' (LS3 : List (View.Piece (Elt F) S8x512 .f32)), { LS6 : List (View.Piece (Elt F) S144x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d) ∗ owns (c : Thread nD τ) arg13 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS1) ∗ (∃ d, owns (c : Thread nD τ) arg9 fullShare d) ∗ (∃ f, arg10.view.loc (c : Thread nD τ) ↦[arg10.view.set]{fullShare} arg10.view.writes (Elt F) f LS3) ∗ (∃ d, owns (c : Thread nD τ) arg11 fullShare d) ∗ (∃ d, owns (c : Thread nD τ) arg12 fullShare d) ∗ owns (c : Thread nD τ) arg13 fullShare xs6) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%ds2, %fs2, -, HS2⟩, ⟨%fs3, %hfs3, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg10.eq_unread hfs3; obtain rfl := harg13.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    isplitl [HS5]
    · iexists _, _; isplitr; swap; · iexact HS5
      ipureintro; rfl
    iexists _; isplitr; · ipureintro; exact harg13.read_unread _
    iexact HS6

end Cert.Kernel.Gen

end
-- ==== Proof.Attn.Kernel.RunC.lean ====
/- The body at a point that takes up new values. -/
module

public import proofs.«01_k».proof.Proof.Attn.Kernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- The body's run in this case: from its buffers at their contents to the stored pieces of every buffer, last first. -/
noncomputable def kernelRun0_C (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : cond0_1 i)
    (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs6 : Vec F S144x4096 .bf16) :
    Σ' (LS1 : List (View.Piece (Elt F) S4096x512 .f32)), Σ' (LS3 : List (View.Piece (Elt F) S8x512 .f32)), { LS6 : List (View.Piece (Elt F) S144x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d) ∗ owns (c : Thread nD τ) arg13 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS1) ∗ (∃ d, owns (c : Thread nD τ) arg9 fullShare d) ∗ (∃ f, arg10.view.loc (c : Thread nD τ) ↦[arg10.view.set]{fullShare} arg10.view.writes (Elt F) f LS3) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS6)) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%ds2, %fs2, -, HS2⟩, ⟨%fs3, %hfs3, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg10.eq_unread hfs3; obtain rfl := harg13.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]
    · iexists _, _; isplitr; swap; · iexact HS4
      ipureintro; rfl
    isplitl [HS5]
    · iexists _, _; isplitr; swap; · iexact HS5
      ipureintro; rfl
    iexists _; iexact HS6

end Cert.Kernel.Gen

end
-- ==== Proof.Attn.Kernel.Frame.lean ====
/- The launch of the attention, point after point. -/
module

public import proofs.«01_k».proof.Proof.Attn.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Case1

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : cond0_0 i) (hc1 : ¬cond0_1 i) (x0 : Vec F S4x64 .f32) (x1 : Vec F S128x1 .f32) (x2 : Vec F S1x512x128 .bf16) (x3 : Vec F S1x4096x128 .bf16) (x4 : Vec F S1x4096x128 .bf16)

/-- Case A's pieces cover scratch `arg8`. -/
theorem scover0_A_1 (y : S4096x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1 (by sl_whole_mem) y

/-- What case A leaves in scratch `arg8`: its pieces read back over junk. -/
def sout0_A_1 : Vec F S4096x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1)

/-- Case A's pieces cover scratch `arg10`. -/
theorem scover0_A_3 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1 S8x512.size (by sl_kernel_rfl) y

/-- What case A leaves in scratch `arg10`: its pieces read back over junk. -/
def sout0_A_3 : Vec F S8x512 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1)

/-- Case A's pieces cover scratch `arg13`. -/
theorem scover0_A_6 (y : S144x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 ![16, 4096] (by sl_kernel_rfl) y

/-- What case A leaves in scratch `arg13`: its pieces read back over junk. -/
def sout0_A_6 : Vec F S144x4096 .bf16 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

end Case1

section Case2

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : ¬cond0_1 i) (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs6 : Vec F S144x4096 .bf16)

/-- Case B's pieces cover scratch `arg8`. -/
theorem scover0_B_1 (y : S4096x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1 S512x512.size (by sl_kernel_rfl) y

/-- What case B leaves in scratch `arg8`: its pieces read back over junk. -/
def sout0_B_1 : Vec F S4096x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1)

/-- Case B's pieces cover scratch `arg10`. -/
theorem scover0_B_3 (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1 S8x512.size (by sl_kernel_rfl) y

/-- What case B leaves in scratch `arg10`: its pieces read back over junk. -/
def sout0_B_3 : Vec F S8x512 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1)

end Case2

section Case3

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : cond0_1 i) (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs6 : Vec F S144x4096 .bf16)

/-- Case C's pieces cover scratch `arg8`. -/
theorem scover0_C_1 (y : S4096x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1 S512x512.size (by sl_kernel_rfl) y

/-- What case C leaves in scratch `arg8`: its pieces read back over junk. -/
def sout0_C_1 : Vec F S4096x512 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).1)

/-- Case C's pieces cover scratch `arg10`. -/
theorem scover0_C_3 (y : S8x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1 S8x512.size (by sl_kernel_rfl) y

/-- What case C leaves in scratch `arg10`: its pieces read back over junk. -/
def sout0_C_3 : Vec F S8x512 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.1)

/-- Case C's pieces cover scratch `arg13`. -/
theorem scover0_C_6 (y : S144x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.2.1 ![16, 4096] (by sl_kernel_rfl) y

/-- What case C leaves in scratch `arg13`: its pieces read back over junk. -/
def sout0_C_6 : Vec F S144x4096 .bf16 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs6).2.2.1)

end Case3

/-! ## What the outputs hold after each point -/

/-- What a point of case A leaves. -/
def left0_A (c : Dev nD) (t : Fin cfg0.N) (h0 : t.val % 513 = 0) (h1 : ¬(t.val % 8 = 0 ∧ t.val % 513 ≠ 0)) : Vec F S4096x512 .f32 × Vec F S8x512 .f32 × Vec F S144x4096 .bf16 :=
  (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t))

/-- What a point of case B leaves over what the point before left. -/
def left0_B (c : Dev nD) (t : Fin cfg0.N) (h0 : ¬t.val % 513 = 0) (h1 : ¬(t.val % 8 = 0 ∧ t.val % 513 ≠ 0)) (p : Vec F S4096x512 .f32 × Vec F S8x512 .f32 × Vec F S144x4096 .bf16) : Vec F S4096x512 .f32 × Vec F S8x512 .f32 × Vec F S144x4096 .bf16 :=
  (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.1 p.2.1 p.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.1 p.2.1 p.2.2, p.2.2)

/-- What a point of case C leaves over what the point before left. -/
def left0_C (c : Dev nD) (t : Fin cfg0.N) (h0 : ¬t.val % 513 = 0) (h1 : (t.val % 8 = 0 ∧ t.val % 513 ≠ 0)) (p : Vec F S4096x512 .f32 × Vec F S8x512 .f32 × Vec F S144x4096 .bf16) : Vec F S4096x512 .f32 × Vec F S8x512 .f32 × Vec F S144x4096 .bf16 :=
  (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.1 p.2.1 p.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.1 p.2.1 p.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.1 p.2.1 p.2.2)

/-- What a point leaves in the output's buffer and in the scratch that the kernel carries on, by the point's case. -/
def outsAt0 (c : Dev nD) : (n : ℕ) → n < cfg0.N → Vec F S4096x512 .f32 × Vec F S8x512 .f32 × Vec F S144x4096 .bf16
  | 0, hn => left0_A m c ⟨0, hn⟩ (Nat.zero_mod _) (fun h => h.2 (Nat.zero_mod _))
  | n + 1, hn =>
    if h0 : (n + 1) % 513 = 0 then
      if h1 : ((n + 1) % 8 = 0 ∧ (n + 1) % 513 ≠ 0) then
        False.elim (by have hN : n + 1 < 513 := lt_of_lt_of_eq hn (show cfg0.N = 513 from N_0); omega)
      else
        left0_A m c ⟨n + 1, hn⟩ h0 h1
    else
      if h1 : ((n + 1) % 8 = 0 ∧ (n + 1) % 513 ≠ 0) then
        left0_C m c ⟨n + 1, hn⟩ h0 h1 (outsAt0 c n (Nat.lt_of_succ_lt hn))
      else
        left0_B m c ⟨n + 1, hn⟩ h0 h1 (outsAt0 c n (Nat.lt_of_succ_lt hn))

/-- `outsAt0` at a point of case A: that case's contents. -/
theorem outsAt0_A (c : Dev nD) (t : Fin cfg0.N) (h0 : t.val % 513 = 0) (h1 : ¬(t.val % 8 = 0 ∧ t.val % 513 ≠ 0)) :
    outsAt0 m c t.val t.isLt = left0_A m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 513 = 0) (h1 : ¬(t.val % 8 = 0 ∧ t.val % 513 ≠ 0)) :
    outsAt0 m c t.val t.isLt = left0_B m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 513 = 0) (h1 : (t.val % 8 = 0 ∧ t.val % 513 ≠ 0)) :
    outsAt0 m c t.val t.isLt = left0_C m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ (∃ d, owns (c : Thread nD τ) scM0_2 fullShare d) ∗ owns (c : Thread nD τ) scM0_3 fullShare ((outsAt0 m c n hn).2.1) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ (∃ d, owns (c : Thread nD τ) scM0_2 fullShare d) ∗ owns (c : Thread nD τ) scM0_3 fullShare ((outsAt0 m c n hn).2.1) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ (∃ d, owns (c : Thread nD τ) scM0_2 fullShare d) ∗ owns (c : Thread nD τ) scM0_3 fullShare ((outsAt0 m c (n - 1) (by omega)).2.1) ∗ (∃ d, owns (c : Thread nD τ) scM0_4 fullShare d) ∗ (∃ d, owns (c : Thread nD τ) scM0_5 fullShare d) ∗ owns (c : Thread nD τ) scM0_6 fullShare ((outsAt0 m c (n - 1) (by omega)).2.2)) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 14400000 in
/-- The body at any point: the case's run, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 513 := lt_of_lt_of_eq t.isLt (show cfg0.N = 513 from N_0)
  by_cases h0 : t.val % 513 = 0
  · by_cases h1 : (t.val % 8 = 0 ∧ t.val % 513 ≠ 0)
    · exfalso; omega
    · by_cases hz : t.val = 0
      · rw [PhiS_castSucc m c t, PhiS_zero m c _ _ hz, PhiA0_eq]
        rw [outsAt0_A m c t h0 h1, left0_A]
        unfold sout0_A_1 sout0_A_3 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, HS0, ⟨%es1, HS1⟩, HS2, ⟨%es3, HS3⟩, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _)
            isplitl [HS4]
            · iexact HS4
            isplitl [HS5]
            · iexact HS5
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · exfalso; have hN : t.val < 513 := lt_of_lt_of_eq t.isLt (show cfg0.N = 513 from N_0); omega
  · by_cases h1 : (t.val % 8 = 0 ∧ t.val % 513 ≠ 0)
    · by_cases hz : t.val = 0
      · exfalso; have hN : t.val < 513 := lt_of_lt_of_eq t.isLt (show cfg0.N = 513 from N_0); omega
      · rw [PhiS_castSucc m c t, PhiS_pos m c _ _ hz]
        rw [outsAt0_C m c t h0 h1, left0_C]
        unfold sout0_C_1 sout0_C_3 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, HS0, ⟨%es1, HS1⟩, HS2, ⟨%es3, HS3⟩, HS4, HS5, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _)
            isplitl [HS4]
            · iexact HS4
            isplitl [HS5]
            · iexact HS5
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
    · by_cases hz : t.val = 0
      · exfalso; have hN : t.val < 513 := lt_of_lt_of_eq t.isLt (show cfg0.N = 513 from N_0); omega
      · rw [PhiS_castSucc m c t, PhiS_pos m c _ _ hz]
        rw [outsAt0_B m c t h0 h1, left0_B]
        unfold sout0_B_1 sout0_B_3; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, HS0, ⟨%es1, HS1⟩, HS2, ⟨%es3, HS3⟩, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _)
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexact HS2
    isplitl [HS3]
    · iexists _; iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 513 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Attn.KernelIdeal.Runs.lean ====
/- The set-up of the attention launch: its windows, its two conditions and its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 513 = 0 :=
  (fun t => by
    have ht : t.val < 513 := Nat.lt_of_lt_of_eq t.isLt N_0
    have e0 : (grid0.coords t 0).val = t.val / 1 % 513 := Pipeline.Grid.coords_val t 0 (by decide) rfl
    simp only [cond0_0, e0]
    word_cmp
   : ∀ t : Fin grid0.N, cond0_0 (grid0.coords t) ↔ t.val % 513 = 0)

/-- The condition of the body's `scf.if` 1 (`k0_h2`), from the grid coordinates (the skeleton's scalar
    chain substituted). -/
abbrev cond0_1 (i : grid0.Coords) : Prop := (Scalar.cmpi .ne (Scalar.extui (Scalar.andi (Scalar.cmpi .sgt (BitVec.ofNat 32 (i 0).val) 0#32) (Scalar.cmpi .eq (Scalar.select (Scalar.andi (Scalar.xori (Scalar.cmpi .slt (Scalar.remsi (Scalar.muli 2#32 (BitVec.ofNat 32 (i 0).val)) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.muli 2#32 (BitVec.ofNat 32 (i 0).val)) (Scalar.select (Scalar.cmpi .eq 16#32 0#32) 1#32 16#32)) 0#32)) (Scalar.addi (Scalar.remsi (Scalar.muli 2#32 (BitVec.ofNat 32 (i 0).val)) (Scalar.select (Scalar.cmpi .eq 16#32 0#32) 1#32 16#32)) (Scalar.select (Scalar.cmpi .eq 16#32 0#32) 1#32 16#32)) (Scalar.remsi (Scalar.muli 2#32 (BitVec.ofNat 32 (i 0).val)) (Scalar.select (Scalar.cmpi .eq 16#32 0#32) 1#32 16#32))) 0#32))) 0#32) = 1#1
/-- It holds at the multiples of 8 but the first only — decided over the grid. -/
theorem hcond0_1 : ∀ t : Fin cfg0.N, cond0_1 (grid0.coords t) ↔ (t.val % 8 = 0 ∧ t.val % 513 ≠ 0) :=
  (by decide +kernel : ∀ t : Fin grid0.N, cond0_1 (grid0.coords t) ↔ (t.val % 8 = 0 ∧ t.val % 513 ≠ 0))

/-! ## The kernel body on any staging memrefs: a subtype the run finds -/

/-- One staging buffer of output window 5, through which its contents are stated (`View.read_writes_of_cover`: the
    choice does not matter). -/
abbrev VO0_5 : View sig .tc .vmem S1x512x128 .bf16 := (Memref.whole cc0_stg5_0 : Memref sig .tc .vmem S1x512x128 .bf16).view
/-- Each window's current staging memref at point `t`, spelled as the pipeline passes it (`bodyAt0`), and its wholeness. -/
abbrev ms0_0 (t : Fin cfg0.N) : Memref sig .tc .vmem S4x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4096x512 .f32 := Memref.whole cc0_scratch0
abbrev scM0_1 : Memref sig .tc .vmem S4096x512 .f32 := Memref.whole cc0_scratch1
abbrev scM0_2 : Memref sig .tc .vmem S8x512 .f32 := Memref.whole cc0_scratch2
abbrev scM0_3 : Memref sig .tc .vmem S8x512 .f32 := Memref.whole cc0_scratch3
abbrev scM0_4 : Memref sig .tc .vmem S144x512 .f32 := Memref.whole cc0_scratch4
abbrev scM0_5 : Memref sig .tc .vmem S144x512 .f32 := Memref.whole cc0_scratch5
abbrev scM0_6 : Memref sig .tc .vmem S144x4096 .bf16 := Memref.whole cc0_scratch6
/-- The scratch `arg8` the kernel carries between points, as a view: what it holds is stated through it. -/
abbrev VS0_1 : View sig .tc .vmem S4096x512 .f32 := scM0_1.view
/-- The scratch `arg10` the kernel carries between points, as a view: what it holds is stated through it. -/
abbrev VS0_3 : View sig .tc .vmem S8x512 .f32 := scM0_3.view
/-- The scratch `arg12` the kernel carries between points, as a view: what it holds is stated through it. -/
abbrev VS0_5 : View sig .tc .vmem S144x512 .f32 := scM0_5.view
/-- The scratch `arg13` the kernel carries between points, as a view: what it holds is stated through it. -/
abbrev VS0_6 : View sig .tc .vmem S144x4096 .bf16 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.Attn.KernelIdeal.RunA.lean ====
/- The body at the first point. -/
module

public import proofs.«01_k».proof.Proof.Attn.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body's run in this case: from its buffers at their contents to the stored pieces of every buffer, last first. -/
noncomputable def kernelRun0_A (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : cond0_0 i) (hc1 : ¬cond0_1 i)
    (x0 : Vec F S4x64 .f32) (x1 : Vec F S128x1 .f32) (x2 : Vec F S1x512x128 .bf16) (x3 : Vec F S1x4096x128 .bf16) (x4 : Vec F S1x4096x128 .bf16) :
    Σ' (L5 : List (View.Piece (Elt F) S1x512x128 .bf16)), Σ' (LS1 : List (View.Piece (Elt F) S4096x512 .f32)), Σ' (LS3 : List (View.Piece (Elt F) S8x512 .f32)), Σ' (LS5 : List (View.Piece (Elt F) S144x512 .f32)), Σ' (LS6 : List (View.Piece (Elt F) S144x4096 .bf16)), Σ' (LT0 : List (View.Piece (Elt F) S4096x512 .f32)), Σ' (LT2 : List (View.Piece (Elt F) S8x512 .f32)), { LT4 : List (View.Piece (Elt F) S144x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LT4) ∗ (∃ f, arg12.view.loc (c : Thread nD τ) ↦[arg12.view.set]{fullShare} arg12.view.writes (Elt F) f LS5) ∗ (∃ f, arg13.view.loc (c : Thread nD τ) ↦[arg13.view.set]{fullShare} arg13.view.writes (Elt F) f LS6)) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.Attn.KernelIdeal.RunB.lean ====
/- The body at a point that keeps its values. -/
module

public import proofs.«01_k».proof.Proof.Attn.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body's run in this case: from its buffers at their contents to the stored pieces of every buffer, last first. -/
noncomputable def kernelRun0_B (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : ¬cond0_1 i)
    (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs5 : Vec F S144x512 .f32) (xs6 : Vec F S144x4096 .bf16) :
    Σ' (L5 : List (View.Piece (Elt F) S1x512x128 .bf16)), Σ' (LS1 : List (View.Piece (Elt F) S4096x512 .f32)), Σ' (LS3 : List (View.Piece (Elt F) S8x512 .f32)), Σ' (LS5 : List (View.Piece (Elt F) S144x512 .f32)), Σ' (LS6 : List (View.Piece (Elt F) S144x4096 .bf16)), Σ' (LT0 : List (View.Piece (Elt F) S4096x512 .f32)), Σ' (LT2 : List (View.Piece (Elt F) S8x512 .f32)), { LT4 : List (View.Piece (Elt F) S144x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ (∃ d, owns (c : Thread nD τ) arg9 fullShare d) ∗ owns (c : Thread nD τ) arg10 fullShare xs3 ∗ (∃ d, owns (c : Thread nD τ) arg11 fullShare d) ∗ owns (c : Thread nD τ) arg12 fullShare xs5 ∗ owns (c : Thread nD τ) arg13 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LT4) ∗ (∃ f, arg12.view.loc (c : Thread nD τ) ↦[arg12.view.set]{fullShare} arg12.view.writes (Elt F) f LS5) ∗ owns (c : Thread nD τ) arg13 fullShare xs6) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, [], ?_, ?_, ?_, fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%ds2, %fs2, -, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg10.eq_unread hfs3; obtain rfl := harg12.eq_unread hfs5; obtain rfl := harg13.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; isplitr; · ipureintro; exact harg13.read_unread _
    iexact HS6

end Cert.KernelIdeal.Gen

end
-- ==== Proof.Attn.KernelIdeal.RunC.lean ====
/- The body at a point that takes up new values. -/
module

public import proofs.«01_k».proof.Proof.Attn.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body's run in this case: from its buffers at their contents to the stored pieces of every buffer, last first. -/
noncomputable def kernelRun0_C (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : cond0_1 i)
    (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs5 : Vec F S144x512 .f32) (xs6 : Vec F S144x4096 .bf16) :
    Σ' (L5 : List (View.Piece (Elt F) S1x512x128 .bf16)), Σ' (LS1 : List (View.Piece (Elt F) S4096x512 .f32)), Σ' (LS3 : List (View.Piece (Elt F) S8x512 .f32)), Σ' (LS5 : List (View.Piece (Elt F) S144x512 .f32)), Σ' (LS6 : List (View.Piece (Elt F) S144x4096 .bf16)), Σ' (LT0 : List (View.Piece (Elt F) S4096x512 .f32)), Σ' (LT2 : List (View.Piece (Elt F) S8x512 .f32)), { LT4 : List (View.Piece (Elt F) S144x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ (∃ d, owns (c : Thread nD τ) arg9 fullShare d) ∗ owns (c : Thread nD τ) arg10 fullShare xs3 ∗ (∃ d, owns (c : Thread nD τ) arg11 fullShare d) ∗ owns (c : Thread nD τ) arg12 fullShare xs5 ∗ owns (c : Thread nD τ) arg13 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LT4) ∗ (∃ f, arg12.view.loc (c : Thread nD τ) ↦[arg12.view.set]{fullShare} arg12.view.writes (Elt F) f LS5) ∗ (∃ f, arg13.view.loc (c : Thread nD τ) ↦[arg13.view.set]{fullShare} arg13.view.writes (Elt F) f LS6)) -∗ K ⟨⟩))
          ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%ds2, %fs2, -, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg10.eq_unread hfs3; obtain rfl := harg12.eq_unread hfs5; obtain rfl := harg13.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.Attn.KernelIdeal.Frame.lean ====
/- The launch of the attention, point after point. -/
module

public import proofs.«01_k».proof.Proof.Attn.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Case1

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : cond0_0 i) (hc1 : ¬cond0_1 i) (x0 : Vec F S4x64 .f32) (x1 : Vec F S128x1 .f32) (x2 : Vec F S1x512x128 .bf16) (x3 : Vec F S1x4096x128 .bf16) (x4 : Vec F S1x4096x128 .bf16)

/-- Case A's pieces tile output 5's block. -/
theorem cover0_A_5 (y : S1x512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1 S1x256x128.size (by sl_kernel_rfl) y

/-- What case A leaves in output 5's staging buffer: its pieces read back over junk. -/
def out0_A_5 : Vec F S1x512x128 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).1)

/-- Case A's pieces cover scratch `arg8`. -/
theorem scover0_A_1 (y : S4096x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1 (by sl_whole_mem) y

/-- What case A leaves in scratch `arg8`: its pieces read back over junk. -/
def sout0_A_1 : Vec F S4096x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.1)

/-- Case A's pieces cover scratch `arg10`. -/
theorem scover0_A_3 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1 S8x512.size (by sl_kernel_rfl) y

/-- What case A leaves in scratch `arg10`: its pieces read back over junk. -/
def sout0_A_3 : Vec F S8x512 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.1)

/-- Case A's pieces cover scratch `arg12`. -/
theorem scover0_A_5 (y : S144x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1 S144x512.size (by sl_kernel_rfl) y

/-- What case A leaves in scratch `arg12`: its pieces read back over junk. -/
def sout0_A_5 : Vec F S144x512 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.1)

/-- Case A's pieces cover scratch `arg13`. -/
theorem scover0_A_6 (y : S144x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1 ![16, 4096] (by sl_kernel_rfl) y

/-- What case A leaves in scratch `arg13`: its pieces read back over junk. -/
def sout0_A_6 : Vec F S144x4096 .bf16 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4).2.2.2.2.1)

end Case1

section Case2

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : ¬cond0_1 i) (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs5 : Vec F S144x512 .f32) (xs6 : Vec F S144x4096 .bf16)

/-- Case B's pieces tile output 5's block. -/
theorem cover0_B_5 (y : S1x512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1 S1x256x128.size (by sl_kernel_rfl) y

/-- What case B leaves in output 5's staging buffer: its pieces read back over junk. -/
def out0_B_5 : Vec F S1x512x128 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1)

/-- Case B's pieces cover scratch `arg8`. -/
theorem scover0_B_1 (y : S4096x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1 S512x512.size (by sl_kernel_rfl) y

/-- What case B leaves in scratch `arg8`: its pieces read back over junk. -/
def sout0_B_1 : Vec F S4096x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1)

/-- Case B's pieces cover scratch `arg10`. -/
theorem scover0_B_3 (y : S8x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1 S8x512.size (by sl_kernel_rfl) y

/-- What case B leaves in scratch `arg10`: its pieces read back over junk. -/
def sout0_B_3 : Vec F S8x512 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1)

/-- Case B's pieces cover scratch `arg12`. -/
theorem scover0_B_5 (y : S144x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1 S144x512.size (by sl_kernel_rfl) y

/-- What case B leaves in scratch `arg12`: its pieces read back over junk. -/
def sout0_B_5 : Vec F S144x512 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1)

end Case2

section Case3

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : cond0_1 i) (x0 : Vec F S4x64 .f32) (x1 : Vec F S128x1 .f32) (x2 : Vec F S1x512x128 .bf16) (x3 : Vec F S1x4096x128 .bf16) (x4 : Vec F S1x4096x128 .bf16) (xs1 : Vec F S4096x512 .f32) (xs3 : Vec F S8x512 .f32) (xs5 : Vec F S144x512 .f32) (xs6 : Vec F S144x4096 .bf16)

/-- Case C's pieces tile output 5's block. -/
theorem cover0_C_5 (y : S1x512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1 S1x256x128.size (by sl_kernel_rfl) y

/-- What case C leaves in output 5's staging buffer: its pieces read back over junk. -/
def out0_C_5 : Vec F S1x512x128 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).1)

/-- Case C's pieces cover scratch `arg8`. -/
theorem scover0_C_1 (y : S4096x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1 S512x512.size (by sl_kernel_rfl) y

/-- What case C leaves in scratch `arg8`: its pieces read back over junk. -/
def sout0_C_1 : Vec F S4096x512 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.1)

/-- Case C's pieces cover scratch `arg10`. -/
theorem scover0_C_3 (y : S8x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1 S8x512.size (by sl_kernel_rfl) y

/-- What case C leaves in scratch `arg10`: its pieces read back over junk. -/
def sout0_C_3 : Vec F S8x512 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.1)

/-- Case C's pieces cover scratch `arg12`. -/
theorem scover0_C_5 (y : S144x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1 S144x512.size (by sl_kernel_rfl) y

/-- What case C leaves in scratch `arg12`: its pieces read back over junk. -/
def sout0_C_5 : Vec F S144x512 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.1)

/-- Case C's pieces cover scratch `arg13`. -/
theorem scover0_C_6 (y : S144x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.2.1 ![16, 4096] (by sl_kernel_rfl) y

/-- What case C leaves in scratch `arg13`: its pieces read back over junk. -/
def sout0_C_6 : Vec F S144x4096 .bf16 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6).2.2.2.2.1)

end Case3

/-! ## What the outputs hold after each point -/

/-- What a point of case A leaves. -/
def left0_A (c : Dev nD) (t : Fin cfg0.N) (h0 : t.val % 513 = 0) (h1 : ¬(t.val % 8 = 0 ∧ t.val % 513 ≠ 0)) : Vec F S1x512x128 .bf16 × Vec F S4096x512 .f32 × Vec F S8x512 .f32 × Vec F S144x512 .f32 × Vec F S144x4096 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t))

/-- What a point of case B leaves over what the point before left. -/
def left0_B (c : Dev nD) (t : Fin cfg0.N) (h0 : ¬t.val % 513 = 0) (h1 : ¬(t.val % 8 = 0 ∧ t.val % 513 ≠ 0)) (p : Vec F S1x512x128 .bf16 × Vec F S4096x512 .f32 × Vec F S8x512 .f32 × Vec F S144x512 .f32 × Vec F S144x4096 .bf16) : Vec F S1x512x128 .bf16 × Vec F S4096x512 .f32 × Vec F S8x512 .f32 × Vec F S144x512 .f32 × Vec F S144x4096 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.2.1 p.2.2.1 p.2.2.2.1 p.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.2.1 p.2.2.1 p.2.2.2.1 p.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.2.1 p.2.2.1 p.2.2.2.1 p.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) p.2.1 p.2.2.1 p.2.2.2.1 p.2.2.2.2, p.2.2.2.2)

/-- What a point of case C leaves over what the point before left. -/
def left0_C (c : Dev nD) (t : Fin cfg0.N) (h0 : ¬t.val % 513 = 0) (h1 : (t.val % 8 = 0 ∧ t.val % 513 ≠ 0)) (p : Vec F S1x512x128 .bf16 × Vec F S4096x512 .f32 × Vec F S8x512 .f32 × Vec F S144x512 .f32 × Vec F S144x4096 .bf16) : Vec F S1x512x128 .bf16 × Vec F S4096x512 .f32 × Vec F S8x512 .f32 × Vec F S144x512 .f32 × Vec F S144x4096 .bf16 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.2.1 p.2.2.1 p.2.2.2.1 p.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.2.1 p.2.2.1 p.2.2.2.1 p.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.2.1 p.2.2.1 p.2.2.2.1 p.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.2.1 p.2.2.1 p.2.2.2.1 p.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) p.2.1 p.2.2.1 p.2.2.2.1 p.2.2.2.2)

/-- What a point leaves in the output's buffer and in the scratch that the kernel carries on, by the point's case. -/
def outsAt0 (c : Dev nD) : (n : ℕ) → n < cfg0.N → Vec F S1x512x128 .bf16 × Vec F S4096x512 .f32 × Vec F S8x512 .f32 × Vec F S144x512 .f32 × Vec F S144x4096 .bf16
  | 0, hn => left0_A m c ⟨0, hn⟩ (Nat.zero_mod _) (fun h => h.2 (Nat.zero_mod _))
  | n + 1, hn =>
    if h0 : (n + 1) % 513 = 0 then
      if h1 : ((n + 1) % 8 = 0 ∧ (n + 1) % 513 ≠ 0) then
        False.elim (by have hN : n + 1 < 513 := lt_of_lt_of_eq hn (show cfg0.N = 513 from N_0); omega)
      else
        left0_A m c ⟨n + 1, hn⟩ h0 h1
    else
      if h1 : ((n + 1) % 8 = 0 ∧ (n + 1) % 513 ≠ 0) then
        left0_C m c ⟨n + 1, hn⟩ h0 h1 (outsAt0 c n (Nat.lt_of_succ_lt hn))
      else
        left0_B m c ⟨n + 1, hn⟩ h0 h1 (outsAt0 c n (Nat.lt_of_succ_lt hn))

/-- `outsAt0` at a point of case A: that case's contents. -/
theorem outsAt0_A (c : Dev nD) (t : Fin cfg0.N) (h0 : t.val % 513 = 0) (h1 : ¬(t.val % 8 = 0 ∧ t.val % 513 ≠ 0)) :
    outsAt0 m c t.val t.isLt = left0_A m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 513 = 0) (h1 : ¬(t.val % 8 = 0 ∧ t.val % 513 ≠ 0)) :
    outsAt0 m c t.val t.isLt = left0_B m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 513 = 0) (h1 : (t.val % 8 = 0 ∧ t.val % 513 ≠ 0)) :
    outsAt0 m c t.val t.isLt = left0_C m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ (∃ d, owns (c : Thread nD τ) scM0_4 fullShare d) ∗ owns (c : Thread nD τ) scM0_5 fullShare ((outsAt0 m c n hn).2.2.2.1) ∗ owns (c : Thread nD τ) scM0_6 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ (∃ d, owns (c : Thread nD τ) scM0_4 fullShare d) ∗ owns (c : Thread nD τ) scM0_5 fullShare ((outsAt0 m c n hn).2.2.2.1) ∗ owns (c : Thread nD τ) scM0_6 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2.1) ∗ (∃ d, owns (c : Thread nD τ) scM0_4 fullShare d) ∗ owns (c : Thread nD τ) scM0_5 fullShare ((outsAt0 m c (n - 1) (by omega)).2.2.2.1) ∗ owns (c : Thread nD τ) scM0_6 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 14400000 in
/-- The body at any point: the case's run, from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 513 := lt_of_lt_of_eq t.isLt (show cfg0.N = 513 from N_0)
  by_cases h0 : t.val % 513 = 0
  · by_cases h1 : (t.val % 8 = 0 ∧ t.val % 513 ≠ 0)
    · exfalso; omega
    · by_cases hz : t.val = 0
      · rw [PhiS_castSucc m c t, PhiS_zero m c _ _ hz, PhiA0_eq]
        rw [outsAt0_A m c t h0 h1, left0_A]
        unfold out0_A_5 sout0_A_1 sout0_A_3 sout0_A_5 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, ⟨%e5, H5⟩, ⟨%fT0, HS0⟩, ⟨%es1, HS1⟩, ⟨%fT2, HS2⟩, ⟨%es3, HS3⟩, ⟨%fT4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      · exfalso; have hN : t.val < 513 := lt_of_lt_of_eq t.isLt (show cfg0.N = 513 from N_0); omega
  · by_cases h1 : (t.val % 8 = 0 ∧ t.val % 513 ≠ 0)
    · by_cases hz : t.val = 0
      · exfalso; have hN : t.val < 513 := lt_of_lt_of_eq t.isLt (show cfg0.N = 513 from N_0); omega
      · rw [PhiS_castSucc m c t, PhiS_pos m c _ _ hz]
        rw [outsAt0_C m c t h0 h1, left0_C]
        unfold out0_C_5 sout0_C_1 sout0_C_3 sout0_C_5 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, ⟨%e5, H5⟩, ⟨%fT0, HS0⟩, ⟨%es1, HS1⟩, ⟨%fT2, HS2⟩, ⟨%es3, HS3⟩, ⟨%fT4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _ _ _ _ _)
    · by_cases hz : t.val = 0
      · exfalso; have hN : t.val < 513 := lt_of_lt_of_eq t.isLt (show cfg0.N = 513 from N_0); omega
      · rw [PhiS_castSucc m c t, PhiS_pos m c _ _ hz]
        rw [outsAt0_B m c t h0 h1, left0_B]
        unfold out0_B_5 sout0_B_1 sout0_B_3 sout0_B_5; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _).2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, ⟨%e5, H5⟩, ⟨%fT0, HS0⟩, ⟨%es1, HS1⟩, ⟨%fT2, HS2⟩, ⟨%es3, HS3⟩, ⟨%fT4, HS4⟩, ⟨%es5, HS5⟩, HS6⟩
        isplitl [HS0 HS1 HS2 HS3 HS4 HS5 HS6 Hg]
        · isplitl [HS0 HS1 HS2 HS3 HS4 HS5 HS6]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _ _ _ _ _)
            iexact HS6
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexact HS2
    isplitl [HS3]
    · iexists _; iexact HS3
    isplitl [HS4]
    · iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 513 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Attn.KernelIdeal.Value.lean ====
/- The launch of the attention, block by block. -/
module

public import proofs.«01_k».proof.Proof.Attn.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Attn.Block.lean ====
/- One step of the attention kernel over whole blocks: the scores, their running maximum, the weighted values. -/
module

public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.PureOps.Ideal.Laws
public import proofs.«01_k».proof.Proof.Attn.KernelIdeal.Value

@[expose] public section

set_option maxRecDepth 16384

noncomputable section

namespace Cert.Attn

open Cert.KernelIdeal Cert.KernelIdeal.Gen Idealize.ShloMosaic Idealize.ShloMosaic.ValueIdx
open Idealize.ShloMosaic.TcCoe Idealize.ShloMosaic.Tactic

/-- The scores of 512 keys against 512 masked query rows. -/
abbrev scT (qv : FVec Ideal S512x128 .bf16) (kc : Vec Ideal S1x512x128 .bf16) : FVec Ideal S512x512 .f32 :=
  matmul (φ₁ := .bf16) dot_S512x128_S512x128_S512x512_1_1_0_0_n_n none (shapeCast S512x128 kc shapeCasts_S1x512x128_S512x128) qv
    (constant S512x512 .f32 0x00000000#32)

/-- The maximum over those keys, query row by query row. -/
abbrev mxT (s : FVec Ideal S512x512 .f32) : FVec Ideal S1x512 .f32 :=
  shapeCast S1x512 (multiReduction .maximumf [0] S512 s 0xFF800000#32 reduces_S512x512_S512 (.inl rfl) rfl) shapeCasts_S512_S1x512

/-- The values weighted with the exponentials of 512 keys' scores. -/
abbrev acT (m : Vec Ideal S1x512 .f32) (s : Vec Ideal S512x512 .f32) (v : Vec Ideal S144x512 .bf16) : FVec Ideal S144x512 .f32 :=
  matmul (φ₁ := .bf16) dot_S144x512_S512x512_S144x512_1_0_0_1_n_n none v
    (exp2 (truncf .bf16 (subf s (broadcastTo S512x512 m broadcasts_S1x512_S512x512)) bitsLt_bf16_f32))
    (constant S144x512 .f32 0x00000000#32)

/-- Every key's score against every masked query row. -/
def SC (x3 : Vec Ideal S1x4096x128 .bf16) (qv : FVec Ideal S512x128 .bf16) : Vec Ideal S4096x512 .f32 :=
  fun y => ∑ d : Fin 128, x3 (ix3 0 (y 0) d) * qv (ix2 (y 1) d)

/-- The values weighted with the exponentials of every key's score. -/
def AC (m : Vec Ideal S8x512 .f32) (s : Vec Ideal S4096x512 .f32) (v : Vec Ideal S144x4096 .bf16) : Vec Ideal S144x512 .f32 :=
  fun y => ∑ k : Fin 4096, v (ix2 (y 0) k) * Ideal.exp2 (s (ix2 k (y 1)) - m (ix2 0 (y 1)))

/-- The values transposed, over rows of ones. -/
def VT (x4 : Vec Ideal S1x4096x128 .bf16) : Vec Ideal S144x4096 .bf16 :=
  fun y => if h : (y 0).val < 128 then x4 (ix3 0 (y 1) ⟨(y 0).val, h⟩) else 1

theorem sc_piece (x3 : Vec Ideal S1x4096x128 .bf16) (qv : FVec Ideal S512x128 .bf16) (o : ℕ)
    (h : ∀ a, (![0, o, 0] : Fin 3 → ℕ) a + S1x512x128.size a ≤ S1x4096x128.size a)
    (h' : ∀ a, (![o, 0] : Fin 2 → ℕ) a + S512x512.size a ≤ S4096x512.size a) (x : S512x512.Idx) :
    scT qv (View.ld x3 (Rect.unit ![0, o, 0] S1x512x128.size h)) x = SC x3 qv ((Rect.unit (s := S4096x512) ![o, 0] S512x512.size h').emb x) := by
  have e := Ideal.matmul_transposedRhs_apply (φ₁ := .bf16) (M := 512) (K := 128) (N := 512) none
    (shapeCast S512x128 (View.ld x3 (Rect.unit ![0, o, 0] S1x512x128.size h)) shapeCasts_S1x512x128_S512x128) qv
    (constant S512x512 .f32 0x00000000#32) (x 0) (x 1)
  have ex : (ix2 (x 0) (x 1) : S512x512.Idx) = x := Shape.idx_ext₂ rfl rfl
  rw [ex] at e
  refine e.trans ?_
  rw [constant_apply, Ideal.ofBits_zero_f32, zero_add]
  unfold SC
  refine Finset.sum_congr rfl fun d _ => ?_
  congr 1
  · refine (shapeCast_dropUnit_apply ![512, 128] _ shapeCasts_S1x512x128_S512x128 (ix2 (x 0) d)).trans ?_
    refine congrArg x3 (funext fun a => Fin.ext ?_)
    match a with
    | ⟨0, _⟩ => rfl
    | ⟨1, _⟩ => rfl
    | ⟨2, _⟩ => show 0 + 1 * d.val = d.val; omega
  · refine congrArg qv (Shape.idx_ext₂ ?_ rfl)
    show (x 1).val = 0 + 1 * (x 1).val
    omega

/-- One chunk of the weighted values, at an element. -/
theorem acT_apply (m1 : Vec Ideal S1x512 .f32) (s : Vec Ideal S4096x512 .f32) (v : Vec Ideal S144x4096 .bf16) (o : ℕ) (ho : o + 512 ≤ 4096)
    (h : ∀ a, (![o, 0] : Fin 2 → ℕ) a + S512x512.size a ≤ S4096x512.size a)
    (h' : ∀ a, (![0, o] : Fin 2 → ℕ) a + S144x512.size a ≤ S144x4096.size a) (y : S144x512.Idx) :
    acT m1 (View.ld s (Rect.unit (s := S4096x512) ![o, 0] S512x512.size h)) (View.ld v (Rect.unit (s := S144x4096) ![0, o] S144x512.size h')) y
      = ∑ r : Fin 512, v (ix2 (y 0) ⟨o + r.val, by omega⟩) * Ideal.exp2 (s (ix2 ⟨o + r.val, by omega⟩ (y 1)) - m1 (ix2 0 (y 1))) := by
  have e := Ideal.matmul_plain_apply (φ₁ := .bf16) (M := 144) (K := 512) (N := 512) none
    (View.ld v (Rect.unit (s := S144x4096) ![0, o] S144x512.size h'))
    (exp2 (truncf .bf16 (subf (View.ld s (Rect.unit (s := S4096x512) ![o, 0] S512x512.size h)) (broadcastTo S512x512 m1 broadcasts_S1x512_S512x512)) bitsLt_bf16_f32))
    (constant S144x512 .f32 0x00000000#32) (y 0) (y 1)
  have ey : (ix2 (y 0) (y 1) : S144x512.Idx) = y := Shape.idx_ext₂ rfl rfl
  rw [ey] at e
  refine e.trans ?_
  rw [constant_apply, Ideal.ofBits_zero_f32, zero_add]
  refine Finset.sum_congr rfl fun r _ => ?_
  congr 1
  · refine congrArg v (Shape.idx_ext₂ ?_ ?_)
    · show 0 + 1 * (y 0).val = (y 0).val
      omega
    · show o + 1 * r.val = o + r.val
      omega
  · refine congrArg Ideal.exp2 ?_
    refine congrArg₂ (fun a b : EReal => a - b) (congrArg s (Shape.idx_ext₂ ?_ ?_)) ?_
    · show o + 1 * r.val = o + r.val
      omega
    · show 0 + 1 * (y 1).val = (y 1).val
      omega
    · refine broadcastTo_apply m1 _ _ _ fun a => ?_
      match a with
      | ⟨0, _⟩ => rfl
      | ⟨1, _⟩ => rfl

/-- A sum over 4096 keys is the sum over its eight chunks of 512. -/
theorem sum_chunks (g : Fin 4096 → EReal) :
    ∑ k, g k = (((((((∑ r : Fin 512, g ⟨0 + r.val, by omega⟩) + ∑ r : Fin 512, g ⟨512 + r.val, by omega⟩)
      + ∑ r : Fin 512, g ⟨1024 + r.val, by omega⟩) + ∑ r : Fin 512, g ⟨1536 + r.val, by omega⟩)
      + ∑ r : Fin 512, g ⟨2048 + r.val, by omega⟩) + ∑ r : Fin 512, g ⟨2560 + r.val, by omega⟩)
      + ∑ r : Fin 512, g ⟨3072 + r.val, by omega⟩) + ∑ r : Fin 512, g ⟨3584 + r.val, by omega⟩ := by
  obtain ⟨G, hGd⟩ : ∃ G : ℕ → EReal, ∀ k : Fin 4096, g k = G k.val :=
    ⟨fun n => if h : n < 4096 then g ⟨n, h⟩ else 0, fun k => by simp⟩
  have hG : ∀ (o : ℕ) (ho : o + 512 ≤ 4096), (∑ r : Fin 512, g ⟨o + r.val, by omega⟩) = ∑ r ∈ Finset.range 512, G (o + r) := fun o ho => by
    rw [← Fin.sum_univ_eq_sum_range (fun r => G (o + r))]
    exact Finset.sum_congr rfl fun r _ => hGd _
  have h0 : ∑ k, g k = ∑ k ∈ Finset.range (0 + 512 + 512 + 512 + 512 + 512 + 512 + 512 + 512), G k := by
    show _ = ∑ k ∈ Finset.range 4096, G k
    rw [← Fin.sum_univ_eq_sum_range G]
    exact Finset.sum_congr rfl fun r _ => hGd r
  rw [h0, hG 0 (by omega), hG 512 (by omega), hG 1024 (by omega), hG 1536 (by omega), hG 2048 (by omega), hG 2560 (by omega), hG 3072 (by omega), hG 3584 (by omega)]
  simp only [Finset.sum_range_add, Finset.range_zero, Finset.sum_empty, zero_add]

/-- The weighted values, chunk by chunk. -/
abbrev ACB (m1 : Vec Ideal S1x512 .f32) (s : Vec Ideal S4096x512 .f32) (v : Vec Ideal S144x4096 .bf16) : FVec Ideal S144x512 .f32 :=
  addf (addf (addf (addf (addf (addf (addf
    (acT m1 (View.ld s (Rect.unit (s := S4096x512) ![0, 0] S512x512.size inb_S4096x512_S512x512_0_0)) (View.ld v (Rect.unit (s := S144x4096) ![0, 0] S144x512.size inb_S144x4096_S144x512_0_0)))
    (acT m1 (View.ld s (Rect.unit (s := S4096x512) ![512, 0] S512x512.size inb_S4096x512_S512x512_512_0)) (View.ld v (Rect.unit (s := S144x4096) ![0, 512] S144x512.size inb_S144x4096_S144x512_0_512))))
    (acT m1 (View.ld s (Rect.unit (s := S4096x512) ![1024, 0] S512x512.size inb_S4096x512_S512x512_1024_0)) (View.ld v (Rect.unit (s := S144x4096) ![0, 1024] S144x512.size inb_S144x4096_S144x512_0_1024))))
    (acT m1 (View.ld s (Rect.unit (s := S4096x512) ![1536, 0] S512x512.size inb_S4096x512_S512x512_1536_0)) (View.ld v (Rect.unit (s := S144x4096) ![0, 1536] S144x512.size inb_S144x4096_S144x512_0_1536))))
    (acT m1 (View.ld s (Rect.unit (s := S4096x512) ![2048, 0] S512x512.size inb_S4096x512_S512x512_2048_0)) (View.ld v (Rect.unit (s := S144x4096) ![0, 2048] S144x512.size inb_S144x4096_S144x512_0_2048))))
    (acT m1 (View.ld s (Rect.unit (s := S4096x512) ![2560, 0] S512x512.size inb_S4096x512_S512x512_2560_0)) (View.ld v (Rect.unit (s := S144x4096) ![0, 2560] S144x512.size inb_S144x4096_S144x512_0_2560))))
    (acT m1 (View.ld s (Rect.unit (s := S4096x512) ![3072, 0] S512x512.size inb_S4096x512_S512x512_3072_0)) (View.ld v (Rect.unit (s := S144x4096) ![0, 3072] S144x512.size inb_S144x4096_S144x512_0_3072))))
    (acT m1 (View.ld s (Rect.unit (s := S4096x512) ![3584, 0] S512x512.size inb_S4096x512_S512x512_3584_0)) (View.ld v (Rect.unit (s := S144x4096) ![0, 3584] S144x512.size inb_S144x4096_S144x512_0_3584)))

theorem ACB_eq (m : Vec Ideal S8x512 .f32) (s : Vec Ideal S4096x512 .f32) (v : Vec Ideal S144x4096 .bf16) :
    ACB (View.ld m (Rect.unit (s := S8x512) ![0, 0] S1x512.size inb_S8x512_S1x512_0_0)) s v = AC m s v := by
  funext y
  have hm : View.ld m (Rect.unit (s := S8x512) ![0, 0] S1x512.size inb_S8x512_S1x512_0_0) (ix2 0 (y 1)) = m (ix2 0 (y 1)) :=
    congrArg m (Shape.idx_ext₂ rfl (by show 0 + 1 * (y 1).val = (y 1).val; omega))
  unfold ACB AC
  simp only [addf_apply]
  rw [acT_apply _ s v 0 (by omega), acT_apply _ s v 512 (by omega), acT_apply _ s v 1024 (by omega), acT_apply _ s v 1536 (by omega),
    acT_apply _ s v 2048 (by omega), acT_apply _ s v 2560 (by omega), acT_apply _ s v 3072 (by omega), acT_apply _ s v 3584 (by omega), hm]
  exact (sum_chunks fun k => v (ix2 (y 0) k) * Ideal.exp2 (s (ix2 k (y 1)) - m (ix2 0 (y 1)))).symm

/-- 512 keys of the block. -/
abbrev KC (x3 : Vec Ideal S1x4096x128 .bf16) (off : Fin 3 → ℕ) (h : ∀ a, off a + S1x512x128.size a ≤ S1x4096x128.size a) : Vec Ideal S1x512x128 .bf16 :=
  View.ld x3 (Rect.unit (s := S1x4096x128) off S1x512x128.size h)

/-- What the eight chunks' stores of scores leave. -/
theorem canon_sc (x3 : Vec Ideal S1x4096x128 .bf16) (qv : FVec Ideal S512x128 .bf16) :
    View.canon (Val := Elt Ideal) [⟨Rect.unit (s := S4096x512) ![3584, 0] S512x512.size inb_S4096x512_S512x512_3584_0, scT qv (KC x3 ![0, 3584, 0] inb_S1x4096x128_S1x512x128_0_3584_0)⟩,
    ⟨Rect.unit (s := S4096x512) ![3072, 0] S512x512.size inb_S4096x512_S512x512_3072_0, scT qv (KC x3 ![0, 3072, 0] inb_S1x4096x128_S1x512x128_0_3072_0)⟩,
    ⟨Rect.unit (s := S4096x512) ![2560, 0] S512x512.size inb_S4096x512_S512x512_2560_0, scT qv (KC x3 ![0, 2560, 0] inb_S1x4096x128_S1x512x128_0_2560_0)⟩,
    ⟨Rect.unit (s := S4096x512) ![2048, 0] S512x512.size inb_S4096x512_S512x512_2048_0, scT qv (KC x3 ![0, 2048, 0] inb_S1x4096x128_S1x512x128_0_2048_0)⟩,
    ⟨Rect.unit (s := S4096x512) ![1536, 0] S512x512.size inb_S4096x512_S512x512_1536_0, scT qv (KC x3 ![0, 1536, 0] inb_S1x4096x128_S1x512x128_0_1536_0)⟩,
    ⟨Rect.unit (s := S4096x512) ![1024, 0] S512x512.size inb_S4096x512_S512x512_1024_0, scT qv (KC x3 ![0, 1024, 0] inb_S1x4096x128_S1x512x128_0_1024_0)⟩,
    ⟨Rect.unit (s := S4096x512) ![512, 0] S512x512.size inb_S4096x512_S512x512_512_0, scT qv (KC x3 ![0, 512, 0] inb_S1x4096x128_S1x512x128_0_512_0)⟩,
    ⟨Rect.unit (s := S4096x512) ![0, 0] S512x512.size inb_S4096x512_S512x512_0_0, scT qv (KC x3 ![0, 0, 0] inb_S1x4096x128_S1x512x128_0_0_0)⟩] = SC x3 qv := by
  funext y
  refine View.canon_apply_of_pieces (SC x3 qv) _ ?_ y ?_
  · refine List.forall_mem_cons.2 ⟨sc_piece x3 qv 3584 inb_S1x4096x128_S1x512x128_0_3584_0 inb_S4096x512_S512x512_3584_0, List.forall_mem_cons.2 ⟨sc_piece x3 qv 3072 inb_S1x4096x128_S1x512x128_0_3072_0 inb_S4096x512_S512x512_3072_0, List.forall_mem_cons.2 ⟨sc_piece x3 qv 2560 inb_S1x4096x128_S1x512x128_0_2560_0 inb_S4096x512_S512x512_2560_0, List.forall_mem_cons.2 ⟨sc_piece x3 qv 2048 inb_S1x4096x128_S1x512x128_0_2048_0 inb_S4096x512_S512x512_2048_0, List.forall_mem_cons.2 ⟨sc_piece x3 qv 1536 inb_S1x4096x128_S1x512x128_0_1536_0 inb_S4096x512_S512x512_1536_0, List.forall_mem_cons.2 ⟨sc_piece x3 qv 1024 inb_S1x4096x128_S1x512x128_0_1024_0 inb_S4096x512_S512x512_1024_0, List.forall_mem_cons.2 ⟨sc_piece x3 qv 512 inb_S1x4096x128_S1x512x128_0_512_0 inb_S4096x512_S512x512_512_0, List.forall_mem_cons.2 ⟨sc_piece x3 qv 0 inb_S1x4096x128_S1x512x128_0_0_0 inb_S4096x512_S512x512_0_0, fun _ h => absurd h List.not_mem_nil⟩⟩⟩⟩⟩⟩⟩⟩
  · exact View.cover_of_tiledL (s := S4096x512) _ S512x512.size (by sl_kernel_rfl) y

/-- The maximum over all keys, on eight equal rows. -/
abbrev MXB (x3 : Vec Ideal S1x4096x128 .bf16) (qv : FVec Ideal S512x128 .bf16) : FVec Ideal S8x512 .f32 :=
  broadcastTo S8x512 (maximumf (maximumf (maximumf (maximumf (maximumf (maximumf (maximumf (mxT (scT qv (KC x3 ![0, 0, 0] inb_S1x4096x128_S1x512x128_0_0_0)))
    (mxT (scT qv (KC x3 ![0, 512, 0] inb_S1x4096x128_S1x512x128_0_512_0))))
    (mxT (scT qv (KC x3 ![0, 1024, 0] inb_S1x4096x128_S1x512x128_0_1024_0))))
    (mxT (scT qv (KC x3 ![0, 1536, 0] inb_S1x4096x128_S1x512x128_0_1536_0))))
    (mxT (scT qv (KC x3 ![0, 2048, 0] inb_S1x4096x128_S1x512x128_0_2048_0))))
    (mxT (scT qv (KC x3 ![0, 2560, 0] inb_S1x4096x128_S1x512x128_0_2560_0))))
    (mxT (scT qv (KC x3 ![0, 3072, 0] inb_S1x4096x128_S1x512x128_0_3072_0))))
    (mxT (scT qv (KC x3 ![0, 3584, 0] inb_S1x4096x128_S1x512x128_0_3584_0)))) broadcasts_S1x512_S8x512

/-- What the stores of the values' transpose and of the ones leave. -/
theorem canon_vt (x4 : Vec Ideal S1x4096x128 .bf16) :
    View.canon (Val := Elt Ideal) [⟨Rect.unit (s := S144x4096) ![128, 0] S16x4096.size inb_S144x4096_S16x4096_128_0, (k0_pay9 : FVec Ideal S16x4096 .bf16)⟩,
      ⟨Rect.unit (s := S144x4096) ![0, 0] S128x4096.size inb_S144x4096_S128x4096_0_0, k0_pay8 x4⟩] = VT x4 := by
  funext y
  refine View.canon_apply_of_pieces (VT x4) _ ?_ y ?_
  · refine List.forall_mem_cons.2 ⟨fun x => ?_, List.forall_mem_cons.2 ⟨fun x => ?_, fun _ h => absurd h List.not_mem_nil⟩⟩
    · unfold VT
      rw [dif_neg (by show ¬(128 + 1 * (x 0).val < 128); omega)]
      unfold k0_pay9
      simp only [shapeCast_self]
      show Ideal.ofBits .bf16 0x3F80#16 = 1
      have e1 : (16256 >>> 7 : ℕ) % 256 = 127 := by decide
      have e2 : ¬BitVec.extractLsb' 15 1 16256#16 = 1#1 := by decide
      norm_num [Ideal.ofBits, Ideal.ieee, e1, e2]
    · have h0 : (x 0).val < 128 := (x 0).isLt
      unfold VT
      rw [dif_pos (by show 0 + 1 * (x 0).val < 128; omega)]
      unfold k0_pay8
      simp only [shapeCast_self]
      refine (transpose_apply _ _ _ _ (ix2 (x 1) (x 0)) (fun b => ?_)).trans ?_
      · match b with
        | ⟨0, _⟩ => rfl
        | ⟨1, _⟩ => rfl
      refine (shapeCast_dropUnit_apply ![4096, 128] x4 shapeCasts_S1x4096x128_S4096x128 (ix2 (x 1) (x 0))).trans ?_
      refine congrArg x4 (funext fun a => Fin.ext ?_)
      match a with
      | ⟨0, _⟩ => rfl
      | ⟨1, _⟩ => show (x 1).val = 0 + 1 * (x 1).val; omega
      | ⟨2, _⟩ => show (x 0).val = 0 + 1 * (x 0).val; omega
  · by_cases h : (y 0).val < 128
    · refine ⟨_, List.mem_cons_of_mem _ List.mem_cons_self, (Rect.mem_set_unit (inb := inb_S144x4096_S128x4096_0_0)).2 fun a => ?_⟩
      match a with
      | ⟨0, _⟩ => exact ⟨Nat.zero_le _, by show (y 0).val < 0 + 128; omega⟩
      | ⟨1, _⟩ => exact ⟨Nat.zero_le _, by have : (y 1).val < 4096 := (y 1).isLt; show (y 1).val < 0 + 4096; omega⟩
    · refine ⟨_, List.mem_cons_self, (Rect.mem_set_unit (inb := inb_S144x4096_S16x4096_128_0)).2 fun a => ?_⟩
      match a with
      | ⟨0, _⟩ => exact ⟨by show 128 ≤ (y 0).val; omega, by have : (y 0).val < 144 := (y 0).isLt; show (y 0).val < 128 + 16; omega⟩
      | ⟨1, _⟩ => exact ⟨Nat.zero_le _, by have : (y 1).val < 4096 := (y 1).isLt; show (y 1).val < 0 + 4096; omega⟩

end Cert.Attn

end
-- ==== Proof.Attn.State.lean ====
/- What one point of the attention's grid leaves in its output block and its carried buffers. -/
module

public import proofs.«01_k».proof.Proof.Attn.Block

@[expose] public section

set_option maxRecDepth 16384

noncomputable section

namespace Cert.Attn

open Cert.KernelIdeal Cert.KernelIdeal.Gen Idealize.ShloMosaic Idealize.ShloMosaic.ValueIdx
open Idealize.ShloMosaic.TcCoe Idealize.ShloMosaic.Tactic Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The masked query rows of the block's second half, which the second step of a point scores. -/
abbrev QHI (x2 : Vec Ideal S1x512x128 .bf16) : FVec Ideal S512x128 .bf16 :=
  k0_pay41 (View.ld x2 (Rect.unit (s := S1x512x128) ![0, 256, 0] S1x256x128.size inb_S1x512x128_S1x256x128_0_256_0))

/-- The masked query rows of the block's first half, which the first step of a point scores. -/
abbrev QLO (x2 : Vec Ideal S1x512x128 .bf16) : FVec Ideal S512x128 .bf16 :=
  k0_pay10 (View.ld x2 (Rect.unit (s := S1x512x128) ![0, 0, 0] S1x256x128.size inb_S1x512x128_S1x256x128_0_0_0))

/-- The half block of results a finished accumulator gives. -/
abbrev FIN (x0 : Vec Ideal S4x64 .f32) (x1 : Vec Ideal S128x1 .f32) (a : Vec Ideal S144x512 .f32) : FVec Ideal S1x256x128 .bf16 :=
  k0_pay22 (View.ld a (Rect.unit (s := S144x512) ![0, 0] S128x512.size inb_S144x512_S128x512_0_0))
    (View.ld a (Rect.unit (s := S144x512) ![128, 0] S1x512.size inb_S144x512_S1x512_128_0)) x0 x1

/-- The block of results two finished accumulators give, half by half. -/
abbrev OUTB (x0 : Vec Ideal S4x64 .f32) (x1 : Vec Ideal S128x1 .f32) (b a : Vec Ideal S144x512 .f32) : Vec Ideal S1x512x128 .bf16 :=
  View.canon (Val := Elt Ideal) [⟨Rect.unit (s := S1x512x128) ![0, 256, 0] S1x256x128.size inb_S1x512x128_S1x256x128_0_256_0, FIN x0 x1 a⟩,
    ⟨Rect.unit (s := S1x512x128) ![0, 0, 0] S1x256x128.size inb_S1x512x128_S1x256x128_0_0_0, FIN x0 x1 b⟩]

theorem ld_whole (w : Vec Ideal S8x512 .f32) :
    (fun j => View.canon [⟨Rect.unit (s := S8x512) ![0, 0] S8x512.size inb_S8x512_S8x512_0_0, w⟩]
        ((Rect.unit (s := S8x512) ![0, 0] S1x512.size inb_S8x512_S1x512_0_0).idx j)) =
      View.ld w (Rect.unit (s := S8x512) ![0, 0] S1x512.size inb_S8x512_S1x512_0_0) := by
  rw [View.canon_cons_unit_zero hz2]

theorem ld_acc (w : Vec Ideal S144x512 .f32) :
    (fun j => View.canon [⟨Rect.unit (s := S144x512) ![0, 0] S144x512.size inb_S144x512_S144x512_0_0, w⟩]
        ((Rect.unit (s := S144x512) ![0, 0] S128x512.size inb_S144x512_S128x512_0_0).idx j)) =
      View.ld w (Rect.unit (s := S144x512) ![0, 0] S128x512.size inb_S144x512_S128x512_0_0) := by
  rw [View.canon_cons_unit_zero hz2]

theorem ld_row (w : Vec Ideal S144x512 .f32) :
    (fun j => View.canon [⟨Rect.unit (s := S144x512) ![0, 0] S144x512.size inb_S144x512_S144x512_0_0, w⟩]
        ((Rect.unit (s := S144x512) ![128, 0] S1x512.size inb_S144x512_S1x512_128_0).idx j)) =
      View.ld w (Rect.unit (s := S144x512) ![128, 0] S1x512.size inb_S144x512_S1x512_128_0) := by
  rw [View.canon_cons_unit_zero hz2]

theorem pay39_eq (x : Vec Ideal S1x4096x128 .bf16) : k0_pay39 x = k0_pay8 x := rfl

theorem pay40_eq : (k0_pay40 : FVec Ideal S16x4096 .bf16) = k0_pay9 := rfl

theorem fin_eq (a : Vec Ideal S128x512 .f32) (b : Vec Ideal S1x512 .f32) (x0 : Vec Ideal S4x64 .f32) (x1 : Vec Ideal S128x1 .f32) :
    k0_pay53 (k0_pay52 a b x0 x1) = k0_pay22 a b x0 x1 := rfl

/-- Later stores that cover an array leave nothing of the earlier ones. -/
theorem canon_append {S : Shape} {e : EltTy} (L M : List (View.Piece (Elt Ideal) S e)) (y : S.Idx)
    (h : ∃ p ∈ L, y ∈ p.1.set) : View.canon (Val := Elt Ideal) (L ++ M) y = View.canon L y := by
  induction L with
  | nil => obtain ⟨_, hm, _⟩ := h; exact absurd hm List.not_mem_nil
  | cons p L ih =>
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      refine ih ?_
      obtain ⟨q, hq, hyq⟩ := h
      rcases List.mem_cons.1 hq with rfl | hq
      · exact absurd hyq hy
      · exact ⟨q, hq, hyq⟩

section Case1

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : cond0_0 i) (hc1 : ¬cond0_1 i) (x0 : Vec Ideal S4x64 .f32) (x1 : Vec Ideal S128x1 .f32) (x2 : Vec Ideal S1x512x128 .bf16) (x3 : Vec Ideal S1x4096x128 .bf16) (x4 : Vec Ideal S1x4096x128 .bf16)

theorem score_A :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = SC x3 (QHI x2) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  refine Eq.trans ?_ (canon_sc x3 (QHI x2))
  simp only [k0_pay1, k0_pay2, k0_pay42, k0_pay43, k0_pay46, k0_pay47, k0_pay48, k0_pay49, k0_pay54, k0_pay55, k0_pay57, k0_pay58, k0_pay61, k0_pay62, k0_pay64, k0_pay65, View.readAt_eq_ld, harg3.read_unread, harg4.read_unread, shapeCast_self]
  funext y
  refine canon_append [_, _, _, _, _, _, _, _] [_] y ?_
  exact View.cover_of_tiledL (s := S4096x512) _ S512x512.size (by sl_kernel_rfl) y

theorem max_A :
    sout0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = MXB x3 (QHI x2) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero hz2]
  simp only [k0_pay1, k0_pay2, k0_pay42, k0_pay43, k0_pay46, k0_pay47, k0_pay48, k0_pay49, k0_pay54, k0_pay55, k0_pay57, k0_pay58, k0_pay61, k0_pay62, k0_pay64, k0_pay65, k0_pay3, k0_pay44, k0_pay50, k0_pay59, k0_pay66, View.readAt_eq_ld, harg3.read_unread, harg4.read_unread, shapeCast_self]

theorem acc_A :
    sout0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = AC (MXB x3 (QLO x2)) (SC x3 (QLO x2)) (VT x4) := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero hz2]
  refine Eq.trans ?_ (ACB_eq (MXB x3 (QLO x2)) (SC x3 (QLO x2)) _)
  simp only [pay39_eq, pay40_eq, View.ld_unit_zero (S := S1x4096x128) hz3, k0_pay1, k0_pay2, k0_pay3, k0_pay4, k0_pay5, k0_pay6, k0_pay7, k0_pay11, k0_pay12, k0_pay13, k0_pay14, k0_pay15, k0_pay16, k0_pay17, k0_pay18, k0_pay19, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, View.readAt_eq_ld, View.readCov_eq_canon', harg1.read_unread, harg2.read_unread, harg3.read_unread, harg4.read_unread, harg5.read_unread, shapeCast_self]
  rw [canon_sc x3 (QLO x2)]
  rw [ld_whole (MXB x3 (QLO x2))]
  rw [canon_vt x4]

theorem vals_A :
    sout0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 = VT x4 := by
  unfold sout0_A_6
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  refine Eq.trans ?_ (canon_vt x4)
  simp only [k0_pay39, k0_pay40, k0_pay8, k0_pay9, View.readAt_eq_ld, harg5.read_unread, View.ld_unit_zero (S := S1x4096x128) hz3]

end Case1

section Case2

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : ¬cond0_1 i) (x0 : Vec Ideal S4x64 .f32) (x1 : Vec Ideal S128x1 .f32) (x2 : Vec Ideal S1x512x128 .bf16) (x3 : Vec Ideal S1x4096x128 .bf16) (x4 : Vec Ideal S1x4096x128 .bf16) (xs1 : Vec Ideal S4096x512 .f32) (xs3 : Vec Ideal S8x512 .f32) (xs5 : Vec Ideal S144x512 .f32) (xs6 : Vec Ideal S144x4096 .bf16)

theorem score_B :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = SC x3 (QHI x2) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_B
  dsimp only
  sl_unfold_words
  refine Eq.trans ?_ (canon_sc x3 (QHI x2))
  simp only [k0_pay1, k0_pay2, k0_pay42, k0_pay43, k0_pay46, k0_pay47, k0_pay48, k0_pay49, k0_pay54, k0_pay55, k0_pay57, k0_pay58, k0_pay61, k0_pay62, k0_pay64, k0_pay65, View.readAt_eq_ld, harg3.read_unread, harg4.read_unread, shapeCast_self]

theorem max_B :
    sout0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = MXB x3 (QHI x2) := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_B
  dsimp only
  sl_unfold_words
  rw [View.canon_cons_unit_zero hz2]
  simp only [k0_pay1, k0_pay2, k0_pay42, k0_pay43, k0_pay46, k0_pay47, k0_pay48, k0_pay49, k0_pay54, k0_pay55, k0_pay57, k0_pay58, k0_pay61, k0_pay62, k0_pay64, k0_pay65, k0_pay3, k0_pay44, k0_pay50, k0_pay59, k0_pay66, View.readAt_eq_ld, harg3.read_unread, harg4.read_unread, shapeCast_self]

theorem acc_B :
    sout0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = AC (MXB x3 (QLO x2)) (SC x3 (QLO x2)) (xs6) := by
  unfold sout0_B_5
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_B
  dsimp only
  sl_unfold_words
  rw [View.canon_cons_unit_zero hz2]
  refine Eq.trans ?_ (ACB_eq (MXB x3 (QLO x2)) (SC x3 (QLO x2)) _)
  simp only [pay39_eq, pay40_eq, View.ld_unit_zero (S := S1x4096x128) hz3, k0_pay1, k0_pay2, k0_pay3, k0_pay4, k0_pay5, k0_pay6, k0_pay7, k0_pay11, k0_pay12, k0_pay13, k0_pay14, k0_pay15, k0_pay16, k0_pay17, k0_pay18, k0_pay19, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, View.readAt_eq_ld, View.readCov_eq_canon', harg1.read_unread, harg2.read_unread, harg3.read_unread, harg4.read_unread, harg5.read_unread, harg8.read_unread, harg10.read_unread, harg12.read_unread, harg13.read_unread, shapeCast_self]
  rw [canon_sc x3 (QLO x2)]
  rw [ld_whole (MXB x3 (QLO x2))]

theorem out_B :
    out0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = OUTB x0 x1 xs5 (AC xs3 xs1 xs6) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_B
  dsimp only
  sl_unfold_words
  refine Eq.trans ?_ (congrArg (OUTB x0 x1 xs5) (ACB_eq xs3 xs1 xs6))
  simp only [fin_eq, k0_pay1, k0_pay2, k0_pay3, k0_pay4, k0_pay5, k0_pay6, k0_pay7, k0_pay8, k0_pay9, k0_pay11, k0_pay12, k0_pay13, k0_pay14, k0_pay15, k0_pay16, k0_pay17, k0_pay18, k0_pay19, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay54, k0_pay55, k0_pay56, k0_pay57, k0_pay58, k0_pay59, k0_pay60, k0_pay61, k0_pay62, k0_pay63, k0_pay64, k0_pay65, k0_pay66, k0_pay67, View.readAt_eq_ld, View.readCov_eq_canon', harg1.read_unread, harg2.read_unread, harg3.read_unread, harg4.read_unread, harg5.read_unread, harg8.read_unread, harg10.read_unread, harg12.read_unread, harg13.read_unread, shapeCast_self, View.ld_unit_zero (S := S4x64) hz2, View.ld_unit_zero (S := S128x1) hz2]
  rw [ld_acc, ld_row]

end Case2

section Case3

variable (c : Dev nD) (i : grid0.Coords) (arg1 : Memref sig .tc .vmem S4x64 .f32) (harg1 : arg1.IsWhole) (arg2 : Memref sig .tc .vmem S128x1 .f32) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S4096x512 .f32) (harg7 : arg7.IsWhole) (arg8 : Memref sig .tc .vmem S4096x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S144x512 .f32) (harg11 : arg11.IsWhole) (arg12 : Memref sig .tc .vmem S144x512 .f32) (harg12 : arg12.IsWhole) (arg13 : Memref sig .tc .vmem S144x4096 .bf16) (harg13 : arg13.IsWhole) (hc0 : ¬cond0_0 i) (hc1 : cond0_1 i) (x0 : Vec Ideal S4x64 .f32) (x1 : Vec Ideal S128x1 .f32) (x2 : Vec Ideal S1x512x128 .bf16) (x3 : Vec Ideal S1x4096x128 .bf16) (x4 : Vec Ideal S1x4096x128 .bf16) (xs1 : Vec Ideal S4096x512 .f32) (xs3 : Vec Ideal S8x512 .f32) (xs5 : Vec Ideal S144x512 .f32) (xs6 : Vec Ideal S144x4096 .bf16)

theorem score_C :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = SC x3 (QHI x2) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_C
  dsimp only
  sl_unfold_words
  refine Eq.trans ?_ (canon_sc x3 (QHI x2))
  simp only [k0_pay1, k0_pay2, k0_pay42, k0_pay43, k0_pay46, k0_pay47, k0_pay48, k0_pay49, k0_pay54, k0_pay55, k0_pay57, k0_pay58, k0_pay61, k0_pay62, k0_pay64, k0_pay65, View.readAt_eq_ld, harg3.read_unread, harg4.read_unread, shapeCast_self]

theorem max_C :
    sout0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = MXB x3 (QHI x2) := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_C
  dsimp only
  sl_unfold_words
  rw [View.canon_cons_unit_zero hz2]
  simp only [k0_pay1, k0_pay2, k0_pay42, k0_pay43, k0_pay46, k0_pay47, k0_pay48, k0_pay49, k0_pay54, k0_pay55, k0_pay57, k0_pay58, k0_pay61, k0_pay62, k0_pay64, k0_pay65, k0_pay3, k0_pay44, k0_pay50, k0_pay59, k0_pay66, View.readAt_eq_ld, harg3.read_unread, harg4.read_unread, shapeCast_self]

theorem acc_C :
    sout0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = AC (MXB x3 (QLO x2)) (SC x3 (QLO x2)) (VT x4) := by
  unfold sout0_C_5
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_C
  dsimp only
  sl_unfold_words
  rw [View.canon_cons_unit_zero hz2]
  refine Eq.trans ?_ (ACB_eq (MXB x3 (QLO x2)) (SC x3 (QLO x2)) _)
  simp only [pay39_eq, pay40_eq, View.ld_unit_zero (S := S1x4096x128) hz3, k0_pay1, k0_pay2, k0_pay3, k0_pay4, k0_pay5, k0_pay6, k0_pay7, k0_pay11, k0_pay12, k0_pay13, k0_pay14, k0_pay15, k0_pay16, k0_pay17, k0_pay18, k0_pay19, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, View.readAt_eq_ld, View.readCov_eq_canon', harg1.read_unread, harg2.read_unread, harg3.read_unread, harg4.read_unread, harg5.read_unread, harg8.read_unread, harg10.read_unread, harg12.read_unread, harg13.read_unread, shapeCast_self]
  rw [canon_sc x3 (QLO x2)]
  rw [ld_whole (MXB x3 (QLO x2))]
  rw [canon_vt x4]

theorem vals_C :
    sout0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = VT x4 := by
  unfold sout0_C_6
  rw [View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_C
  dsimp only
  sl_unfold_words
  refine Eq.trans ?_ (canon_vt x4)
  simp only [k0_pay39, k0_pay40, k0_pay8, k0_pay9, View.readAt_eq_ld, harg5.read_unread, View.ld_unit_zero (S := S1x4096x128) hz3]

theorem out_C :
    out0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6 = OUTB x0 x1 xs5 (AC xs3 xs1 xs6) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 xs1 xs3 xs5 xs6)]
  unfold kernelRun0_C
  dsimp only
  sl_unfold_words
  refine Eq.trans ?_ (congrArg (OUTB x0 x1 xs5) (ACB_eq xs3 xs1 xs6))
  simp only [fin_eq, k0_pay1, k0_pay2, k0_pay3, k0_pay4, k0_pay5, k0_pay6, k0_pay7, k0_pay8, k0_pay9, k0_pay11, k0_pay12, k0_pay13, k0_pay14, k0_pay15, k0_pay16, k0_pay17, k0_pay18, k0_pay19, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay54, k0_pay55, k0_pay56, k0_pay57, k0_pay58, k0_pay59, k0_pay60, k0_pay61, k0_pay62, k0_pay63, k0_pay64, k0_pay65, k0_pay66, k0_pay67, View.readAt_eq_ld, View.readCov_eq_canon', harg1.read_unread, harg2.read_unread, harg3.read_unread, harg4.read_unread, harg5.read_unread, harg8.read_unread, harg10.read_unread, harg12.read_unread, harg13.read_unread, shapeCast_self, View.ld_unit_zero (S := S4x64) hz2, View.ld_unit_zero (S := S128x1) hz2]
  rw [ld_acc, ld_row]

end Case3

end Cert.Attn

end
-- ==== Proof.Attn.Grid.lean ====
/- What the attention's launch leaves after each point of its grid. -/
module

public import proofs.«01_k».proof.Proof.Attn.State
public import Idealize.ShloMosaic.Lib.Pipeline.ValueKit

@[expose] public section

set_option maxRecDepth 16384

noncomputable section

namespace Cert.Attn

open Cert.KernelIdeal Cert.KernelIdeal.Gen Idealize.ShloMosaic Idealize.ShloMosaic.ValueIdx
open Idealize.ShloMosaic.TcCoe Idealize.ShloMosaic.Tactic Idealize.SL.Sem

variable (m : (ℓ : Loc nD τ sig) → Buf (Elt Ideal) ℓ)

/-- The lambda vectors, the norm's weights, the queries, the keys and the values a point is given. -/
abbrev LB (c : Dev nD) (t : Fin cfg0.N) : Vec Ideal S4x64 .f32 := iblk m c 0 t
abbrev GB (c : Dev nD) (t : Fin cfg0.N) : Vec Ideal S128x1 .f32 := iblk m c 1 t
abbrev QB (c : Dev nD) (t : Fin cfg0.N) : Vec Ideal S1x512x128 .bf16 := iblk m c 2 t
abbrev KB (c : Dev nD) (t : Fin cfg0.N) : Vec Ideal S1x4096x128 .bf16 := iblk m c 3 t
abbrev VB (c : Dev nD) (t : Fin cfg0.N) : Vec Ideal S1x4096x128 .bf16 := iblk m c 4 t

/-- The accumulator of a half block of queries. -/
abbrev ACQ (x3 x4 : Vec Ideal S1x4096x128 .bf16) (qv : FVec Ideal S512x128 .bf16) : FVec Ideal S144x512 .f32 :=
  AC (MXB x3 qv) (SC x3 qv) (VT x4)

/-- The block of (batch, query block, head) that point `t` works on, as the windows index it. -/
theorem idx0 : ∀ t : Fin cfg0.N, ((cfg0.win 0).index t 0 = 0 ∧ (cfg0.win 0).index t 1 = 0) := by decide +kernel
theorem idx1 : ∀ t : Fin cfg0.N, ((cfg0.win 1).index t 0 = 0 ∧ (cfg0.win 1).index t 1 = 0) := by decide +kernel
theorem idx3 : ∀ t : Fin cfg0.N, ((cfg0.win 3).index t 0 = min t.val 511 / 64 ∧ (cfg0.win 3).index t 1 = 0
    ∧ (cfg0.win 3).index t 2 = min t.val 511 / 8 % 8) := by decide +kernel
theorem idx4 : ∀ t : Fin cfg0.N, ((cfg0.win 4).index t 0 = min t.val 511 / 64 ∧ (cfg0.win 4).index t 1 = 0
    ∧ (cfg0.win 4).index t 2 = min t.val 511 / 8 % 8) := by decide +kernel
theorem idx2 : ∀ t : Fin cfg0.N, ((cfg0.win 2).index t 0 = min t.val 511 / 64 ∧ (cfg0.win 2).index t 1 = min t.val 511 % 8
    ∧ (cfg0.win 2).index t 2 = min t.val 511 / 8 % 8) := by decide +kernel
theorem idx5 : ∀ t : Fin cfg0.N, ((cfg0.win 5).index t 0 = (t.val - 1) / 64 ∧ (cfg0.win 5).index t 1 = (t.val - 1) % 8
    ∧ (cfg0.win 5).index t 2 = (t.val - 1) / 8 % 8) := by decide +kernel
theorem flush5_pos : ∀ t : Fin cfg0.N, (cfg0.win 5).flush t = true → 0 < t.val := by decide +kernel
theorem covers5 : (cfg0.win 5).Covers := by decide +kernel

theorem QB_apply (c : Dev nD) (t : Fin cfg0.N) (y : S1x512x128.Idx) (i : S8x4096x1024.Idx)
    (h0 : (i 0).val = min t.val 511 / 64) (h1 : (i 1).val = min t.val 511 % 8 * 512 + (y 1).val)
    (h2 : (i 2).val = min t.val 511 / 8 % 8 * 128 + (y 2).val) :
    QB m c t y = m ((c : Thread nD τ).loc main_arg2) i := by
  obtain ⟨e0, e1, e2⟩ := idx2 t
  have hy0 : (y 0).val < 1 := (y 0).isLt
  blk_ext [QB, iblk, V, e0, e1, e2]
theorem KB_apply (c : Dev nD) (t : Fin cfg0.N) (y : S1x4096x128.Idx) (i : S8x4096x1024.Idx)
    (h0 : (i 0).val = min t.val 511 / 64) (h1 : (i 1).val = (y 1).val)
    (h2 : (i 2).val = min t.val 511 / 8 % 8 * 128 + (y 2).val) :
    KB m c t y = m ((c : Thread nD τ).loc main_arg3) i := by
  obtain ⟨e0, e1, e2⟩ := idx3 t
  have hy0 : (y 0).val < 1 := (y 0).isLt
  blk_ext [KB, iblk, V, e0, e1, e2]
theorem VB_apply (c : Dev nD) (t : Fin cfg0.N) (y : S1x4096x128.Idx) (i : S8x4096x1024.Idx)
    (h0 : (i 0).val = min t.val 511 / 64) (h1 : (i 1).val = (y 1).val)
    (h2 : (i 2).val = min t.val 511 / 8 % 8 * 128 + (y 2).val) :
    VB m c t y = m ((c : Thread nD τ).loc main_arg4) i := by
  obtain ⟨e0, e1, e2⟩ := idx4 t
  have hy0 : (y 0).val < 1 := (y 0).isLt
  blk_ext [VB, iblk, V, e0, e1, e2]
theorem LB_eq (c : Dev nD) (t : Fin cfg0.N) : LB m c t = m ((c : Thread nD τ).loc main_arg0) := by
  funext y
  obtain ⟨e0, e1⟩ := idx0 t
  blk_ext [LB, iblk, V, e0, e1]
theorem GB_eq (c : Dev nD) (t : Fin cfg0.N) : GB m c t = m ((c : Thread nD τ).loc main_arg1) := by
  funext y
  obtain ⟨e0, e1⟩ := idx1 t
  blk_ext [GB, iblk, V, e0, e1]

/-- Points of the same batch entry and head are given the same values. -/
theorem VB_pred (c : Dev nD) (t : Fin cfg0.N) (h : t.val % 8 ≠ 0) (h' : t.val - 1 < cfg0.N) :
    VB m c ⟨t.val - 1, h'⟩ = VB m c t := by
  funext y
  have hN : t.val < 513 := t.isLt
  have hy1 : (y 1).val < 4096 := (y 1).isLt
  have hy2 : (y 2).val < 128 := (y 2).isLt
  let i : S8x4096x1024.Idx := ValueIdx.ix3 (⟨min t.val 511 / 64, by omega⟩ : Fin 8) (⟨(y 1).val, hy1⟩ : Fin 4096)
    (⟨min t.val 511 / 8 % 8 * 128 + (y 2).val, by omega⟩ : Fin 1024)
  rw [VB_apply m c t y i rfl rfl rfl]
  refine VB_apply m c ⟨t.val - 1, h'⟩ y i ?_ rfl ?_
  · show min t.val 511 / 64 = min (t.val - 1) 511 / 64
    omega
  · show min t.val 511 / 8 % 8 * 128 + (y 2).val = min (t.val - 1) 511 / 8 % 8 * 128 + (y 2).val
    omega

/-- What the carried buffers hold after a point: the scores and the maxima of the block's second half, the accumulator of its first
    half, and the transposed values. -/
theorem state (c : Dev nD) : ∀ (n : ℕ) (hn : n < cfg0.N),
    (outsAt0 m c n hn).2.1 = SC (KB m c ⟨n, hn⟩) (QHI (QB m c ⟨n, hn⟩))
    ∧ (outsAt0 m c n hn).2.2.1 = MXB (KB m c ⟨n, hn⟩) (QHI (QB m c ⟨n, hn⟩))
    ∧ (outsAt0 m c n hn).2.2.2.1 = ACQ (KB m c ⟨n, hn⟩) (VB m c ⟨n, hn⟩) (QLO (QB m c ⟨n, hn⟩))
    ∧ (outsAt0 m c n hn).2.2.2.2 = VT (VB m c ⟨n, hn⟩) := by
  intro n
  induction n with
  | zero =>
    intro hn
    have e := outsAt0_A m c ⟨0, hn⟩ (Nat.zero_mod _) (fun h => h.2 (Nat.zero_mod _))
    have e1 := congrArg (fun o => o.2.1) e
    have e2 := congrArg (fun o => o.2.2.1) e
    have e3 := congrArg (fun o => o.2.2.2.1) e
    have e4 := congrArg (fun o => o.2.2.2.2) e
    dsimp only [left0_A] at e1 e2 e3 e4
    rw [score_A] at e1
    rw [max_A] at e2
    rw [acc_A] at e3
    rw [vals_A] at e4
    exact ⟨e1, e2, e3, e4⟩
  | succ n ih =>
    intro hn
    obtain ⟨i1, i2, i3, i4⟩ := ih (Nat.lt_of_succ_lt hn)
    have hN : n + 1 < 513 := hn
    have h0 : ¬(n + 1) % 513 = 0 := by omega
    by_cases h8 : (n + 1) % 8 = 0
    · have e := outsAt0_C m c ⟨n + 1, hn⟩ h0 ⟨h8, h0⟩
      have e1 := congrArg (fun o => o.2.1) e
      have e2 := congrArg (fun o => o.2.2.1) e
      have e3 := congrArg (fun o => o.2.2.2.1) e
      have e4 := congrArg (fun o => o.2.2.2.2) e
      dsimp only [left0_C] at e1 e2 e3 e4
      rw [score_C] at e1
      rw [max_C] at e2
      rw [acc_C] at e3
      rw [vals_C] at e4
      exact ⟨e1, e2, e3, e4⟩
    · have e := outsAt0_B m c ⟨n + 1, hn⟩ h0 (fun h => h8 h.1)
      have ev : (outsAt0 m c n (Nat.lt_of_succ_lt hn)).2.2.2.2 = VT (VB m c ⟨n + 1, hn⟩) := by
        rw [i4]; exact congrArg VT (VB_pred m c ⟨n + 1, hn⟩ h8 (Nat.lt_of_succ_lt hn))
      have e1 := congrArg (fun o => o.2.1) e
      have e2 := congrArg (fun o => o.2.2.1) e
      have e3 := congrArg (fun o => o.2.2.2.1) e
      have e4 := congrArg (fun o => o.2.2.2.2) e
      dsimp only [left0_B] at e1 e2 e3 e4
      rw [score_B] at e1
      rw [max_B] at e2
      rw [acc_B] at e3
      exact ⟨e1, e2, e3.trans (congrArg (AC _ _) ev), e4.trans ev⟩

/-- The block that a point after the first writes: the results of the block of queries before it. -/
theorem out_at (c : Dev nD) (n : ℕ) (hn : n + 1 < cfg0.N) :
    (outsAt0 m c (n + 1) hn).1 = OUTB (m ((c : Thread nD τ).loc main_arg0)) (m ((c : Thread nD τ).loc main_arg1))
      (ACQ (KB m c ⟨n, Nat.lt_of_succ_lt hn⟩) (VB m c ⟨n, Nat.lt_of_succ_lt hn⟩) (QLO (QB m c ⟨n, Nat.lt_of_succ_lt hn⟩)))
      (ACQ (KB m c ⟨n, Nat.lt_of_succ_lt hn⟩) (VB m c ⟨n, Nat.lt_of_succ_lt hn⟩) (QHI (QB m c ⟨n, Nat.lt_of_succ_lt hn⟩))) := by
  obtain ⟨i1, i2, i3, i4⟩ := state m c n (Nat.lt_of_succ_lt hn)
  have hN : n + 1 < 513 := hn
  have h0 : ¬(n + 1) % 513 = 0 := by omega
  rw [← LB_eq m c ⟨n + 1, hn⟩, ← GB_eq m c ⟨n + 1, hn⟩, ← i3]
  unfold ACQ
  rw [← i1, ← i2, ← i4]
  by_cases h8 : (n + 1) % 8 = 0
  · have e := congrArg (fun o => o.1) (outsAt0_C m c ⟨n + 1, hn⟩ h0 ⟨h8, h0⟩)
    dsimp only [left0_C] at e
    rw [out_C] at e
    exact e
  · have e := congrArg (fun o => o.1) (outsAt0_B m c ⟨n + 1, hn⟩ h0 (fun h => h8 h.1))
    dsimp only [left0_B] at e
    rw [out_B] at e
    exact e

/-- The launch's result array is `G`, if every block of results is `G`'s block. -/
theorem launch_eq (c : Dev nD) (G : S8x4096x1024.Idx → EReal)
    (hG : ∀ (p : ℕ) (hp : p + 1 < cfg0.N) (y : S1x512x128.Idx) (i : S8x4096x1024.Idx), p < 512 → (i 0).val = p / 64 →
      (i 1).val = p % 8 * 512 + (y 1).val → (i 2).val = p / 8 % 8 * 128 + (y 2).val →
      OUTB (m ((c : Thread nD τ).loc main_arg0)) (m ((c : Thread nD τ).loc main_arg1))
        (ACQ (KB m c ⟨p, Nat.lt_of_succ_lt hp⟩) (VB m c ⟨p, Nat.lt_of_succ_lt hp⟩) (QLO (QB m c ⟨p, Nat.lt_of_succ_lt hp⟩)))
        (ACQ (KB m c ⟨p, Nat.lt_of_succ_lt hp⟩) (VB m c ⟨p, Nat.lt_of_succ_lt hp⟩) (QHI (QB m c ⟨p, Nat.lt_of_succ_lt hp⟩))) y = G i) :
    (dats m 0 c).arrAt 5 cfg0.N = G := by
  refine (dats m 0 c).arrAt_eq_of_covers 5 G covers5 (fun t hf y => ?_)
  obtain ⟨n, hn⟩ := t
  have hpos := flush5_pos _ hf
  have hN : n < 513 := hn
  obtain ⟨p, rfl⟩ : ∃ p, n = p + 1 := ⟨n - 1, by simp only at hpos; omega⟩
  obtain ⟨e0, e1, e2⟩ := idx5 ⟨p + 1, hn⟩
  have key := hG p hn y (((cfg0.win 5).blk ⟨p + 1, hn⟩).view.emb y) (by omega) (by have hy : (y 0).val < 1 := (y 0).isLt; blk_simp [e0]; simp) (by blk_simp [e1]; simp) (by blk_simp [e2]; simp)
  refine Eq.trans ?_ key
  rw [← out_at m c p hn, after0_5]
  rfl

end Cert.Attn

end
-- ==== Proof.Attn.Soft.lean ====
/- The softmax over the reals: in base two with any real offset, and in base e with any real offset. -/
module

public import Idealize.ShloMosaic.PureOps.Ideal.Laws

@[expose] public section

noncomputable section

namespace Cert.Attn

open Idealize.ShloMosaic

/-- The softmax weight of key `k` among scores given in base two. -/
def P {n : ℕ} (s : Fin n → ℝ) (k : Fin n) : ℝ := Real.rpow 2 (s k) / ∑ j, Real.rpow 2 (s j)

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A maximum of finitely many reals, at least one, is real. -/
theorem fold_max_real {n : ℕ} (hn : 0 < n) (f : Fin n → EReal) (hf : ∀ k, ∃ r : ℝ, f k = r) :
    ∃ r : ℝ, (Finset.univ : Finset (Fin n)).fold max (⊥ : EReal) f = r := by
  have h : ∀ t : Finset (Fin n), t.fold max (⊥ : EReal) f ≠ ⊤ ∧ (t.Nonempty → t.fold max (⊥ : EReal) f ≠ ⊥) := by
    intro t
    induction t using Finset.induction_on with
    | empty => simp
    | insert a t ha ih =>
      rw [Finset.fold_insert ha]
      obtain ⟨r, hr⟩ := hf a
      refine ⟨?_, fun _ => ?_⟩
      · rcases max_choice (f a) (t.fold max (⊥ : EReal) f) with e | e <;> rw [e]
        · rw [hr]; exact EReal.coe_ne_top r
        · exact ih.1
      · intro e
        have := le_max_left (f a) (t.fold max (⊥ : EReal) f)
        rw [e, hr] at this
        exact EReal.coe_ne_bot r (le_bot_iff.1 this)
  obtain ⟨h1, h2⟩ := h Finset.univ
  have h2 := h2 ⟨⟨0, hn⟩, Finset.mem_univ _⟩
  exact ⟨_, (EReal.coe_toReal h1 h2).symm⟩

theorem max_real {a b : EReal} (ha : ∃ r : ℝ, a = r) (hb : ∃ r : ℝ, b = r) : ∃ r : ℝ, max a b = r := by
  rcases max_choice a b with e | e <;> rw [e] <;> assumption

theorem div_real (x y : ℝ) (hy : y ≠ 0) : Ideal.div (x : EReal) (y : EReal) = ((x / y : ℝ) : EReal) := by
  rw [Ideal.div_coe hy, ← EReal.coe_mul, mul_one_div]

theorem exp2_sub (s m : ℝ) : Ideal.exp2 ((s : EReal) - (m : EReal)) = ((Real.rpow 2 s * Real.rpow 2 (-m) : ℝ) : EReal) := by
  rw [← EReal.coe_sub, Ideal.exp2_coe]
  congr 1
  show (2 : ℝ) ^ (s - m) = 2 ^ s * 2 ^ (-m)
  rw [← Real.rpow_add (by norm_num), sub_eq_add_neg]

theorem exp_sub (s m : ℝ) : Ideal.exp (((s * Real.log 2 : ℝ) : EReal) - (m : EReal)) = ((Real.rpow 2 s * Real.exp (-m) : ℝ) : EReal) := by
  rw [← EReal.coe_sub, Ideal.exp_coe]
  congr 1
  show _ = (2 : ℝ) ^ s * _
  rw [Real.rpow_def_of_pos (by norm_num), ← Real.exp_add, sub_eq_add_neg, mul_comm s]

theorem pow_pos2 (s : ℝ) : 0 < Real.rpow 2 s := Real.rpow_pos_of_pos (by norm_num) s

theorem sum_pos2 {n : ℕ} (hn : 0 < n) (s : Fin n → ℝ) : 0 < ∑ j, Real.rpow 2 (s j) :=
  Finset.sum_pos (fun _ _ => pow_pos2 _) ⟨⟨0, hn⟩, Finset.mem_univ _⟩

/-- The weighted values over the weights' sum, in base two: the offset divides out. -/
theorem soft2 {n : ℕ} (hn : 0 < n) (s v : Fin n → ℝ) (m : ℝ) :
    Ideal.div (∑ k, (v k : EReal) * Ideal.exp2 ((s k : EReal) - (m : EReal))) (∑ k, (1 : EReal) * Ideal.exp2 ((s k : EReal) - (m : EReal)))
      = ((∑ k, v k * P s k : ℝ) : EReal) := by
  have hm : (0 : ℝ) < Real.rpow 2 (-m) := pow_pos2 _
  have e1 : ∑ k, (v k : EReal) * Ideal.exp2 ((s k : EReal) - (m : EReal)) = (((∑ k, v k * Real.rpow 2 (s k)) * Real.rpow 2 (-m) : ℝ) : EReal) := by
    rw [Finset.sum_mul, coe_sum]
    refine Finset.sum_congr rfl fun k _ => ?_
    rw [exp2_sub, ← EReal.coe_mul, mul_assoc]
  have e2 : ∑ k, (1 : EReal) * Ideal.exp2 ((s k : EReal) - (m : EReal)) = (((∑ k, Real.rpow 2 (s k)) * Real.rpow 2 (-m) : ℝ) : EReal) := by
    rw [Finset.sum_mul, coe_sum]
    refine Finset.sum_congr rfl fun k _ => ?_
    rw [exp2_sub, one_mul]
  have hs := sum_pos2 hn s
  rw [e1, e2, div_real _ _ (mul_pos hs hm).ne', mul_div_mul_right _ _ hm.ne', Finset.sum_div]
  congr 1
  refine Finset.sum_congr rfl fun k _ => ?_
  rw [P, mul_div_assoc]

/-- A softmax weight in base e of the scores times log 2: the offset divides out. -/
theorem softe {n : ℕ} (hn : 0 < n) (s : Fin n → ℝ) (m : ℝ) (k : Fin n) :
    Ideal.div (Ideal.exp (((s k * Real.log 2 : ℝ) : EReal) - (m : EReal))) (∑ j, Ideal.exp (((s j * Real.log 2 : ℝ) : EReal) - (m : EReal)))
      = ((P s k : ℝ) : EReal) := by
  have hm : (0 : ℝ) < Real.exp (-m) := Real.exp_pos _
  have e2 : ∑ j, Ideal.exp (((s j * Real.log 2 : ℝ) : EReal) - (m : EReal)) = (((∑ j, Real.rpow 2 (s j)) * Real.exp (-m) : ℝ) : EReal) := by
    rw [Finset.sum_mul, coe_sum]
    exact Finset.sum_congr rfl fun k _ => exp_sub _ _
  rw [exp_sub, e2, div_real _ _ (mul_pos (sum_pos2 hn s) hm).ne', mul_div_mul_right _ _ hm.ne', P]

end Cert.Attn

end
-- ==== Proof.Attn.Finish.lean ====
/- The attention kernel's results at an element: its finishing step, its masked queries and its maxima. -/
module

public import proofs.«01_k».proof.Proof.Attn.State
public import proofs.«01_k».proof.Proof.Attn.Soft
public import Idealize.ShloMosaic.Lib.Pointwise

@[expose] public section

set_option maxRecDepth 16384

noncomputable section

namespace Cert.Attn

open Cert.KernelIdeal Cert.KernelIdeal.Gen Idealize.ShloMosaic
open Idealize.ShloMosaic.TcCoe Idealize.ShloMosaic.Tactic Idealize.SL.Sem

/-- The second map's weight, from the four learned rows. -/
def LAM (x0 : S4x64.Idx → EReal) : EReal :=
  Ideal.exp (∑ j : Fin 64, x0 (ValueIdx.ix2 0 j) * x0 (ValueIdx.ix2 1 j)) - Ideal.exp (∑ j : Fin 64, x0 (ValueIdx.ix2 2 j) * x0 (ValueIdx.ix2 3 j))
    + Ideal.ofBits .f32 0x3E4CCCCD#32

/-- Element `d` of a head's root mean square norm, scaled. -/
def NRM (o : Fin 128 → EReal) (g : EReal) (d : Fin 128) : EReal :=
  o d * Ideal.rsqrt (Ideal.div (∑ j, o j * o j) (Ideal.ofBits .f32 0x43000000#32) + Ideal.ofBits .f32 0x358637BD#32) * g
    * Ideal.ofBits .f32 0x3F4CCCCD#32

theorem fin_pay (a : Vec Ideal S128x512 .f32) (b : Vec Ideal S1x512 .f32) (x0 : Vec Ideal S4x64 .f32) (x1 : Vec Ideal S128x1 .f32)
    (r : Fin 256) (d : Fin 128) :
    k0_pay22 a b x0 x1 (ix3 0 r d) = NRM (fun j => Ideal.div (a (ix2 j ⟨r.val, by omega⟩)) (b (ix2 0 ⟨r.val, by omega⟩))
      - LAM x0 * Ideal.div (a (ix2 j ⟨256 + r.val, by omega⟩)) (b (ix2 0 ⟨256 + r.val, by omega⟩))) (x1 (ix2 d 0)) d := by
  unfold NRM LAM
  pointwise [k0_pay22]
  rfl

theorem slt64 (d : Fin 128) {α : Type} (a b : α) :
    Scalar.select (IntOp.cmpi CmpIPredicate.slt (BitVec.ofNat 32 d.val) 64#32) a b = if d.val < 64 then a else b := by
  revert d
  have h : ∀ d : Fin 128, IntOp.cmpi CmpIPredicate.slt (BitVec.ofNat 32 d.val) 64#32 = if d.val < 64 then 1#1 else 0#1 := by decide
  intro d
  rw [h d]
  by_cases hd : d.val < 64
  · rw [if_pos hd, if_pos hd]; rfl
  · rw [if_neg hd, if_neg hd]; rfl

theorem qlo_pay (q : Vec Ideal S1x256x128 .bf16) (j : Fin 512) (d : Fin 128) :
    k0_pay10 q (ix2 j d) = if h : j.val < 256 then (if d.val < 64 then q (ix3 0 ⟨j.val, h⟩ d) else 0)
      else (if d.val < 64 then 0 else q (ix3 0 ⟨j.val - 256, by omega⟩ d)) := by
  pointwise [k0_pay10]
  simp only [slt64]

theorem qhi_pay (q : Vec Ideal S1x256x128 .bf16) (j : Fin 512) (d : Fin 128) :
    k0_pay41 q (ix2 j d) = if h : j.val < 256 then (if d.val < 64 then q (ix3 0 ⟨j.val, h⟩ d) else 0)
      else (if d.val < 64 then 0 else q (ix3 0 ⟨j.val - 256, by omega⟩ d)) := by
  pointwise [k0_pay41]
  simp only [slt64]

theorem sum_mul_real {n : ℕ} (a b : Fin n → EReal) (ha : ∀ k, ∃ r : ℝ, a k = r) (hb : ∀ k, ∃ r : ℝ, b k = r) :
    ∃ r : ℝ, ∑ k, a k * b k = r := by
  choose f hf using ha
  choose g hg using hb
  exact ⟨∑ k, f k * g k, by rw [coe_sum]; exact Finset.sum_congr rfl fun k _ => by rw [hf, hg, EReal.coe_mul]⟩

theorem ninf : Ideal.ofBits .f32 0xFF800000#32 = ⊥ := by simp [Ideal.ofBits, Ideal.ieee]

/-- The maximum of real scores is real. -/
theorem mxb_real (x3 : Vec Ideal S1x4096x128 .bf16) (qv : FVec Ideal S512x128 .bf16) (h3 : ∀ i, ∃ r : ℝ, x3 i = r)
    (hq : ∀ i, ∃ r : ℝ, qv i = r) (j : Fin 512) : ∃ r : ℝ, MXB x3 qv (ix2 0 j) = r := by
  have hc : ∀ (o : Fin 3 → ℕ) (h : ∀ a, o a + S1x512x128.size a ≤ S1x4096x128.size a),
      ∃ r : ℝ, (Finset.univ : Finset (Fin 512)).fold max (Ideal.ofBits .f32 0xFF800000#32) (fun x => ∑ d : Fin 128, KC x3 o h (ix3 0 x d) * qv (ix2 j d)) = r := by
    intro o h
    rw [ninf]
    exact fold_max_real (by omega) _ fun k => sum_mul_real _ _ (fun d => h3 _) fun d => hq _
  pointwise [MXB, mxT]
  exact max_real (max_real (max_real (max_real (max_real (max_real (max_real (hc _ _) (hc _ _)) (hc _ _)) (hc _ _)) (hc _ _)) (hc _ _)) (hc _ _)) (hc _ _)

theorem ac_apply (m : Vec Ideal S8x512 .f32) (s : Vec Ideal S4096x512 .f32) (v : Vec Ideal S144x4096 .bf16) (i : Fin 144) (j : Fin 512) :
    AC m s v (ix2 i j) = ∑ k : Fin 4096, v (ValueIdx.ix2 i k) * Ideal.exp2 (s (ValueIdx.ix2 k j) - m (ValueIdx.ix2 0 j)) := rfl

/-- The accumulator's quotient is the softmax mean of the values, over the reals. -/
theorem acq_div (x3 x4 : Vec Ideal S1x4096x128 .bf16) (qv : FVec Ideal S512x128 .bf16) (fk fv : Fin 4096 → Fin 128 → ℝ)
    (fq : Fin 512 → Fin 128 → ℝ) (h3 : ∀ k d, x3 (ix3 0 k d) = (fk k d : EReal)) (h4 : ∀ k d, x4 (ix3 0 k d) = (fv k d : EReal))
    (hq : ∀ j d, qv (ix2 j d) = (fq j d : EReal)) (j : Fin 512) (d : Fin 128) :
    Ideal.div (AC (MXB x3 qv) (SC x3 qv) (VT x4) (ix2 ⟨d.val, by omega⟩ j)) (AC (MXB x3 qv) (SC x3 qv) (VT x4) (ix2 ⟨128, by omega⟩ j))
      = ((∑ k, fv k d * P (fun k => ∑ l, fk k l * fq j l) k : ℝ) : EReal) := by
  obtain ⟨m, hm⟩ := mxb_real x3 qv
    (fun i => ⟨fk (i 1) (i 2), by
      refine Eq.trans (congrArg x3 (funext fun a => ?_)) (h3 (i 1) (i 2))
      match a with
      | ⟨0, _⟩ => exact Fin.ext (by have h : (i 0).val < 1 := (i 0).isLt; show (i 0).val = 0; omega)
      | ⟨1, _⟩ => rfl
      | ⟨2, _⟩ => rfl⟩)
    (fun i => ⟨fq (i 0) (i 1), Eq.trans (congrArg qv (show i = ix2 (i 0) (i 1) from Shape.idx_ext₂ rfl rfl)) (hq (i 0) (i 1))⟩) j
  have hs : ∀ k : Fin 4096, SC x3 qv (ValueIdx.ix2 k j) = ((∑ l, fk k l * fq j l : ℝ) : EReal) := by
    intro k
    unfold SC
    rw [coe_sum]
    refine Finset.sum_congr rfl fun l _ => ?_
    rw [EReal.coe_mul, ← h3, ← hq]
    rfl
  rw [← soft2 (by omega) (fun k => ∑ l, fk k l * fq j l) (fun k => fv k d) m]
  rw [ac_apply, ac_apply]
  refine congrArg₂ Ideal.div (Finset.sum_congr rfl fun k _ => ?_) (Finset.sum_congr rfl fun k _ => ?_)
  · refine congrArg₂ (fun a b : EReal => a * b) ?_ (congrArg Ideal.exp2 (congrArg₂ (fun a b : EReal => a - b) (hs k) hm))
    rw [← h4]
    exact dif_pos d.isLt
  · refine congrArg₂ (fun a b : EReal => a * b) ?_ (congrArg Ideal.exp2 (congrArg₂ (fun a b : EReal => a - b) (hs k) hm))
    exact dif_neg (by show ¬ (128 : ℕ) < 128; omega)

/-- One of a query row's two scores against a key: the inner product over its half of the lanes. -/
def SR (q k : Fin 128 → ℝ) (c : Fin 2) : ℝ := ∑ l : Fin 64, q ⟨64 * c.val + l.val, by omega⟩ * k ⟨64 * c.val + l.val, by omega⟩

theorem sum_lo (k q : Fin 128 → ℝ) : ∑ l : Fin 128, k l * (if l.val < 64 then q l else 0) = SR q k 0 := by
  show ∑ l : Fin (64 + 64), _ = _
  rw [Fin.sum_univ_add]
  unfold SR
  have e2 : ∑ i : Fin 64, k (Fin.natAdd 64 i) * (if (Fin.natAdd 64 i).val < 64 then q (Fin.natAdd 64 i) else 0) = 0 :=
    Finset.sum_eq_zero fun i _ => by rw [if_neg (by show ¬ 64 + i.val < 64; omega), mul_zero]
  rw [e2, add_zero]
  refine Finset.sum_congr rfl fun l _ => ?_
  rw [if_pos (show (Fin.castAdd 64 l).val < 64 from l.isLt), mul_comm]
  have : (Fin.castAdd 64 l : Fin 128) = ⟨64 * (0 : Fin 2).val + l.val, by have := l.isLt; show 64 * 0 + l.val < 128; omega⟩ := Fin.ext (by show l.val = 64 * 0 + l.val; omega)
  rw [this]

theorem sum_hi (k q : Fin 128 → ℝ) : ∑ l : Fin 128, k l * (if l.val < 64 then 0 else q l) = SR q k 1 := by
  show ∑ l : Fin (64 + 64), _ = _
  rw [Fin.sum_univ_add]
  unfold SR
  have e2 : ∑ i : Fin 64, k (Fin.castAdd 64 i) * (if (Fin.castAdd 64 i).val < 64 then 0 else q (Fin.castAdd 64 i)) = 0 :=
    Finset.sum_eq_zero fun i _ => by rw [if_pos (show (Fin.castAdd 64 i).val < 64 from i.isLt), mul_zero]
  rw [e2, zero_add]
  refine Finset.sum_congr rfl fun l _ => ?_
  rw [if_neg (by show ¬ 64 + l.val < 64; omega), mul_comm]
  rfl

/-- A masked query row: the first half of the rows keeps the first half of the lanes, the second half the second. -/
def MQ (q : Fin 256 → Fin 128 → ℝ) (j : Fin 512) (d : Fin 128) : ℝ :=
  if h : j.val < 256 then (if d.val < 64 then q ⟨j.val, h⟩ d else 0) else (if d.val < 64 then 0 else q ⟨j.val - 256, by omega⟩ d)

theorem mq_lo (q : Fin 256 → Fin 128 → ℝ) (fk : Fin 128 → ℝ) (r : Fin 256) :
    ∑ l, fk l * MQ q ⟨r.val, by omega⟩ l = SR (q r) fk 0 := by
  rw [← sum_lo]
  refine Finset.sum_congr rfl fun l _ => ?_
  unfold MQ
  rw [dif_pos r.isLt]

theorem mq_hi (q : Fin 256 → Fin 128 → ℝ) (fk : Fin 128 → ℝ) (r : Fin 256) :
    ∑ l, fk l * MQ q ⟨256 + r.val, by omega⟩ l = SR (q r) fk 1 := by
  rw [← sum_hi]
  refine Finset.sum_congr rfl fun l _ => ?_
  unfold MQ
  rw [dif_neg (by show ¬ 256 + r.val < 256; omega)]
  have : (⟨(⟨256 + r.val, by omega⟩ : Fin 512).val - 256, by show 256 + r.val - 256 < 256; omega⟩ : Fin 256) = r := Fin.ext (by show 256 + r.val - 256 = r.val; omega)
  rw [this]

/-- The attention of one query row, normed: what both programs leave at an element. -/
def ATT (x0 : S4x64.Idx → EReal) (g : EReal) (q : Fin 128 → ℝ) (fk fv : Fin 4096 → Fin 128 → ℝ) (d : Fin 128) : EReal :=
  NRM (fun j => ((∑ k, fv k j * P (fun k => SR q (fk k) 0) k : ℝ) : EReal) - LAM x0 * ((∑ k, fv k j * P (fun k => SR q (fk k) 1) k : ℝ) : EReal)) g d

theorem fin_acq (x0 : Vec Ideal S4x64 .f32) (x1 : Vec Ideal S128x1 .f32) (x3 x4 : Vec Ideal S1x4096x128 .bf16) (qv : FVec Ideal S512x128 .bf16)
    (fk fv : Fin 4096 → Fin 128 → ℝ) (fq : Fin 256 → Fin 128 → ℝ) (h3 : ∀ k d, x3 (ix3 0 k d) = (fk k d : EReal))
    (h4 : ∀ k d, x4 (ix3 0 k d) = (fv k d : EReal)) (hq : ∀ j d, qv (ix2 j d) = (MQ fq j d : EReal)) (r : Fin 256) (d : Fin 128) :
    FIN x0 x1 (AC (MXB x3 qv) (SC x3 qv) (VT x4)) (ix3 0 r d) = ATT x0 (x1 (ix2 d 0)) (fq r) fk fv d := by
  have e := fun (j : Fin 512) (d : Fin 128) => acq_div x3 x4 qv fk fv (MQ fq) h3 h4 hq j d
  generalize AC (MXB x3 qv) (SC x3 qv) (VT x4) = A at e
  refine (fin_pay _ _ _ _ _ _).trans ?_
  unfold ATT
  refine congrArg (fun o => NRM o _ _) (funext fun j => ?_)
  have a1 : ∀ (i : Fin 512), View.ld A (Rect.unit (s := S144x512) ![0, 0] S128x512.size inb_S144x512_S128x512_0_0) (ix2 j i) = A (ix2 ⟨j.val, by omega⟩ i) :=
    fun i => congrArg A (Shape.idx_ext₂ (by show 0 + 1 * j.val = j.val; omega) (by show 0 + 1 * i.val = i.val; omega))
  have a2 : ∀ (i : Fin 512), View.ld A (Rect.unit (s := S144x512) ![128, 0] S1x512.size inb_S144x512_S1x512_128_0) (ix2 0 i) = A (ix2 ⟨128, by omega⟩ i) :=
    fun i => congrArg A (Shape.idx_ext₂ (by show 128 + 1 * 0 = 128; omega) (by show 0 + 1 * i.val = i.val; omega))
  rw [a1, a1, a2, a2, e, e]
  simp only [mq_lo, mq_hi]

/-- The block of results two finished accumulators give, at an element. -/
theorem outb_apply (x0 : Vec Ideal S4x64 .f32) (x1 : Vec Ideal S128x1 .f32) (b a : Vec Ideal S144x512 .f32) (r : Fin 512) (d : Fin 128) :
    OUTB x0 x1 b a (ix3 0 r d) = if h : r.val < 256 then FIN x0 x1 b (ix3 0 ⟨r.val, h⟩ d) else FIN x0 x1 a (ix3 0 ⟨r.val - 256, by omega⟩ d) := by
  have hr := r.isLt
  by_cases h : r.val < 256
  · rw [dif_pos h]
    unfold OUTB
    rw [View.canon_cons_of_not_mem]
    · have e : (ix3 0 r d : S1x512x128.Idx) = (Rect.unit (s := S1x512x128) ![0, 0, 0] S1x256x128.size inb_S1x512x128_S1x256x128_0_0_0).emb (ix3 0 ⟨r.val, h⟩ d) := by
        funext a
        match a with
        | ⟨0, _⟩ => rfl
        | ⟨1, _⟩ => exact Fin.ext (by show r.val = 0 + 1 * r.val; omega)
        | ⟨2, _⟩ => exact Fin.ext (by show d.val = 0 + 1 * d.val; omega)
      rw [e, View.canon_cons_emb]
    · intro hx
      have h1 : 256 ≤ r.val := ((Rect.mem_set_unit (inb := inb_S1x512x128_S1x256x128_0_256_0)).1 hx 1).1
      omega
  · rw [dif_neg h]
    have e : (ix3 0 r d : S1x512x128.Idx) = (Rect.unit (s := S1x512x128) ![0, 256, 0] S1x256x128.size inb_S1x512x128_S1x256x128_0_256_0).emb (ix3 0 ⟨r.val - 256, by omega⟩ d) := by
      funext a
      match a with
      | ⟨0, _⟩ => rfl
      | ⟨1, _⟩ => exact Fin.ext (by show r.val = 256 + 1 * (r.val - 256); omega)
      | ⟨2, _⟩ => exact Fin.ext (by show d.val = 0 + 1 * d.val; omega)
    unfold OUTB
    rw [e, View.canon_cons_emb]

/-- A point's block of results, at an element. -/
theorem outb_att (x0 : Vec Ideal S4x64 .f32) (x1 : Vec Ideal S128x1 .f32) (x2 : Vec Ideal S1x512x128 .bf16) (x3 x4 : Vec Ideal S1x4096x128 .bf16)
    (fk fv : Fin 4096 → Fin 128 → ℝ) (fq : Fin 512 → Fin 128 → ℝ) (h2 : ∀ r d, x2 (ix3 0 r d) = (fq r d : EReal))
    (h3 : ∀ k d, x3 (ix3 0 k d) = (fk k d : EReal)) (h4 : ∀ k d, x4 (ix3 0 k d) = (fv k d : EReal)) (r : Fin 512) (d : Fin 128) :
    OUTB x0 x1 (AC (MXB x3 (QLO x2)) (SC x3 (QLO x2)) (VT x4)) (AC (MXB x3 (QHI x2)) (SC x3 (QHI x2)) (VT x4)) (ix3 0 r d)
      = ATT x0 (x1 (ix2 d 0)) (fq r) fk fv d := by
  have hr := r.isLt
  rw [outb_apply]
  have cz : (0 : EReal) = ((0 : ℝ) : EReal) := EReal.coe_zero.symm
  by_cases h : r.val < 256
  · rw [dif_pos h]
    refine (fin_acq x0 x1 x3 x4 (QLO x2) fk fv (fun r d => fq ⟨r.val, by omega⟩ d) h3 h4 (fun j d => ?_) ⟨r.val, h⟩ d).trans rfl
    have hl : ∀ r : Fin 256, View.ld x2 (Rect.unit (s := S1x512x128) ![0, 0, 0] S1x256x128.size inb_S1x512x128_S1x256x128_0_0_0) (ix3 0 r d) = (fq ⟨r.val, by omega⟩ d : EReal) := by
      intro r
      rw [← h2]
      refine congrArg x2 (funext fun a => ?_)
      match a with
      | ⟨0, _⟩ => rfl
      | ⟨1, _⟩ => exact Fin.ext (by show 0 + 1 * r.val = r.val; omega)
      | ⟨2, _⟩ => exact Fin.ext (by show 0 + 1 * d.val = d.val; omega)
    rw [QLO, qlo_pay]
    unfold MQ
    split_ifs <;> first | exact hl _ | exact cz
  · rw [dif_neg h]
    refine (fin_acq x0 x1 x3 x4 (QHI x2) fk fv (fun r d => fq ⟨256 + r.val, by omega⟩ d) h3 h4 (fun j d => ?_) ⟨r.val - 256, by omega⟩ d).trans ?_
    · have hl : ∀ r : Fin 256, View.ld x2 (Rect.unit (s := S1x512x128) ![0, 256, 0] S1x256x128.size inb_S1x512x128_S1x256x128_0_256_0) (ix3 0 r d) = (fq ⟨256 + r.val, by omega⟩ d : EReal) := by
        intro r
        rw [← h2]
        refine congrArg x2 (funext fun a => ?_)
        match a with
        | ⟨0, _⟩ => rfl
        | ⟨1, _⟩ => exact Fin.ext (by show 256 + 1 * r.val = 256 + r.val; omega)
        | ⟨2, _⟩ => exact Fin.ext (by show 0 + 1 * d.val = d.val; omega)
      rw [QHI, qhi_pay]
      unfold MQ
      split_ifs <;> first | exact hl _ | exact cz
    · have : (⟨256 + (⟨r.val - 256, by omega⟩ : Fin 256).val, by show 256 + (r.val - 256) < 512; omega⟩ : Fin 512) = r :=
        Fin.ext (by show 256 + (r.val - 256) = r.val; omega)
      simp only [this]

end Cert.Attn

end
-- ==== Proof.Attn.Ref.lean ====
/- The reference's result at an element: the same attention of one query row, normed. -/
module

public import proofs.«01_k».proof.Proof.Attn.Finish
public import proofs.«01_k».proof.Proof.Gen.ReferenceIdeal.Read
public import Idealize.ShloMosaic.Lib.KernelVsHost

@[expose] public section

set_option maxRecDepth 16384

noncomputable section

namespace Cert.Attn

open Cert.ReferenceIdeal Cert.ReferenceIdeal.Gen Cert.ReferenceIdeal.Read Idealize.ShloMosaic

/-- A head's row of 128 lanes. -/
def row (f : S8x4096x1024.Idx → ℝ) (b h : Fin 8) (q : Fin 4096) (l : Fin 128) : ℝ :=
  f (ix3 b q ⟨h.val * 128 + l.val, by omega⟩)

theorem two32 : Ideal.ofBits .f32 0x40000000#32 = ((2 : ℝ) : EReal) := by
  have e1 : (1073741824 >>> 23 : ℕ) % 256 = 128 := by decide
  have e2 : ¬BitVec.extractLsb' 31 1 1073741824#32 = 1#1 := by decide
  norm_num [Ideal.ofBits, Ideal.ieee, e1, e2]
theorem eight32 : Ideal.ofBits .f32 0x41000000#32 = ((8 : ℝ) : EReal) := by
  have e1 : (1090519040 >>> 23 : ℕ) % 256 = 130 := by decide
  have e2 : ¬BitVec.extractLsb' 31 1 1090519040#32 = 1#1 := by decide
  norm_num [Ideal.ofBits, Ideal.ieee, e1, e2]
theorem eighth32 : Ideal.ofBits .f32 0x3E000000#32 = ((1 / 8 : ℝ) : EReal) := by
  have e1 : (1040187392 >>> 23 : ℕ) % 256 = 124 := by decide
  have e2 : ¬BitVec.extractLsb' 31 1 1040187392#32 = 1#1 := by decide
  norm_num [Ideal.ofBits, Ideal.ieee, e1, e2]
theorem fifth32 : ∃ r : ℝ, Ideal.ofBits .f32 0x3E4CCCCD#32 = r := by
  unfold Ideal.ofBits
  dsimp only [Ideal.ieee]
  rw [if_neg (by decide), if_neg (by decide)]
  exact ⟨_, rfl⟩

theorem ref_scale (i : S8x4096x1024.Idx) : val_main_v3 (F := Ideal) i = ((8 * Real.log 2 : ℝ) : EReal) := by
  rw [val_main_v3_apply, val_main_v2_apply, val_main_v1_apply, val_main_cst_0_apply, val_main_cst_apply]
  show Ideal.ofBits .f32 0x41000000#32 * Ideal.log (Ideal.ofBits .f32 0x40000000#32) = _
  rw [two32, eight32, Ideal.log_coe, if_neg (by norm_num), EReal.coe_mul]

section
variable (x0 : S4x64.Idx → EReal) (x1 : S128x1.Idx → EReal) (x2 x3 x4 : S8x4096x1024.Idx → EReal) (fl : S4x64.Idx → ℝ)
  (fq fk fv : S8x4096x1024.Idx → ℝ)
  (h0 : ∀ i, x0 i = fl i) (h2 : ∀ i, x2 i = fq i) (h3 : ∀ i, x3 i = fk i) (h4 : ∀ i, x4 i = fv i)
include h0 h2 h3 h4

omit h0 h3 h4 in
theorem ref_q (b h : Fin 8) (q : Fin 4096) (c : Fin 2) (l : Fin 64) :
    val_main_v5 (F := Ideal) x2 (ix5 b q h c l) = ((row fq b h q ⟨64 * c.val + l.val, by omega⟩ * (8 * Real.log 2) : ℝ) : EReal) := by
  rw [val_main_v5_apply, val_main_v4_apply, val_main_v0_apply, ref_scale]
  show x2 _ * _ = _
  rw [h2, ← EReal.coe_mul]
  congr 2
  refine congrArg fq (funext fun a => Fin.ext ?_)
  match a with
  | ⟨0, _⟩ => show ((((b.val * 4096 + q.val) * 8 + h.val) * 2 + c.val) * 64 + l.val) / 4194304 = b.val; omega
  | ⟨1, _⟩ => show ((((b.val * 4096 + q.val) * 8 + h.val) * 2 + c.val) * 64 + l.val) / 1024 % 4096 = q.val; omega
  | ⟨2, _⟩ => show ((((b.val * 4096 + q.val) * 8 + h.val) * 2 + c.val) * 64 + l.val) % 1024 = h.val * 128 + (64 * c.val + l.val); omega

omit h0 h2 h4 in
theorem ref_k (b h : Fin 8) (q : Fin 4096) (c : Fin 2) (l : Fin 64) :
    val_main_v7 (F := Ideal) x3 (ix5 b q h c l) = ((row fk b h q ⟨64 * c.val + l.val, by omega⟩ : ℝ) : EReal) := by
  rw [val_main_v7_apply]
  show x3 _ = _
  rw [h3]
  congr 1
  refine congrArg fk (funext fun a => Fin.ext ?_)
  match a with
  | ⟨0, _⟩ => show ((((b.val * 4096 + q.val) * 8 + h.val) * 2 + c.val) * 64 + l.val) / 4194304 = b.val; omega
  | ⟨1, _⟩ => show ((((b.val * 4096 + q.val) * 8 + h.val) * 2 + c.val) * 64 + l.val) / 1024 % 4096 = q.val; omega
  | ⟨2, _⟩ => show ((((b.val * 4096 + q.val) * 8 + h.val) * 2 + c.val) * 64 + l.val) % 1024 = h.val * 128 + (64 * c.val + l.val); omega

omit h0 h2 h3 in
theorem ref_v (b h : Fin 8) (k : Fin 4096) (d : Fin 128) :
    val_main_v9 (F := Ideal) x4 (ix4 b k h d) = ((row fv b h k d : ℝ) : EReal) := by
  rw [val_main_v9_apply]
  show x4 _ = _
  rw [h4]
  congr 1
  refine congrArg fv (funext fun a => Fin.ext ?_)
  match a with
  | ⟨0, _⟩ => show (((b.val * 4096 + k.val) * 8 + h.val) * 128 + d.val) / 4194304 = b.val; omega
  | ⟨1, _⟩ => show (((b.val * 4096 + k.val) * 8 + h.val) * 128 + d.val) / 1024 % 4096 = k.val; omega
  | ⟨2, _⟩ => show (((b.val * 4096 + k.val) * 8 + h.val) * 128 + d.val) % 1024 = h.val * 128 + d.val; omega

omit h0 h4 in
/-- A score: the query's factor `8 · log 2` and the scores' `1 / 8` leave `log 2`. -/
theorem ref_score (b h : Fin 8) (c : Fin 2) (q k : Fin 4096) :
    val_main_v28 (F := Ideal) x2 x3 (ix5 b h c q k) = ((SR (row fq b h q) (row fk b h k) c * Real.log 2 : ℝ) : EReal) := by
  rw [val_main_v28_apply, val_main_v26_apply, val_main_v27_apply, val_main_cst_4_apply]
  show (∑ l : Fin 64, val_main_v5 (F := Ideal) x2 _ * val_main_v7 (F := Ideal) x3 _) * Ideal.ofBits .f32 0x3E000000#32 = _
  have e : ∀ l : Fin 64, val_main_v5 (F := Ideal) x2 (lidx_main_v26 (ix5 b h c q k) l) * val_main_v7 (F := Ideal) x3 (ridx_main_v26 (ix5 b h c q k) l)
      = ((row fq b h q ⟨64 * c.val + l.val, by omega⟩ * row fk b h k ⟨64 * c.val + l.val, by omega⟩ * (8 * Real.log 2) : ℝ) : EReal) := by
    intro l
    have e1 : lidx_main_v26 (ix5 b h c q k) l = ix5 b q h c l := funext fun a => match a with
      | ⟨0, _⟩ => rfl | ⟨1, _⟩ => rfl | ⟨2, _⟩ => rfl | ⟨3, _⟩ => rfl | ⟨4, _⟩ => rfl
    have e2 : ridx_main_v26 (ix5 b h c q k) l = ix5 b k h c l := funext fun a => match a with
      | ⟨0, _⟩ => rfl | ⟨1, _⟩ => rfl | ⟨2, _⟩ => rfl | ⟨3, _⟩ => rfl | ⟨4, _⟩ => rfl
    rw [e1, e2, ref_q x2 fq h2, ref_k x3 fk h3, ← EReal.coe_mul]
    congr 1
    ring
  rw [Finset.sum_congr rfl fun l _ => e l, ← coe_sum, eighth32, ← EReal.coe_mul]
  congr 1
  unfold SR
  rw [← Finset.sum_mul]
  ring

omit h0 h4 in
/-- The reference's maximum of a query row's scores is real. -/
theorem ref_max (b h : Fin 8) (c : Fin 2) (q : Fin 4096) : ∃ m : ℝ, val_main_v31 (F := Ideal) x2 x3 (ix4 b h c q) = m := by
  have hR : S8x8x2x4096x4096.Reduces [4] S8x8x2x4096 := by decide
  have e : val_main_v29 (F := Ideal) x2 x3 = multiReduction (F := Ideal) (φ := .f32) .maximumf [4] S8x8x2x4096 (val_main_v28 (F := Ideal) x2 x3) 0xFF800000#32
      hR (.inl rfl) rfl :=
    hostReduce_maximumf_eq_multiReduction (F := Ideal) (φ := .f32) _ _ _ _ hR _ _
  rw [val_main_v31_apply, val_main_v30_apply, val_main_cst_6_apply, e]
  rw [Ideal.multiReduction_maximumf_single (φ := .f32) (s := S8x8x2x4096x4096) (t := S8x8x2x4096) (val_main_v28 (F := Ideal) x2 x3) 0xFF800000#32 hR (.inl rfl) rfl]
  show ∃ m : ℝ, max (Ideal.ofBits .f32 0xFF800000#32) (Finset.univ.fold max (Ideal.ofBits .f32 0xFF800000#32) _) = (m : EReal)
  rw [ninf, max_eq_right bot_le]
  refine fold_max_real (by show 0 < 4096; omega) _ fun k => ?_
  have ek := ref_score x2 x3 fq fk h2 h3 b h c q k
  refine ⟨_, Eq.trans (congrArg (val_main_v28 (F := Ideal) x2 x3) (funext fun a => ?_)) ek⟩
  match a with
  | ⟨0, _⟩ => rfl
  | ⟨1, _⟩ => rfl
  | ⟨2, _⟩ => rfl
  | ⟨3, _⟩ => rfl
  | ⟨4, _⟩ => rfl

omit h0 h4 in
/-- A softmax weight of the reference. -/
theorem ref_p (b h : Fin 8) (c : Fin 2) (q k : Fin 4096) :
    val_main_v39 (F := Ideal) x2 x3 (ix5 b h c q k) = ((P (fun k => SR (row fq b h q) (row fk b h k) c) k : ℝ) : EReal) := by
  obtain ⟨m, hm⟩ := ref_max x2 x3 fq fk h2 h3 b h c q
  have e35 : ∀ k, val_main_v35 (F := Ideal) x2 x3 (ix5 b h c q k) = Ideal.exp (((SR (row fq b h q) (row fk b h k) c * Real.log 2 : ℝ) : EReal) - (m : EReal)) := by
    intro k
    rw [val_main_v35_apply, val_main_v34_apply, ref_score x2 x3 fq fk h2 h3, val_main_v33_apply, val_main_v32_apply]
    have ei : idx_main_v32 (idx_main_v33 (ix5 b h c q k)) = ix4 b h c q := funext fun a => match a with
      | ⟨0, _⟩ => rfl | ⟨1, _⟩ => rfl | ⟨2, _⟩ => rfl | ⟨3, _⟩ => rfl
    rw [ei, hm]
    rfl
  rw [val_main_v39_apply, val_main_v38_apply, val_main_v37_apply, val_main_v36_apply, val_main_cst_7_apply, e35]
  have es : ∀ j : Fin 4096, val_main_v35 (F := Ideal) x2 x3 (idx_main_v36 (idx_main_v37 (idx_main_v38 (ix5 b h c q k))) j)
      = Ideal.exp (((SR (row fq b h q) (row fk b h j) c * Real.log 2 : ℝ) : EReal) - (m : EReal)) := by
    intro j
    rw [← e35 j]
    exact congrArg _ (funext fun a => match a with
      | ⟨0, _⟩ => rfl | ⟨1, _⟩ => rfl | ⟨2, _⟩ => rfl | ⟨3, _⟩ => rfl | ⟨4, _⟩ => rfl)
  rw [Finset.sum_congr rfl fun j _ => es j]
  show Ideal.div _ (Ideal.ofBits .f32 0x00000000#32 + _) = _
  rw [Ideal.ofBits_zero_f32, zero_add]
  exact softe (by omega) (fun k => SR (row fq b h q) (row fk b h k) c) m k

omit h2 h3 h4 h0 in
/-- The reference's weight of the second map is the kernel's. -/
theorem ref_lam (i : S_.Idx) : val_main_v25 (F := Ideal) x0 i = LAM x0 := by
  unfold LAM
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_cst_1, val_main_cst_2, val_main_cst_3]
  rfl

omit h2 h3 h4 in
theorem lam_real : ∃ r : ℝ, LAM x0 = r := by
  obtain ⟨f, hf⟩ := fifth32
  obtain ⟨a, ha⟩ := sum_mul_real (fun j : Fin 64 => x0 (ValueIdx.ix2 0 j)) (fun j : Fin 64 => x0 (ValueIdx.ix2 1 j)) (fun _ => ⟨_, h0 _⟩) (fun _ => ⟨_, h0 _⟩)
  obtain ⟨b, hb⟩ := sum_mul_real (fun j : Fin 64 => x0 (ValueIdx.ix2 2 j)) (fun j : Fin 64 => x0 (ValueIdx.ix2 3 j)) (fun _ => ⟨_, h0 _⟩) (fun _ => ⟨_, h0 _⟩)
  refine ⟨Real.exp a - Real.exp b + f, ?_⟩
  unfold LAM
  rw [ha, hb, hf, Ideal.exp_coe, Ideal.exp_coe, EReal.coe_add, EReal.coe_sub]

/-- The weighted values of the reference. -/
theorem ref_o (b h : Fin 8) (q : Fin 4096) (d : Fin 128) :
    val_main_v48 (F := Ideal) x0 x2 x3 x4 (ix4 b q h d)
      = ((∑ k, row fv b h k d * P (fun k => SR (row fq b h q) (row fk b h k) 0) k : ℝ) : EReal)
        - LAM x0 * ((∑ k, row fv b h k d * P (fun k => SR (row fq b h q) (row fk b h k) 1) k : ℝ) : EReal) := by
  obtain ⟨r, hr⟩ := lam_real x0 fl h0
  rw [val_main_v48_apply, val_main_v47_apply]
  have e : ∀ k : Fin 4096, val_main_v9 (F := Ideal) x4 (lidx_main_v47 (idx_main_v48 (ix4 b q h d)) k) * val_main_v46 (F := Ideal) x0 x2 x3 (ridx_main_v47 (idx_main_v48 (ix4 b q h d)) k)
      = ((row fv b h k d * P (fun k => SR (row fq b h q) (row fk b h k) 0) k - r * (row fv b h k d * P (fun k => SR (row fq b h q) (row fk b h k) 1) k) : ℝ) : EReal) := by
    intro k
    have e1 : lidx_main_v47 (idx_main_v48 (ix4 b q h d)) k = ix4 b k h d := funext fun a => match a with
      | ⟨0, _⟩ => rfl | ⟨1, _⟩ => rfl | ⟨2, _⟩ => rfl | ⟨3, _⟩ => rfl
    have e2 : ridx_main_v47 (idx_main_v48 (ix4 b q h d)) k = ix4 b h q k := funext fun a => match a with
      | ⟨0, _⟩ => rfl | ⟨1, _⟩ => rfl | ⟨2, _⟩ => rfl | ⟨3, _⟩ => rfl
    rw [e1, e2, ref_v x4 fv h4, val_main_v46_apply, val_main_v45_apply, val_main_v44_apply, ref_lam, val_main_v41_apply, val_main_v40_apply,
      val_main_v43_apply, val_main_v42_apply]
    have e3 : idx_main_v40 (idx_main_v41 (ix4 b h q k)) = ix5 b h 0 q k := by
      refine funext fun a => Fin.ext ?_
      match a with
      | ⟨0, _⟩ => show (((b.val * 8 + h.val) * 4096 + q.val) * 4096 + k.val) / 134217728 = b.val; omega
      | ⟨1, _⟩ => show (((b.val * 8 + h.val) * 4096 + q.val) * 4096 + k.val) / 16777216 % 8 = h.val; omega
      | ⟨2, _⟩ => rfl
      | ⟨3, _⟩ => show (((b.val * 8 + h.val) * 4096 + q.val) * 4096 + k.val) / 4096 % 4096 = q.val; omega
      | ⟨4, _⟩ => show (((b.val * 8 + h.val) * 4096 + q.val) * 4096 + k.val) % 4096 = k.val; omega
    have e4 : idx_main_v42 (idx_main_v43 (ix4 b h q k)) = ix5 b h 1 q k := by
      refine funext fun a => Fin.ext ?_
      match a with
      | ⟨0, _⟩ => show (((b.val * 8 + h.val) * 4096 + q.val) * 4096 + k.val) / 134217728 = b.val; omega
      | ⟨1, _⟩ => show (((b.val * 8 + h.val) * 4096 + q.val) * 4096 + k.val) / 16777216 % 8 = h.val; omega
      | ⟨2, _⟩ => rfl
      | ⟨3, _⟩ => show (((b.val * 8 + h.val) * 4096 + q.val) * 4096 + k.val) / 4096 % 4096 = q.val; omega
      | ⟨4, _⟩ => show (((b.val * 8 + h.val) * 4096 + q.val) * 4096 + k.val) % 4096 = k.val; omega
    rw [e3, e4, ref_p x2 x3 fq fk h2 h3, ref_p x2 x3 fq fk h2 h3, hr]
    show (_ : EReal) * ((_ : EReal) - (r : EReal) * _) = _
    rw [← EReal.coe_mul, ← EReal.coe_sub, ← EReal.coe_mul]
    congr 1
    ring
  rw [Finset.sum_congr rfl fun k _ => e k, ← coe_sum, hr, ← EReal.coe_mul, ← EReal.coe_sub, Finset.sum_sub_distrib, ← Finset.mul_sum]

/-- The reference's result at an element. -/
theorem ref_att (b h : Fin 8) (q : Fin 4096) (d : Fin 128) :
    val_main_v66 (F := Ideal) x0 x1 x2 x3 x4 (ix3 b q ⟨h.val * 128 + d.val, by omega⟩)
      = ATT x0 (x1 (ix2 d 0)) (row fq b h q) (row fk b h) (row fv b h) d := by
  have ho := fun d => ref_o x0 x2 x3 x4 fl fq fk fv h0 h2 h3 h4 b h q d
  rw [val_main_v66_apply, val_main_v65_apply]
  have e : idx_main_v65 (ix3 b q ⟨h.val * 128 + d.val, by omega⟩) = ix4 b q h d := by
    refine funext fun a => Fin.ext ?_
    match a with
    | ⟨0, _⟩ => show ((b.val * 4096 + q.val) * 1024 + (h.val * 128 + d.val)) / 4194304 = b.val; omega
    | ⟨1, _⟩ => show ((b.val * 4096 + q.val) * 1024 + (h.val * 128 + d.val)) / 1024 % 4096 = q.val; omega
    | ⟨2, _⟩ => show ((b.val * 4096 + q.val) * 1024 + (h.val * 128 + d.val)) / 128 % 8 = h.val; omega
    | ⟨3, _⟩ => show ((b.val * 4096 + q.val) * 1024 + (h.val * 128 + d.val)) % 128 = d.val; omega
  rw [e, val_main_v64_apply, val_main_v62_apply, val_main_v59_apply, val_main_v63_apply, val_main_v61_apply, val_main_v60_apply, val_main_v49_apply,
    val_main_v58_apply, val_main_v57_apply, val_main_v56_apply, val_main_v54_apply, val_main_v55_apply, val_main_v53_apply, val_main_v52_apply,
    val_main_v51_apply, val_main_cst_8_apply, val_main_cst_9_apply, val_main_cst_10_apply, val_main_cst_11_apply, ho]
  have es : ∀ j : Fin 128, val_main_v50 (F := Ideal) x0 x2 x3 x4 (idx_main_v51 (idx_main_v52 (idx_main_v58 (ix4 b q h d))) j)
      = val_main_v48 (F := Ideal) x0 x2 x3 x4 (ix4 b q h j) * val_main_v48 (F := Ideal) x0 x2 x3 x4 (ix4 b q h j) := by
    intro j
    rw [val_main_v50_apply]
    have e1 : idx_main_v51 (idx_main_v52 (idx_main_v58 (ix4 b q h d))) j = ix4 b q h j := funext fun a => match a with
      | ⟨0, _⟩ => rfl | ⟨1, _⟩ => rfl | ⟨2, _⟩ => rfl | ⟨3, _⟩ => rfl
    rw [e1]
    rfl
  rw [Finset.sum_congr rfl fun j _ => es j]
  have eg : idx_main_v49 (idx_main_v60 (idx_main_v61 (ix4 b q h d))) = ix2 d 0 := by
    refine funext fun a => Fin.ext ?_
    match a with
    | ⟨0, _⟩ => show d.val / 1 = d.val; omega
    | ⟨1, _⟩ => rfl
  rw [eg]
  simp only [ho]
  unfold ATT NRM
  show _ * Ideal.rsqrt (Ideal.div (Ideal.ofBits .f32 0x00000000#32 + _) _ + _) * _ * _ = _
  rw [Ideal.ofBits_zero_f32, zero_add]
  rfl

end

end Cert.Attn

end
-- ==== Proof.Attn.Equal.lean ====
/- Under the precondition the launch leaves what the reference's result reads. -/
module

public import proofs.«01_k».proof.Defs
public import proofs.«01_k».proof.Proof.Gen.Pre_finite_inputs
public import proofs.«01_k».proof.Proof.Attn.Grid
public import proofs.«01_k».proof.Proof.Attn.Ref
public import Idealize.ShloMosaic.Lib.ReduceAll

@[expose] public section

set_option maxRecDepth 16384

noncomputable section

namespace Cert.Attn

open Cert.KernelIdeal Cert.KernelIdeal.Gen Cert.KernelIdeal.Value Idealize.ShloMosaic
open Idealize.ShloMosaic.TcCoe Idealize.ShloMosaic.Tactic Idealize.SL.Sem

/-- A value whose magnitude is below infinity is real. -/
theorem real_of_abs {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have h : max x (-x) < ⊤ := by
    by_contra hn
    unfold Ideal.cmp at h
    simp [hn] at h
  rw [max_lt_iff] at h
  refine ⟨x.toReal, (EReal.coe_toReal h.1.ne fun e => ?_).symm⟩
  rw [e, EReal.neg_bot] at h
  exact absurd h.2 (lt_irrefl _)

variable (m : (ℓ : Loc nD τ sig) → Buf (Elt Ideal) ℓ)

/-- What the precondition's four conjuncts say of the arrays they read. -/
theorem fn_real (x0 : FVec Ideal S4x64 .f32) (x1 : FVec Ideal S128x1 .f32) (x2 x3 x4 : FVec Ideal S8x4096x1024 .bf16)
    (p0 : (Cert.Pre_finite_inputs.fn (F := Ideal) x0 x1 x2 x3 x4).1 = fun _ => 1#1)
    (p2 : (Cert.Pre_finite_inputs.fn (F := Ideal) x0 x1 x2 x3 x4).2.1 = fun _ => 1#1)
    (p3 : (Cert.Pre_finite_inputs.fn (F := Ideal) x0 x1 x2 x3 x4).2.2.1 = fun _ => 1#1)
    (p4 : (Cert.Pre_finite_inputs.fn (F := Ideal) x0 x1 x2 x3 x4).2.2.2 = fun _ => 1#1) :
    (∀ i, ∃ r : ℝ, (x0 i : EReal) = (r : EReal)) ∧ (∀ i, ∃ r : ℝ, (x2 i : EReal) = (r : EReal))
    ∧ (∀ i, ∃ r : ℝ, (x3 i : EReal) = (r : EReal)) ∧ (∀ i, ∃ r : ℝ, (x4 i : EReal) = (r : EReal)) := by
  haveI : Subsingleton Cert.Pre_finite_inputs.S_.Idx := ⟨fun a b => funext fun i => i.elim0⟩
  have j : Cert.Pre_finite_inputs.S_.Idx := fun a => a.elim0
  simp only [Cert.Pre_finite_inputs.fn, Cert.Pre_finite_inputs.fn_part1] at p0 p2 p3 p4
  exact ⟨fun i => real_of_abs (Host.reduce_andi_all _ _ _ _ j (congrFun p0 j) i),
    fun i => real_of_abs (Host.reduce_andi_all _ _ _ _ j (congrFun p2 j) i),
    fun i => real_of_abs (Host.reduce_andi_all _ _ _ _ j (congrFun p3 j) i),
    fun i => real_of_abs (Host.reduce_andi_all _ _ _ _ j (congrFun p4 j) i)⟩

theorem pre_real (h : Cert.Pre_KernelIdeal_finite_inputs m) (c : Dev nD) :
    (∀ i : S4x64.Idx, ∃ r : ℝ, (m ((c : Thread nD τ).loc main_arg0) i : EReal) = (r : EReal))
    ∧ (∀ i : S8x4096x1024.Idx, ∃ r : ℝ, (m ((c : Thread nD τ).loc main_arg2) i : EReal) = (r : EReal))
    ∧ (∀ i : S8x4096x1024.Idx, ∃ r : ℝ, (m ((c : Thread nD τ).loc main_arg3) i : EReal) = (r : EReal))
    ∧ (∀ i : S8x4096x1024.Idx, ∃ r : ℝ, (m ((c : Thread nD τ).loc main_arg4) i : EReal) = (r : EReal)) :=
  fn_real _ _ _ _ _ (h c).1 (h c).2.1 (h c).2.2.1 (h c).2.2.2

/-- The launch's array is the reference's result of the same arguments. -/
theorem launch_ref (h : Cert.Pre_KernelIdeal_finite_inputs m) (c : Dev nD) :
    (dats m 0 c).arrAt 5 cfg0.N = Cert.ReferenceIdeal.Read.val_main_v66 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  obtain ⟨hl, hq, hk, hv⟩ := pre_real m h c
  choose fl hl using hl
  choose fq hq using hq
  choose fk hk using hk
  choose fv hv using hv
  refine launch_eq m c _ fun p hp y i hp5 h0 h1 h2 => ?_
  have hy0 : (y 0).val < 1 := (y 0).isLt
  have hy1 : (y 1).val < 512 := (y 1).isLt
  have hy2 : (y 2).val < 128 := (y 2).isLt
  have hpm : min p 511 = p := by omega
  have hb : p / 64 < 8 := by omega
  have hh : p / 8 % 8 < 8 := by omega
  have e2 : ∀ (r : Fin 512) (d : Fin 128), QB m c ⟨p, Nat.lt_of_succ_lt hp⟩ (ix3 0 r d)
      = ((row fq ⟨p / 64, hb⟩ ⟨p / 8 % 8, hh⟩ ⟨p % 8 * 512 + r.val, by omega⟩ d : ℝ) : EReal) := fun r d =>
    (QB_apply m c ⟨p, Nat.lt_of_succ_lt hp⟩ (ix3 0 r d)
      (ix3 ⟨p / 64, hb⟩ ⟨p % 8 * 512 + r.val, by omega⟩ ⟨p / 8 % 8 * 128 + d.val, by omega⟩)
      (by show p / 64 = min p 511 / 64; rw [hpm]) (by show p % 8 * 512 + r.val = min p 511 % 8 * 512 + r.val; rw [hpm])
      (by show p / 8 % 8 * 128 + d.val = min p 511 / 8 % 8 * 128 + d.val; rw [hpm])).trans (hq _)
  have e3 : ∀ (k : Fin 4096) (d : Fin 128), KB m c ⟨p, Nat.lt_of_succ_lt hp⟩ (ix3 0 k d)
      = ((row fk ⟨p / 64, hb⟩ ⟨p / 8 % 8, hh⟩ k d : ℝ) : EReal) := fun k d =>
    (KB_apply m c ⟨p, Nat.lt_of_succ_lt hp⟩ (ix3 0 k d)
      (ix3 ⟨p / 64, hb⟩ k ⟨p / 8 % 8 * 128 + d.val, by omega⟩)
      (by show p / 64 = min p 511 / 64; rw [hpm]) rfl
      (by show p / 8 % 8 * 128 + d.val = min p 511 / 8 % 8 * 128 + d.val; rw [hpm])).trans (hk _)
  have e4 : ∀ (k : Fin 4096) (d : Fin 128), VB m c ⟨p, Nat.lt_of_succ_lt hp⟩ (ix3 0 k d)
      = ((row fv ⟨p / 64, hb⟩ ⟨p / 8 % 8, hh⟩ k d : ℝ) : EReal) := fun k d =>
    (VB_apply m c ⟨p, Nat.lt_of_succ_lt hp⟩ (ix3 0 k d)
      (ix3 ⟨p / 64, hb⟩ k ⟨p / 8 % 8 * 128 + d.val, by omega⟩)
      (by show p / 64 = min p 511 / 64; rw [hpm]) rfl
      (by show p / 8 % 8 * 128 + d.val = min p 511 / 8 % 8 * 128 + d.val; rw [hpm])).trans (hv _)
  have ey : y = ix3 0 ⟨(y 1).val, hy1⟩ ⟨(y 2).val, hy2⟩ := by
    refine funext fun a => Fin.ext ?_
    match a with
    | ⟨0, _⟩ => show (y 0).val = 0; omega
    | ⟨1, _⟩ => rfl
    | ⟨2, _⟩ => rfl
  have ei : i = ix3 ⟨p / 64, hb⟩ ⟨p % 8 * 512 + (y 1).val, by omega⟩ ⟨p / 8 % 8 * 128 + (y 2).val, by omega⟩ := by
    refine funext fun a => Fin.ext ?_
    match a with
    | ⟨0, _⟩ => exact h0
    | ⟨1, _⟩ => exact h1
    | ⟨2, _⟩ => exact h2
  have k1 := outb_att (m ((c : Thread nD τ).loc main_arg0)) (m ((c : Thread nD τ).loc main_arg1)) (QB m c ⟨p, Nat.lt_of_succ_lt hp⟩)
    (KB m c ⟨p, Nat.lt_of_succ_lt hp⟩) (VB m c ⟨p, Nat.lt_of_succ_lt hp⟩) _ _ _ e2 e3 e4 ⟨(y 1).val, hy1⟩ ⟨(y 2).val, hy2⟩
  have k2 := ref_att (m ((c : Thread nD τ).loc main_arg0)) (m ((c : Thread nD τ).loc main_arg1)) (m ((c : Thread nD τ).loc main_arg2))
    (m ((c : Thread nD τ).loc main_arg3)) (m ((c : Thread nD τ).loc main_arg4)) fl fq fk fv hl hq hk hv ⟨p / 64, hb⟩ ⟨p / 8 % 8, hh⟩
    ⟨p % 8 * 512 + (y 1).val, by omega⟩ ⟨(y 2).val, hy2⟩
  exact ((congrArg (OUTB _ _ _ _) ey).trans k1).trans (k2.symm.trans (congrArg _ ei.symm))

end Cert.Attn

end
-- ==== Proof.Tail.Grid.lean ====
/- The tail's launch: every block of its result is the tail of the block's tokens. -/
module

public import proofs.«01_k».proof.Proof.Tail.Spec
public import proofs.«01_k».proof.Proof.Gen.TailIdeal.Value
public import Idealize.ShloMosaic.Lib.Pipeline.ValueKit

@[expose] public section

set_option maxRecDepth 16384

noncomputable section

namespace Cert.Post

open Cert.TailIdeal Cert.TailIdeal.Gen Idealize.ShloMosaic
open Idealize.ShloMosaic.TcCoe Idealize.ShloMosaic.Tactic Idealize.SL.Sem

/-- The residual stream of token `n` between the two sub-layers, from the whole arrays. -/
def MID (x0 : S32768x1024.Idx → EReal) (x1 : S8x1x6144.Idx → EReal) (x2 : S32768x1024.Idx → EReal) (x3 : S32768x256.Idx → EReal)
    (x4 : S32768x2048.Idx → EReal) (x5 : S1024x1024.Idx → EReal) (x6 : S256x1024.Idx → EReal) (x7 : S1024x1024.Idx → EReal)
    (n : Fin 32768) : Fin 1024 → EReal :=
  X1 (fun j => x0 (ix2 n j)) (fun j => x1 (ix3 ⟨n.val / 4096, by omega⟩ 0 ⟨2048 + j.val, by omega⟩)) (fun l => x2 (ix2 n l)) (fun l => x3 (ix2 n l))
    (fun k => x4 (ix2 n ⟨k.val, by omega⟩)) (fun k => x4 (ix2 n ⟨1024 + k.val, by omega⟩))
    (fun l k => x5 (ix2 l k)) (fun l k => x6 (ix2 l k)) (fun k j => x7 (ix2 k j))

/-- The normed token `n` that the MLP reads. -/
def MHN (mid : Fin 1024 → EReal) (x1 : S8x1x6144.Idx → EReal) (x8 : S1x1024.Idx → EReal) (n : Fin 32768) : Fin 1024 → EReal :=
  HN mid (RS mid) (fun k => x8 (ix2 0 k)) (fun k => x1 (ix3 ⟨n.val / 4096, by omega⟩ 0 ⟨4096 + k.val, by omega⟩))
    (fun k => x1 (ix3 ⟨n.val / 4096, by omega⟩ 0 ⟨3072 + k.val, by omega⟩))

/-- The layer's result at token `n`. -/
def TAIL (x0 : S32768x1024.Idx → EReal) (x1 : S8x1x6144.Idx → EReal) (x2 : S32768x1024.Idx → EReal) (x3 : S32768x256.Idx → EReal)
    (x4 : S32768x2048.Idx → EReal) (x5 : S1024x1024.Idx → EReal) (x6 : S256x1024.Idx → EReal) (x7 : S1024x1024.Idx → EReal)
    (x8 : S1x1024.Idx → EReal) (x9 : S1024x4096.Idx → EReal) (x10 : S4096x1024.Idx → EReal) (n : Fin 32768) (j : Fin 1024) : EReal :=
  FF (MID x0 x1 x2 x3 x4 x5 x6 x7 n) (MHN (MID x0 x1 x2 x3 x4 x5 x6 x7 n) x1 x8 n)
    (fun k => x1 (ix3 ⟨n.val / 4096, by omega⟩ 0 ⟨5120 + k.val, by omega⟩)) (fun k f => x9 (ix2 k f)) (fun f j => x10 (ix2 f j)) j

theorem ld_gate_a (x : Vec Ideal S512x2048 .bf16) (r : Fin 512) (k : Fin 1024) :
    View.ld x r0_4 (ix2 r k) = x (ix2 r ⟨k.val, by omega⟩) := by
  refine congrArg x (funext fun a => Fin.ext ?_)
  match a with
  | ⟨0, _⟩ => show 0 + 1 * r.val = r.val; omega
  | ⟨1, _⟩ => show 0 + 1 * k.val = k.val; omega
theorem ld_gate_b (x : Vec Ideal S512x2048 .bf16) (r : Fin 512) (k : Fin 1024) :
    View.ld x r0_5 (ix2 r k) = x (ix2 r ⟨1024 + k.val, by omega⟩) := by
  refine congrArg x (funext fun a => Fin.ext ?_)
  match a with
  | ⟨0, _⟩ => show 0 + 1 * r.val = r.val; omega
  | ⟨1, _⟩ => show 1024 + 1 * k.val = 1024 + k.val; omega
theorem ld_mod2 (x : Vec Ideal S1x1x6144 .f32) (k : Fin 1024) :
    View.ld x r0_6 (ix3 0 0 k) = x (ix3 0 0 ⟨2048 + k.val, by omega⟩) := by
  refine congrArg x (funext fun a => Fin.ext ?_)
  match a with
  | ⟨0, _⟩ => rfl
  | ⟨1, _⟩ => rfl
  | ⟨2, _⟩ => show 2048 + 1 * k.val = 2048 + k.val; omega
theorem ld_mod4 (x : Vec Ideal S1x1x6144 .f32) (k : Fin 1024) :
    View.ld x r0_8 (ix3 0 0 k) = x (ix3 0 0 ⟨4096 + k.val, by omega⟩) := by
  refine congrArg x (funext fun a => Fin.ext ?_)
  match a with
  | ⟨0, _⟩ => rfl
  | ⟨1, _⟩ => rfl
  | ⟨2, _⟩ => show 4096 + 1 * k.val = 4096 + k.val; omega
theorem ld_mod3 (x : Vec Ideal S1x1x6144 .f32) (k : Fin 1024) :
    View.ld x r0_9 (ix3 0 0 k) = x (ix3 0 0 ⟨3072 + k.val, by omega⟩) := by
  refine congrArg x (funext fun a => Fin.ext ?_)
  match a with
  | ⟨0, _⟩ => rfl
  | ⟨1, _⟩ => rfl
  | ⟨2, _⟩ => show 3072 + 1 * k.val = 3072 + k.val; omega
theorem ld_mod5 (x : Vec Ideal S1x1x6144 .f32) (k : Fin 1024) :
    View.ld x r0_12 (ix3 0 0 k) = x (ix3 0 0 ⟨5120 + k.val, by omega⟩) := by
  refine congrArg x (funext fun a => Fin.ext ?_)
  match a with
  | ⟨0, _⟩ => rfl
  | ⟨1, _⟩ => rfl
  | ⟨2, _⟩ => show 5120 + 1 * k.val = 5120 + k.val; omega

/-- What a point writes, at an element, from its blocks. -/
theorem out_apply (x0 : Vec Ideal S512x1024 .f32) (x1 : Vec Ideal S1x1x6144 .f32) (x2 : Vec Ideal S512x1024 .bf16) (x3 : Vec Ideal S512x256 .bf16)
    (x4 : Vec Ideal S512x2048 .bf16) (x5 : Vec Ideal S1024x1024 .bf16) (x6 : Vec Ideal S256x1024 .bf16) (x7 : Vec Ideal S1024x1024 .bf16)
    (x8 : Vec Ideal S1x1024 .f32) (x9 : Vec Ideal S1024x4096 .bf16) (x10 : Vec Ideal S4096x1024 .bf16) (mid : Fin 1024 → EReal) (r : Fin 512)
    (hm : ∀ j, X1 (fun j => x0 (ix2 r j)) (fun j => x1 (ix3 0 0 ⟨2048 + j.val, by omega⟩)) (fun l => x2 (ix2 r l)) (fun l => x3 (ix2 r l))
        (fun k => x4 (ix2 r ⟨k.val, by omega⟩)) (fun k => x4 (ix2 r ⟨1024 + k.val, by omega⟩))
        (fun l k => x5 (ix2 l k)) (fun l k => x6 (ix2 l k)) (fun k j => x7 (ix2 k j)) j = mid j) (j : Fin 1024) :
    out0_11 (F := Ideal) x0 x1 x2 x3 x4 x5 x6 x7 x8 x9 x10 (ix2 r j)
      = FF mid (HN mid (RS mid) (fun k => x8 (ix2 0 k)) (fun k => x1 (ix3 0 0 ⟨4096 + k.val, by omega⟩)) (fun k => x1 (ix3 0 0 ⟨3072 + k.val, by omega⟩)))
          (fun k => x1 (ix3 0 0 ⟨5120 + k.val, by omega⟩)) (fun k f => x9 (ix2 k f)) (fun f j => x10 (ix2 f j)) j := by
  unfold out0_11
  rw [View.canon_cons_unit_lit _ _ _ (by decide)]
  have l0 : View.ld x0 r0_0 = x0 := View.ld_unit_lit _ _ (by decide)
  have l2 : View.ld x2 r0_0 = x2 := View.ld_unit_lit _ _ (by decide)
  have l3 : View.ld x3 r0_2 = x3 := View.ld_unit_lit _ _ (by decide)
  have l5 : View.ld x5 r0_1 = x5 := View.ld_unit_lit _ _ (by decide)
  have l6 : View.ld x6 r0_3 = x6 := View.ld_unit_lit _ _ (by decide)
  have l7 : View.ld x7 r0_1 = x7 := View.ld_unit_lit _ _ (by decide)
  have l8 : View.ld x8 r0_7 = x8 := View.ld_unit_lit _ _ (by decide)
  have l9 : View.ld x9 r0_10 = x9 := View.ld_unit_lit _ _ (by decide)
  have l10 : View.ld x10 r0_11 = x10 := View.ld_unit_lit _ _ (by decide)
  rw [l0, l2, l3, l5, l6, l7, l8, l9, l10]
  have h2 : ∀ j, k0_pay2 (F := Ideal) x2 x5 x3 x6 (View.ld x4 r0_4) (View.ld x4 r0_5) x7 x0 (View.ld x1 r0_6) (ix2 r j) = mid j := fun j => by
    rw [pay2_apply, funext fun k => ld_gate_a x4 r k, funext fun k => ld_gate_b x4 r k, funext fun k => ld_mod2 x1 k]
    exact hm j
  rw [pay1_apply _ _ _ _ _ _ _ _ mid (RS mid) r h2 (fun j => by rw [pay3_apply, h2, funext h2]),
    funext fun k => ld_mod3 x1 k, funext fun k => ld_mod4 x1 k, funext fun k => ld_mod5 x1 k]

variable (m : (ℓ : Loc nD τ sig) → Buf (Elt Ideal) ℓ)

/-- The blocks that a point is given. -/
abbrev B0 (c : Dev nD) (t : Fin cfg0.N) : Vec Ideal S512x1024 .f32 := iblk m c 0 t
abbrev B1 (c : Dev nD) (t : Fin cfg0.N) : Vec Ideal S1x1x6144 .f32 := iblk m c 1 t
abbrev B2 (c : Dev nD) (t : Fin cfg0.N) : Vec Ideal S512x1024 .bf16 := iblk m c 2 t
abbrev B3 (c : Dev nD) (t : Fin cfg0.N) : Vec Ideal S512x256 .bf16 := iblk m c 3 t
abbrev B4 (c : Dev nD) (t : Fin cfg0.N) : Vec Ideal S512x2048 .bf16 := iblk m c 4 t
abbrev B5 (c : Dev nD) (t : Fin cfg0.N) : Vec Ideal S1024x1024 .bf16 := iblk m c 5 t
abbrev B6 (c : Dev nD) (t : Fin cfg0.N) : Vec Ideal S256x1024 .bf16 := iblk m c 6 t
abbrev B7 (c : Dev nD) (t : Fin cfg0.N) : Vec Ideal S1024x1024 .bf16 := iblk m c 7 t
abbrev B8 (c : Dev nD) (t : Fin cfg0.N) : Vec Ideal S1x1024 .f32 := iblk m c 8 t
abbrev B9 (c : Dev nD) (t : Fin cfg0.N) : Vec Ideal S1024x4096 .bf16 := iblk m c 9 t
abbrev B10 (c : Dev nD) (t : Fin cfg0.N) : Vec Ideal S4096x1024 .bf16 := iblk m c 10 t

/-- Point `t` works on the tokens from `512 t` on, of batch entry `t / 8`, with the whole weights. -/
theorem idx0 : ∀ t : Fin cfg0.N, ((cfg0.win 0).index t 0 = t.val ∧ (cfg0.win 0).index t 1 = 0) := by decide +kernel
theorem idx2 : ∀ t : Fin cfg0.N, ((cfg0.win 2).index t 0 = t.val ∧ (cfg0.win 2).index t 1 = 0) := by decide +kernel
theorem idx3 : ∀ t : Fin cfg0.N, ((cfg0.win 3).index t 0 = t.val ∧ (cfg0.win 3).index t 1 = 0) := by decide +kernel
theorem idx4 : ∀ t : Fin cfg0.N, ((cfg0.win 4).index t 0 = t.val ∧ (cfg0.win 4).index t 1 = 0) := by decide +kernel
theorem idx11 : ∀ t : Fin cfg0.N, ((cfg0.win 11).index t 0 = t.val ∧ (cfg0.win 11).index t 1 = 0) := by decide +kernel
theorem idx1 : ∀ t : Fin cfg0.N, ((cfg0.win 1).index t 0 = t.val / 8 ∧ (cfg0.win 1).index t 1 = 0 ∧ (cfg0.win 1).index t 2 = 0) := by decide +kernel
theorem idx5 : ∀ t : Fin cfg0.N, ((cfg0.win 5).index t 0 = 0 ∧ (cfg0.win 5).index t 1 = 0) := by decide +kernel
theorem idx6 : ∀ t : Fin cfg0.N, ((cfg0.win 6).index t 0 = 0 ∧ (cfg0.win 6).index t 1 = 0) := by decide +kernel
theorem idx7 : ∀ t : Fin cfg0.N, ((cfg0.win 7).index t 0 = 0 ∧ (cfg0.win 7).index t 1 = 0) := by decide +kernel
theorem idx8 : ∀ t : Fin cfg0.N, ((cfg0.win 8).index t 0 = 0 ∧ (cfg0.win 8).index t 1 = 0) := by decide +kernel
theorem idx9 : ∀ t : Fin cfg0.N, ((cfg0.win 9).index t 0 = 0 ∧ (cfg0.win 9).index t 1 = 0) := by decide +kernel
theorem idx10 : ∀ t : Fin cfg0.N, ((cfg0.win 10).index t 0 = 0 ∧ (cfg0.win 10).index t 1 = 0) := by decide +kernel
theorem covers11 : (cfg0.win 11).Covers := by decide +kernel

theorem B0_apply (c : Dev nD) (t : Fin cfg0.N) (y : S512x1024.Idx) (i : S32768x1024.Idx) (h0 : (i 0).val = t.val * 512 + (y 0).val)
    (h1 : (i 1).val = (y 1).val) : B0 m c t y = m ((c : Thread nD τ).loc main_arg0) i := by
  obtain ⟨e0, e1⟩ := idx0 t
  blk_ext [B0, iblk, V, e0, e1]
theorem B2_apply (c : Dev nD) (t : Fin cfg0.N) (y : S512x1024.Idx) (i : S32768x1024.Idx) (h0 : (i 0).val = t.val * 512 + (y 0).val)
    (h1 : (i 1).val = (y 1).val) : B2 m c t y = m ((c : Thread nD τ).loc main_arg2) i := by
  obtain ⟨e0, e1⟩ := idx2 t
  blk_ext [B2, iblk, V, e0, e1]
theorem B3_apply (c : Dev nD) (t : Fin cfg0.N) (y : S512x256.Idx) (i : S32768x256.Idx) (h0 : (i 0).val = t.val * 512 + (y 0).val)
    (h1 : (i 1).val = (y 1).val) : B3 m c t y = m ((c : Thread nD τ).loc main_arg3) i := by
  obtain ⟨e0, e1⟩ := idx3 t
  blk_ext [B3, iblk, V, e0, e1]
theorem B4_apply (c : Dev nD) (t : Fin cfg0.N) (y : S512x2048.Idx) (i : S32768x2048.Idx) (h0 : (i 0).val = t.val * 512 + (y 0).val)
    (h1 : (i 1).val = (y 1).val) : B4 m c t y = m ((c : Thread nD τ).loc main_arg4) i := by
  obtain ⟨e0, e1⟩ := idx4 t
  blk_ext [B4, iblk, V, e0, e1]
theorem B1_apply (c : Dev nD) (t : Fin cfg0.N) (y : S1x1x6144.Idx) (i : S8x1x6144.Idx) (h0 : (i 0).val = t.val / 8)
    (h2 : (i 2).val = (y 2).val) : B1 m c t y = m ((c : Thread nD τ).loc main_arg1) i := by
  obtain ⟨e0, e1, e2⟩ := idx1 t
  have hy0 : (y 0).val < 1 := (y 0).isLt
  have hy1 : (y 1).val < 1 := (y 1).isLt
  have hi1 : (i 1).val < 1 := (i 1).isLt
  blk_ext [B1, iblk, V, e0, e1, e2]
theorem B5_eq (c : Dev nD) (t : Fin cfg0.N) : B5 m c t = m ((c : Thread nD τ).loc main_arg5) := by
  funext y
  obtain ⟨e0, e1⟩ := idx5 t
  blk_ext [B5, iblk, V, e0, e1]
theorem B6_eq (c : Dev nD) (t : Fin cfg0.N) : B6 m c t = m ((c : Thread nD τ).loc main_arg6) := by
  funext y
  obtain ⟨e0, e1⟩ := idx6 t
  blk_ext [B6, iblk, V, e0, e1]
theorem B7_eq (c : Dev nD) (t : Fin cfg0.N) : B7 m c t = m ((c : Thread nD τ).loc main_arg7) := by
  funext y
  obtain ⟨e0, e1⟩ := idx7 t
  blk_ext [B7, iblk, V, e0, e1]
theorem B8_eq (c : Dev nD) (t : Fin cfg0.N) : B8 m c t = m ((c : Thread nD τ).loc main_arg8) := by
  funext y
  obtain ⟨e0, e1⟩ := idx8 t
  blk_ext [B8, iblk, V, e0, e1]
theorem B9_eq (c : Dev nD) (t : Fin cfg0.N) : B9 m c t = m ((c : Thread nD τ).loc main_arg9) := by
  funext y
  obtain ⟨e0, e1⟩ := idx9 t
  blk_ext [B9, iblk, V, e0, e1]
theorem B10_eq (c : Dev nD) (t : Fin cfg0.N) : B10 m c t = m ((c : Thread nD τ).loc main_arg10) := by
  funext y
  obtain ⟨e0, e1⟩ := idx10 t
  blk_ext [B10, iblk, V, e0, e1]

/-- A token's result in the block of point `t`. -/
theorem block_apply (c : Dev nD) (t : Fin cfg0.N) (r : Fin 512) (j : Fin 1024) (n : Fin 32768) (hn : n.val = t.val * 512 + r.val) :
    out0_11 (F := Ideal) (B0 m c t) (B1 m c t) (B2 m c t) (B3 m c t) (B4 m c t) (B5 m c t) (B6 m c t) (B7 m c t) (B8 m c t) (B9 m c t)
        (B10 m c t) (ix2 r j)
      = TAIL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n j := by
  have hN : t.val < 64 := t.isLt
  have hb : n.val / 4096 = t.val / 8 := by omega
  have e1 : ∀ k : Fin 6144, B1 m c t (ix3 0 0 k) = m ((c : Thread nD τ).loc main_arg1) (ix3 ⟨n.val / 4096, by omega⟩ 0 k) := fun k =>
    B1_apply m c t (ix3 0 0 k) (ix3 ⟨n.val / 4096, by omega⟩ 0 k) hb rfl
  rw [out_apply (B0 m c t) (B1 m c t) (B2 m c t) (B3 m c t) (B4 m c t) (B5 m c t) (B6 m c t) (B7 m c t) (B8 m c t) (B9 m c t) (B10 m c t)
    (MID (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n) r (fun j => ?_) j]
  · simp only [e1, B8_eq, B9_eq, B10_eq]
    rfl
  · have e0 : ∀ k, B0 m c t (ix2 r k) = m ((c : Thread nD τ).loc main_arg0) (ix2 n k) := fun k => B0_apply m c t (ix2 r k) (ix2 n k) hn rfl
    have e2 : ∀ k, B2 m c t (ix2 r k) = m ((c : Thread nD τ).loc main_arg2) (ix2 n k) := fun k => B2_apply m c t (ix2 r k) (ix2 n k) hn rfl
    have e3 : ∀ k, B3 m c t (ix2 r k) = m ((c : Thread nD τ).loc main_arg3) (ix2 n k) := fun k => B3_apply m c t (ix2 r k) (ix2 n k) hn rfl
    have e4 : ∀ k, B4 m c t (ix2 r k) = m ((c : Thread nD τ).loc main_arg4) (ix2 n k) := fun k => B4_apply m c t (ix2 r k) (ix2 n k) hn rfl
    simp only [e0, e1, e2, e3, e4, B5_eq, B6_eq, B7_eq]
    rfl

/-- The launch's array is the tail of every token. -/
theorem launch_eq (c : Dev nD) (G : S32768x1024.Idx → EReal)
    (hG : ∀ n j, G (ix2 n j) = TAIL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) n j) :
    (dats m 0 c).arrAt 11 cfg0.N = G := by
  refine (dats m 0 c).arrAt_eq_of_covers 11 G covers11 (fun t hf y => ?_)
  have hN : t.val < 64 := t.isLt
  obtain ⟨e0, e1⟩ := idx11 t
  have hy0 : (y 0).val < 512 := (y 0).isLt
  have hy1 : (y 1).val < 1024 := (y 1).isLt
  have ey : y = ix2 ⟨(y 0).val, hy0⟩ ⟨(y 1).val, hy1⟩ := funext fun a => match a with | ⟨0, _⟩ => rfl | ⟨1, _⟩ => rfl
  have ei : ((cfg0.win 11).blk t).view.emb y = (ix2 ⟨t.val * 512 + (y 0).val, by omega⟩ ⟨(y 1).val, hy1⟩ : S32768x1024.Idx) := by
    refine funext fun a => Fin.ext ?_
    match a with
    | ⟨0, _⟩ => blk_simp [e0]; simp
    | ⟨1, _⟩ => blk_simp [e1]; simp
  have key := block_apply m c t ⟨(y 0).val, hy0⟩ ⟨(y 1).val, hy1⟩ ⟨t.val * 512 + (y 0).val, by omega⟩ rfl
  have k2 := congrArg (out0_11 (F := Ideal) (B0 m c t) (B1 m c t) (B2 m c t) (B3 m c t) (B4 m c t) (B5 m c t) (B6 m c t) (B7 m c t) (B8 m c t)
    (B9 m c t) (B10 m c t)) ey
  have k3 := k2.trans (key.trans ((hG _ _).symm.trans (congrArg G ei.symm)))
  clear key k2 ei ey hG
  generalize G (((cfg0.win 11).blk t).view.emb y) = z at k3 ⊢
  rw [after0_11]
  refine Eq.trans ?_ k3
  clear k3
  generalize out0_11 (F := Ideal) _ _ _ _ _ _ _ _ _ _ _ = o
  rfl

end Cert.Post

end
-- ==== Proof.Tail.Ref.lean ====
/- The reference's tail at an element. -/
module

public import proofs.«01_k».proof.Proof.Tail.Grid
public import proofs.«01_k».proof.Proof.Gen.TailReferenceIdeal.Read

@[expose] public section

set_option maxRecDepth 16384

noncomputable section

namespace Cert.Post

open Cert.TailReferenceIdeal Cert.TailReferenceIdeal.Gen Cert.TailReferenceIdeal.Read Idealize.ShloMosaic

/-- Column `j` of token `n`, in its batch entry. -/
abbrev P (n : Fin 32768) (j : Fin 1024) : S8x4096x1024.Idx := ix3 ⟨n.val / 4096, by omega⟩ ⟨n.val % 4096, by omega⟩ j

variable (x0 : S32768x1024.Idx → EReal) (x1 : S8x1x6144.Idx → EReal) (x2 : S32768x1024.Idx → EReal) (x3 : S32768x256.Idx → EReal)
  (x4 : S32768x2048.Idx → EReal) (x5 : S1024x1024.Idx → EReal) (x6 : S256x1024.Idx → EReal) (x7 : S1024x1024.Idx → EReal)
  (x8 : S1x1024.Idx → EReal) (x9 : S1024x4096.Idx → EReal) (x10 : S4096x1024.Idx → EReal)

theorem one32 : Ideal.ofBits .f32 0x3F800000#32 = 1 := by
  have e1 : (1065353216 >>> 23 : ℕ) % 256 = 127 := by decide
  have e2 : ¬BitVec.extractLsb' 31 1 1065353216#32 = 1#1 := by decide
  norm_num [Ideal.ofBits, Ideal.ieee, e1, e2]
theorem zero32 : Ideal.ofBits .f32 0x00000000#32 = 0 := by simp [Ideal.ofBits, Ideal.ieee]

theorem ref_x (n : Fin 32768) (j : Fin 1024) : val_main_v0 (F := Ideal) x0 (P n j) = x0 (ix2 n j) := by
  rw [val_main_v0_apply]
  refine congrArg x0 (funext fun a => Fin.ext ?_)
  match a with
  | ⟨0, _⟩ => show ((n.val / 4096 * 4096 + n.val % 4096) * 1024 + j.val) / 1024 = n.val; omega
  | ⟨1, _⟩ => show ((n.val / 4096 * 4096 + n.val % 4096) * 1024 + j.val) % 1024 = j.val; omega
theorem ref_oa (n : Fin 32768) (j : Fin 1024) : val_main_v8 (F := Ideal) x2 (P n j) = x2 (ix2 n j) := by
  rw [val_main_v8_apply]
  refine congrArg x2 (funext fun a => Fin.ext ?_)
  match a with
  | ⟨0, _⟩ => show ((n.val / 4096 * 4096 + n.val % 4096) * 1024 + j.val) / 1024 = n.val; omega
  | ⟨1, _⟩ => show ((n.val / 4096 * 4096 + n.val % 4096) * 1024 + j.val) % 1024 = j.val; omega
theorem ref_ob (n : Fin 32768) (j : Fin 256) :
    val_main_v10 (F := Ideal) x3 (ix3 ⟨n.val / 4096, by omega⟩ ⟨n.val % 4096, by omega⟩ j) = x3 (ix2 n j) := by
  rw [val_main_v10_apply]
  refine congrArg x3 (funext fun a => Fin.ext ?_)
  match a with
  | ⟨0, _⟩ => show ((n.val / 4096 * 4096 + n.val % 4096) * 256 + j.val) / 256 = n.val; omega
  | ⟨1, _⟩ => show ((n.val / 4096 * 4096 + n.val % 4096) * 256 + j.val) % 256 = j.val; omega
theorem ref_ga (n : Fin 32768) (k : Fin 1024) : val_main_v13 (F := Ideal) x4 (P n k) = x4 (ix2 n ⟨k.val, by omega⟩) := by
  rw [val_main_v13_apply, val_main_v12_apply]
  refine congrArg x4 (funext fun a => Fin.ext ?_)
  match a with
  | ⟨0, _⟩ => show ((n.val / 4096 * 4096 + n.val % 4096) * 2048 + k.val) / 2048 = n.val; omega
  | ⟨1, _⟩ => show ((n.val / 4096 * 4096 + n.val % 4096) * 2048 + k.val) % 2048 = k.val; omega
theorem ref_gb (n : Fin 32768) (k : Fin 1024) : val_main_v14 (F := Ideal) x4 (P n k) = x4 (ix2 n ⟨1024 + k.val, by omega⟩) := by
  rw [val_main_v14_apply, val_main_v12_apply]
  refine congrArg x4 (funext fun a => Fin.ext ?_)
  match a with
  | ⟨0, _⟩ => show ((n.val / 4096 * 4096 + n.val % 4096) * 2048 + (1024 + k.val)) / 2048 = n.val; omega
  | ⟨1, _⟩ => show ((n.val / 4096 * 4096 + n.val % 4096) * 2048 + (1024 + k.val)) % 2048 = 1024 + k.val; omega
theorem ref_mod2 (n : Fin 32768) (k : Fin 1024) :
    val_main_v26 (F := Ideal) x1 (P n k) = x1 (ix3 ⟨n.val / 4096, by omega⟩ 0 ⟨2048 + k.val, by omega⟩) := by
  rw [val_main_v26_apply, val_main_v3_apply]
  refine congrArg x1 (funext fun a => Fin.ext ?_)
  match a with
  | ⟨0, _⟩ => rfl
  | ⟨1, _⟩ => rfl
  | ⟨2, _⟩ => rfl
theorem ref_mod3 (n : Fin 32768) (k : Fin 1024) :
    val_main_v47 (F := Ideal) x1 (P n k) = x1 (ix3 ⟨n.val / 4096, by omega⟩ 0 ⟨3072 + k.val, by omega⟩) := by
  rw [val_main_v47_apply, val_main_v4_apply]
  refine congrArg x1 (funext fun a => Fin.ext ?_)
  match a with
  | ⟨0, _⟩ => rfl
  | ⟨1, _⟩ => rfl
  | ⟨2, _⟩ => rfl
theorem ref_mod4 (n : Fin 32768) (k : Fin 1024) :
    val_main_v45 (F := Ideal) x1 (P n k) = (1 + x1 (ix3 ⟨n.val / 4096, by omega⟩ 0 ⟨4096 + k.val, by omega⟩) : EReal) := by
  rw [val_main_v45_apply, val_main_v44_apply, val_main_v43_apply, val_main_cst_2_apply, val_main_v5_apply]
  show (Ideal.ofBits .f32 0x3F800000#32 : EReal) + x1 _ = _
  rw [one32]
  refine congrArg (fun i => 1 + x1 i) (funext fun a => Fin.ext ?_)
  match a with
  | ⟨0, _⟩ => rfl
  | ⟨1, _⟩ => rfl
  | ⟨2, _⟩ => rfl
theorem ref_mod5 (n : Fin 32768) (k : Fin 1024) :
    val_main_v53 (F := Ideal) x1 (P n k) = x1 (ix3 ⟨n.val / 4096, by omega⟩ 0 ⟨5120 + k.val, by omega⟩) := by
  rw [val_main_v53_apply, val_main_v6_apply]
  refine congrArg x1 (funext fun a => Fin.ext ?_)
  match a with
  | ⟨0, _⟩ => rfl
  | ⟨1, _⟩ => rfl
  | ⟨2, _⟩ => rfl
theorem ref_gain (n : Fin 32768) (k : Fin 1024) : val_main_v41 (F := Ideal) x8 (P n k) = x8 (ix2 0 k) := by
  rw [val_main_v41_apply, val_main_v40_apply, val_main_v29_apply]
  refine congrArg x8 (funext fun a => Fin.ext ?_)
  match a with
  | ⟨0, _⟩ => rfl
  | ⟨1, _⟩ => show k.val % 1024 = k.val; omega

/-- The gated merge of the two branches. -/
theorem ref_merge (n : Fin 32768) (k : Fin 1024) :
    val_main_v24 (F := Ideal) x2 x3 x4 x5 x6 (P n k)
      = (x4 (ix2 n ⟨k.val, by omega⟩) * (∑ l, x2 (ix2 n l) * x5 (ix2 l k)) + x4 (ix2 n ⟨1024 + k.val, by omega⟩) * (∑ l, x3 (ix2 n l) * x6 (ix2 l k)) : EReal) := by
  rw [val_main_v24_apply, val_main_v21_apply, val_main_v23_apply, ref_ga, ref_gb, val_main_v20_apply, val_main_v22_apply]
  refine congrArg₂ (fun a b : EReal => x4 _ * a + x4 _ * b) (Finset.sum_congr rfl fun l _ => ?_) (Finset.sum_congr rfl fun l _ => ?_)
  · refine congrArg₂ (fun a b : EReal => a * b) (Eq.trans (congrArg _ ?_) (ref_oa x2 n l)) (congrArg x5 ?_)
    · exact funext fun a => match a with | ⟨0, _⟩ => rfl | ⟨1, _⟩ => rfl | ⟨2, _⟩ => rfl
    · exact funext fun a => match a with | ⟨0, _⟩ => rfl | ⟨1, _⟩ => rfl
  · refine congrArg₂ (fun a b : EReal => a * b) (Eq.trans (congrArg _ ?_) (ref_ob x3 n l)) (congrArg x6 ?_)
    · exact funext fun a => match a with | ⟨0, _⟩ => rfl | ⟨1, _⟩ => rfl | ⟨2, _⟩ => rfl
    · exact funext fun a => match a with | ⟨0, _⟩ => rfl | ⟨1, _⟩ => rfl

theorem ref_mid (n : Fin 32768) (j : Fin 1024) :
    val_main_v28 (F := Ideal) x0 x1 x2 x3 x4 x5 x6 x7 (P n j) = MID x0 x1 x2 x3 x4 x5 x6 x7 n j := by
  rw [val_main_v28_apply, val_main_v27_apply, ref_x, ref_mod2, val_main_v25_apply]
  refine congrArg (fun a : EReal => x0 _ + x1 _ * a) (Finset.sum_congr rfl fun k _ => ?_)
  refine congrArg₂ (fun a b : EReal => a * b) (Eq.trans (congrArg _ ?_) (ref_merge x2 x3 x4 x5 x6 n k)) (congrArg x7 ?_)
  · exact funext fun a => match a with | ⟨0, _⟩ => rfl | ⟨1, _⟩ => rfl | ⟨2, _⟩ => rfl
  · exact funext fun a => match a with | ⟨0, _⟩ => rfl | ⟨1, _⟩ => rfl

theorem ref_root (n : Fin 32768) (j : Fin 1024) :
    val_main_v38 (F := Ideal) x0 x1 x2 x3 x4 x5 x6 x7 (P n j) = RS (MID x0 x1 x2 x3 x4 x5 x6 x7 n) := by
  rw [val_main_v38_apply, val_main_v37_apply, val_main_v36_apply, val_main_v34_apply, val_main_v32_apply, val_main_v33_apply, val_main_v35_apply,
    val_main_cst_0_apply, val_main_cst_1_apply, val_main_v31_apply, val_main_cst_apply]
  refine congrArg (fun a : EReal => Ideal.rsqrt (Ideal.div a (Ideal.ofBits .f32 0x44800000#32) + Ideal.ofBits .f32 0x358637BD#32)) ?_
  show (Ideal.ofBits .f32 0x00000000#32 : EReal) + _ = _
  rw [zero32, zero_add]
  refine Finset.sum_congr rfl fun k _ => ?_
  have hi : idx_main_v31 (idx_main_v32 (idx_main_v38 (P n j))) k = P n k :=
    funext fun a => match a with | ⟨0, _⟩ => rfl | ⟨1, _⟩ => rfl | ⟨2, _⟩ => rfl
  rw [val_main_v30_apply, hi, ref_mid]
  rfl

theorem ref_norm (n : Fin 32768) (k : Fin 1024) :
    val_main_v48 (F := Ideal) x0 x1 x2 x3 x4 x5 x6 x7 x8 (P n k) = MHN (MID x0 x1 x2 x3 x4 x5 x6 x7 n) x1 x8 n k := by
  rw [val_main_v48_apply, val_main_v46_apply, val_main_v42_apply, val_main_v39_apply, ref_mid, ref_root, ref_gain, ref_mod4, ref_mod3]
  rfl

theorem ref_unit (n : Fin 32768) (f : Fin 4096) :
    val_main_v50 (F := Ideal) x0 x1 x2 x3 x4 x5 x6 x7 x8 x9 (ix3 ⟨n.val / 4096, by omega⟩ ⟨n.val % 4096, by omega⟩ f)
      = UP (MHN (MID x0 x1 x2 x3 x4 x5 x6 x7 n) x1 x8 n) (fun k f => x9 (ix2 k f)) f := by
  rw [val_main_v50_apply, val_main_call0_v0_apply, val_main_call0_cst_apply, val_main_v49_apply]
  show max _ (Ideal.ofBits .f32 0x00000000#32 : EReal) = _
  rw [zero32]
  refine congrArg (fun a : EReal => max a 0) (Finset.sum_congr rfl fun k _ => ?_)
  refine congrArg₂ (fun a b : EReal => a * b) (Eq.trans (congrArg _ ?_) (ref_norm x0 x1 x2 x3 x4 x5 x6 x7 x8 n k)) (congrArg x9 ?_)
  · exact funext fun a => match a with | ⟨0, _⟩ => rfl | ⟨1, _⟩ => rfl | ⟨2, _⟩ => rfl
  · exact funext fun a => match a with | ⟨0, _⟩ => rfl | ⟨1, _⟩ => rfl

/-- The reference's result at an element. -/
theorem ref_tail (n : Fin 32768) (j : Fin 1024) :
    val_main_v56 (F := Ideal) x0 x1 x2 x3 x4 x5 x6 x7 x8 x9 x10 (ix2 n j) = TAIL x0 x1 x2 x3 x4 x5 x6 x7 x8 x9 x10 n j := by
  have ei : idx_main_v56 (ix2 n j) = P n j := by
    refine funext fun a => Fin.ext ?_
    match a with
    | ⟨0, _⟩ => show (n.val * 1024 + j.val) / 4194304 = n.val / 4096; omega
    | ⟨1, _⟩ => show (n.val * 1024 + j.val) / 1024 % 4096 = n.val % 4096; omega
    | ⟨2, _⟩ => show (n.val * 1024 + j.val) % 1024 = j.val; omega
  have hx : ∀ f, ridx_main_v52 (P n j) f = ix2 f j := fun f => funext fun a => match a with | ⟨0, _⟩ => rfl | ⟨1, _⟩ => rfl
  have hu : ∀ f, lidx_main_v52 (P n j) f = ix3 ⟨n.val / 4096, by omega⟩ ⟨n.val % 4096, by omega⟩ f :=
    fun f => funext fun a => match a with | ⟨0, _⟩ => rfl | ⟨1, _⟩ => rfl | ⟨2, _⟩ => rfl
  rw [val_main_v56_apply, ei, val_main_v55_apply, val_main_v54_apply, ref_mid, ref_mod5, val_main_v52_apply]
  simp only [hx, hu, val_main_v51_apply, ref_unit, val_main_v19_apply]
  rfl

end Cert.Post

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.TailReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Proj.Kernel.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Proj.Value
public import proofs.«01_k».proof.Proof.Proj.Equal
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Attn.Kernel.Frame
public import proofs.«01_k».proof.Proof.Attn.KernelIdeal.Frame
public import proofs.«01_k».proof.Proof.Attn.KernelIdeal.Value
public import proofs.«01_k».proof.Proof.Attn.Equal
public import proofs.«01_k».proof.Proof.Tail.Ref
public import Idealize.ShloMosaic.Adequacy
public import Idealize.ShloMosaic.Init

@[expose] public section

noncomputable section

namespace Cert.Proof

open Idealize.ShloMosaic Idealize.SL.Sem

/-- The reference's run leaves its arguments and, declaring no semaphore, every counter at zero. -/
theorem frame_ref : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Both programs leave the reference's result of the kernel's arguments. -/
theorem attention : Cert.algebraic_KernelIdeal_ReferenceIdeal_pre_finite_inputs := by
  intro m g m' g' hpre hagree
  refine ⟨fun c => Cert.ReferenceIdeal.Read.val_main_v66 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.Attn.launch_ref m hpre c), (h c).2⟩)
      (Cert.KernelIdeal.Value.run_blocks m g)
  · refine (θ_run Cert.ReferenceIdeal.defs _ _).mono (fun _ h c => ⟨(h c).1.trans ?_, (h c).2⟩) (Cert.ReferenceIdeal.Value.run (F := Ideal) m' g')
    obtain ⟨h0, h1, h2, h3, h4⟩ := hagree c
    rw [Cert.ReferenceIdeal.Read.val_main_v66_eq, h0, h1, h2, h3, h4]

/-- The tail's reference leaves its arguments and every counter at zero. -/
theorem frame_tail_ref : Cert.quiescent_TailReferenceIdeal := fun m g _ =>
  (θ_run Cert.TailReferenceIdeal.defs _ _).mono
    (fun r h => ⟨fun c => (h c).2, Idealize.ShloMosaic.sem_eq_zero_of_no_sems (by decide) r.2⟩)
    (Cert.TailReferenceIdeal.Value.run (F := Ideal) m g)

/-- The tail and its reference leave one result. -/
theorem tail : Cert.algebraic_TailIdeal_TailReferenceIdeal := by
  intro m g m' g' _ hagree
  refine ⟨fun c => Cert.TailReferenceIdeal.Read.val_main_v56 (F := Ideal) (m ((c.tc : Thread Cert.TailIdeal.nD Cert.TailIdeal.τ).loc Cert.TailIdeal.main_arg0))
      (m ((c.tc : Thread Cert.TailIdeal.nD Cert.TailIdeal.τ).loc Cert.TailIdeal.main_arg1))
      (m ((c.tc : Thread Cert.TailIdeal.nD Cert.TailIdeal.τ).loc Cert.TailIdeal.main_arg2))
      (m ((c.tc : Thread Cert.TailIdeal.nD Cert.TailIdeal.τ).loc Cert.TailIdeal.main_arg3))
      (m ((c.tc : Thread Cert.TailIdeal.nD Cert.TailIdeal.τ).loc Cert.TailIdeal.main_arg4))
      (m ((c.tc : Thread Cert.TailIdeal.nD Cert.TailIdeal.τ).loc Cert.TailIdeal.main_arg5))
      (m ((c.tc : Thread Cert.TailIdeal.nD Cert.TailIdeal.τ).loc Cert.TailIdeal.main_arg6))
      (m ((c.tc : Thread Cert.TailIdeal.nD Cert.TailIdeal.τ).loc Cert.TailIdeal.main_arg7))
      (m ((c.tc : Thread Cert.TailIdeal.nD Cert.TailIdeal.τ).loc Cert.TailIdeal.main_arg8))
      (m ((c.tc : Thread Cert.TailIdeal.nD Cert.TailIdeal.τ).loc Cert.TailIdeal.main_arg9))
      (m ((c.tc : Thread Cert.TailIdeal.nD Cert.TailIdeal.τ).loc Cert.TailIdeal.main_arg10)), ?_, ?_⟩
  · exact (θ_run Cert.TailIdeal.defs _ _).mono
      (fun _ h c => ⟨(h c).1.trans (Cert.Post.launch_eq m c _ fun n j => Cert.Post.ref_tail _ _ _ _ _ _ _ _ _ _ _ n j), (h c).2⟩)
      (Cert.TailIdeal.Value.run_blocks m g)
  · refine (θ_run Cert.TailReferenceIdeal.defs _ _).mono (fun _ h c => ⟨(h c).1.trans ?_, (h c).2⟩)
      (Cert.TailReferenceIdeal.Value.run (F := Ideal) m' g')
    obtain ⟨h0, h1, h2, h3, h4, h5, h6, h7, h8, h9, h10⟩ := hagree c
    rw [Cert.TailReferenceIdeal.Read.val_main_v56_eq, h0, h1, h2, h3, h4, h5, h6, h7, h8, h9, h10]

/-- The input projection's reference leaves its arguments and every counter at zero. -/
theorem frame_proj_ref : Cert.quiescent_ProjReferenceIdeal := fun m g _ =>
  (θ_run Cert.ProjReferenceIdeal.defs _ _).mono
    (fun r h => ⟨fun c => (h c).2.2.2.2.2.2.2.2.2.2.2.2.2, Idealize.ShloMosaic.sem_eq_zero_of_no_sems (by decide) r.2⟩)
    (Cert.ProjReferenceIdeal.Value.run (F := Ideal) m g)

open Cert.Inp in
set_option maxHeartbeats 4000000 in
/-- The input projection and its reference leave the same thirteen results. -/
theorem projection : Cert.algebraic_ProjIdeal_ProjReferenceIdeal := by
  intro m g m' g' _ hagree
  refine ⟨fun c => Cert.ProjReferenceIdeal.Read.val_main_v221 (F := Ideal) (A0 m c) (A1 m c) (A2 m c) (A3 m c) (A4 m c) (A5 m c) (A6 m c),
    fun c => Cert.ProjReferenceIdeal.Read.val_main_v222 (F := Ideal) (A0 m c) (A1 m c) (A2 m c) (A3 m c) (A4 m c) (A5 m c) (A6 m c),
    fun c => Cert.ProjReferenceIdeal.Read.val_main_v223 (F := Ideal) (A0 m c) (A1 m c) (A2 m c) (A3 m c),
    fun c => Cert.ProjReferenceIdeal.Read.val_main_v224 (F := Ideal) (A0 m c) (A1 m c) (A2 m c) (A3 m c) (A4 m c) (A5 m c) (A7 m c),
    fun c => Cert.ProjReferenceIdeal.Read.val_main_v225 (F := Ideal) (A0 m c) (A1 m c) (A2 m c) (A3 m c) (A4 m c) (A5 m c) (A7 m c),
    fun c => Cert.ProjReferenceIdeal.Read.val_main_v226 (F := Ideal) (A0 m c) (A1 m c) (A2 m c) (A3 m c) (A4 m c) (A5 m c) (A7 m c),
    fun c => Cert.ProjReferenceIdeal.Read.val_main_v227 (F := Ideal) (A0 m c) (A1 m c) (A2 m c) (A3 m c) (A4 m c) (A5 m c) (A7 m c),
    fun c => Cert.ProjReferenceIdeal.Read.val_main_v228 (F := Ideal) (A0 m c) (A1 m c) (A2 m c) (A3 m c) (A4 m c) (A5 m c) (A7 m c),
    fun c => Cert.ProjReferenceIdeal.Read.val_main_v229 (F := Ideal) (A0 m c) (A1 m c) (A2 m c) (A3 m c) (A4 m c) (A5 m c) (A7 m c),
    fun c => Cert.ProjReferenceIdeal.Read.val_main_v230 (F := Ideal) (A0 m c) (A1 m c) (A2 m c) (A3 m c),
    fun c => Cert.ProjReferenceIdeal.Read.val_main_v231 (F := Ideal) (A0 m c) (A1 m c) (A2 m c) (A3 m c),
    fun c => Cert.ProjReferenceIdeal.Read.val_main_v232 (F := Ideal) (A0 m c) (A1 m c) (A2 m c) (A3 m c),
    fun c => Cert.ProjReferenceIdeal.Read.val_main_v233 (F := Ideal) (A0 m c) (A1 m c) (A2 m c) (A3 m c) (A8 m c), ?_, ?_⟩
  · refine (θ_run Cert.ProjIdeal.defs _ _).mono (fun _ h c => ?_) (Cert.Inp.run m g)
    obtain ⟨r0, r1, r2, r3, r4, r5, r6, r7, r8, r9, r10, r11, r12, k⟩ := h c
    exact ⟨r0.trans (same_11 m c), r1.trans (same_12 m c), r2.trans (same_13 m c), r3.trans (same_14 m c), r4.trans (same_15 m c), r5.trans (same_16 m c), r6.trans (same_17 m c), r7.trans (same_18 m c), r8.trans (same_19 m c), r9.trans (same_20 m c), r10.trans (same_21 m c), r11.trans (same_22 m c), r12.trans (same_23 m c), k⟩
  · refine (θ_run Cert.ProjReferenceIdeal.defs _ _).mono (fun _ h c => ?_) (Cert.Inp.ref_run m' g')
    obtain ⟨h0, h1, h2, h3, h4, h5, h6, h7, h8⟩ := hagree c
    obtain ⟨r0, r1, r2, r3, r4, r5, r6, r7, r8, r9, r10, r11, r12, k⟩ := h c
    refine ⟨r0.trans ?_, r1.trans ?_, r2.trans ?_, r3.trans ?_, r4.trans ?_, r5.trans ?_, r6.trans ?_, r7.trans ?_, r8.trans ?_, r9.trans ?_, r10.trans ?_, r11.trans ?_, r12.trans ?_, k⟩
    all_goals simp only [h0, h1, h2, h3, h4, h5, h6, h7, h8]

theorem claim : Cert.Claim :=
  ⟨Cert.Kernel.Gen.facts, Cert.KernelIdeal.Gen.facts, Cert.ReferenceIdeal.Gen.facts, Cert.Tail.Gen.facts, Cert.TailIdeal.Gen.facts,
    Cert.TailReferenceIdeal.Gen.facts, Cert.Proj.Gen.facts, Cert.ProjIdeal.Gen.facts, Cert.ProjReferenceIdeal.Gen.facts, Cert.Pre_finite_inputs.Gen.facts,
    fun m g _ => Cert.Kernel.Gen.frame m g, fun m g _ => Cert.KernelIdeal.Gen.frame m g,
    fun m g _ => Cert.KernelIdeal.Gen.frame m g, frame_ref, fun m g _ => frame_ref m g trivial,
    fun m g _ => Cert.Tail.Gen.frame m g, fun m g _ => Cert.TailIdeal.Gen.frame m g, frame_tail_ref,
    fun m g _ => Cert.Proj.Gen.frame m g, fun m g _ => Cert.ProjIdeal.Gen.frame m g, frame_proj_ref,
    trivial, attention, trivial, tail, trivial, projection⟩

end Cert.Proof

end
